-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v3_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_v51) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x3584 : Shape := ⟨2, ![768, 3584]⟩
abbrev S3584 : Shape := ⟨1, ![3584]⟩
abbrev S3584x2x18944 : Shape := ⟨3, ![3584, 2, 18944]⟩
abbrev S2x18944 : Shape := ⟨2, ![2, 18944]⟩
abbrev S18944x3584 : Shape := ⟨2, ![18944, 3584]⟩
abbrev S1x3584 : Shape := ⟨2, ![1, 3584]⟩
abbrev S768x128 : Shape := ⟨2, ![768, 128]⟩
abbrev S24x32 : Shape := ⟨2, ![24, 32]⟩
abbrev S32x3584 : Shape := ⟨2, ![32, 3584]⟩
abbrev S32x128 : Shape := ⟨2, ![32, 128]⟩
abbrev S32 : Shape := ⟨1, ![32]⟩
abbrev S32x1 : Shape := ⟨2, ![32, 1]⟩
abbrev S128 : Shape := ⟨1, ![128]⟩
abbrev S1x128 : Shape := ⟨2, ![1, 128]⟩
abbrev S1x32 : Shape := ⟨2, ![1, 32]⟩
abbrev S2x3584x18944 : Shape := ⟨3, ![2, 3584, 18944]⟩
abbrev S768x18944 : Shape := ⟨2, ![768, 18944]⟩
abbrev S2x3584x512 : Shape := ⟨3, ![2, 3584, 512]⟩
abbrev S2x512 : Shape := ⟨2, ![2, 512]⟩
abbrev S768x512 : Shape := ⟨2, ![768, 512]⟩
abbrev S1x3584x512 : Shape := ⟨3, ![1, 3584, 512]⟩
abbrev S3584x512 : Shape := ⟨2, ![3584, 512]⟩
abbrev S768 : Shape := ⟨1, ![768]⟩
abbrev S768x1 : Shape := ⟨2, ![768, 1]⟩
abbrev S512x3584 : Shape := ⟨2, ![512, 3584]⟩
abbrev S24x32x3584 : Shape := ⟨3, ![24, 32, 3584]⟩
abbrev S24x32x18944 : Shape := ⟨3, ![24, 32, 18944]⟩

abbrev nBuf : Space → Nat
  | .hbm => 20
  | .vmem => 30
  | .smem => 0
  | _ => 0

abbrev bufTy : (tb : Table) → Fin (tcTables nBuf tb) → BufTy
  | .hbm, ⟨0, _⟩ => ⟨S768x3584, .f32⟩
  | .hbm, ⟨1, _⟩ => ⟨S3584, .f32⟩
  | .hbm, ⟨2, _⟩ => ⟨S3584x2x18944, .i8⟩
  | .hbm, ⟨3, _⟩ => ⟨S2x18944, .f32⟩
  | .hbm, ⟨4, _⟩ => ⟨S18944x3584, .i8⟩
  | .hbm, ⟨5, _⟩ => ⟨S3584, .f32⟩
  | .hbm, ⟨6, _⟩ => ⟨S1x3584, .f32⟩
  | .hbm, ⟨7, _⟩ => ⟨S768x3584, .i8⟩
  | .hbm, ⟨8, _⟩ => ⟨S768x128, .f32⟩
  | .hbm, ⟨9, _⟩ => ⟨S24x32, .f32⟩
  | .hbm, ⟨10, _⟩ => ⟨S2x3584x18944, .i8⟩
  | .hbm, ⟨11, _⟩ => ⟨S768x18944, .f32⟩
  | .hbm, ⟨12, _⟩ => ⟨S768x128, .f32⟩
  | .hbm, ⟨13, _⟩ => ⟨S24x32, .f32⟩
  | .hbm, ⟨14, _⟩ => ⟨S1x3584, .f32⟩
  | .hbm, ⟨15, _⟩ => ⟨S768x3584, .bf16⟩
  | .hbm, ⟨16, _⟩ => ⟨S768x18944, .i8⟩
  | .hbm, ⟨17, _⟩ => ⟨S24x32x3584, .bf16⟩
  | .hbm, ⟨18, _⟩ => ⟨S24x32x3584, .i8⟩
  | .hbm, ⟨19, _⟩ => ⟨S24x32x18944, .i8⟩
  | .local _ .vmem, ⟨0, _⟩ => ⟨S32x3584, .f32⟩
  | .local _ .vmem, ⟨1, _⟩ => ⟨S32x3584, .f32⟩
  | .local _ .vmem, ⟨2, _⟩ => ⟨S1x3584, .f32⟩
  | .local _ .vmem, ⟨3, _⟩ => ⟨S32x3584, .i8⟩
  | .local _ .vmem, ⟨4, _⟩ => ⟨S32x3584, .i8⟩
  | .local _ .vmem, ⟨5, _⟩ => ⟨S32x128, .f32⟩
  | .local _ .vmem, ⟨6, _⟩ => ⟨S32x128, .f32⟩
  | .local _ .vmem, ⟨7, _⟩ => ⟨S24x32, .f32⟩
  | .local _ .vmem, ⟨8, _⟩ => ⟨S768x3584, .i8⟩
  | .local _ .vmem, ⟨9, _⟩ => ⟨S768x128, .f32⟩
  | .local _ .vmem, ⟨10, _⟩ => ⟨S2x3584x512, .i8⟩
  | .local _ .vmem, ⟨11, _⟩ => ⟨S2x3584x512, .i8⟩
  | .local _ .vmem, ⟨12, _⟩ => ⟨S2x512, .f32⟩
  | .local _ .vmem, ⟨13, _⟩ => ⟨S2x512, .f32⟩
  | .local _ .vmem, ⟨14, _⟩ => ⟨S768x512, .f32⟩
  | .local _ .vmem, ⟨15, _⟩ => ⟨S768x512, .f32⟩
  | .local _ .vmem, ⟨16, _⟩ => ⟨S768x128, .f32⟩
  | .local _ .vmem, ⟨17, _⟩ => ⟨S24x32, .f32⟩
  | .local _ .vmem, ⟨18, _⟩ => ⟨S768x128, .f32⟩
  | .local _ .vmem, ⟨19, _⟩ => ⟨S768x512, .f32⟩
  | .local _ .vmem, ⟨20, _⟩ => ⟨S768x512, .f32⟩
  | .local _ .vmem, ⟨21, _⟩ => ⟨S768x128, .f32⟩
  | .local _ .vmem, ⟨22, _⟩ => ⟨S512x3584, .i8⟩
  | .local _ .vmem, ⟨23, _⟩ => ⟨S512x3584, .i8⟩
  | .local _ .vmem, ⟨24, _⟩ => ⟨S1x3584, .f32⟩
  | .local _ .vmem, ⟨25, _⟩ => ⟨S768x3584, .f32⟩
  | .local _ .vmem, ⟨26, _⟩ => ⟨S768x3584, .bf16⟩
  | .local _ .vmem, ⟨27, _⟩ => ⟨S768x512, .i8⟩
  | .local _ .vmem, ⟨28, _⟩ => ⟨S768x512, .i8⟩
  | .local _ .vmem, ⟨29, _⟩ => ⟨S768x3584, .f32⟩
  | _, _ => ⟨S768x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![24], ![false]⟩

def k0_off1 (i : grid0.Coords) : Fin 2 → Nat :=
  let arg0 : BitVec 32 := BitVec.ofNat 32 (i 0).val
  let v46 : Index := Scalar.indexCast arg0
  let c0_15 : Index := 0#32
  ![v46.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x3584 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S24x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![37], ![false]⟩

def k1_cond2 (i : grid1.Coords) : BitVec 1 :=
  let arg0 : BitVec 32 := BitVec.ofNat 32 (i 0).val
  let c36_i32 : BitVec 32 := 36#32
  let v84 : BitVec 1 := Scalar.cmpi .eq arg0 c36_i32
  let v85 : BitVec 32 := Scalar.extui v84
  let c0_i32_35 : BitVec 32 := 0#32
  let v86 : BitVec 1 := Scalar.cmpi .ne v85 c0_i32_35
  v86

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S768x3584 .i8 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S768x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2x3584x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S768x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S768x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S24x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![37], ![false]⟩

def k2_cond2 (i : grid2.Coords) : BitVec 1 :=
  let arg0 : BitVec 32 := BitVec.ofNat 32 (i 0).val
  let c36_i32 : BitVec 32 := 36#32
  let v57 : BitVec 1 := Scalar.cmpi .eq arg0 c36_i32
  let v58 : BitVec 32 := Scalar.extui v57
  let c0_i32_21 : BitVec 32 := 0#32
  let v59 : BitVec 1 := Scalar.cmpi .ne v58 c0_i32_21
  v59

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S768x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x3584 .i8 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x3584 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S768x3584 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S768x3584 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S768x512 .i8 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== ReferenceIdeal.lean ====
abbrev S768x3584 : Shape := ⟨2, ![768, 3584]⟩
abbrev S3584 : Shape := ⟨1, ![3584]⟩
abbrev S3584x2x18944 : Shape := ⟨3, ![3584, 2, 18944]⟩
abbrev S2x18944 : Shape := ⟨2, ![2, 18944]⟩
abbrev S18944x3584 : Shape := ⟨2, ![18944, 3584]⟩
abbrev S24x32x3584 : Shape := ⟨3, ![24, 32, 3584]⟩
abbrev S_ : Shape := ⟨0, ![]⟩
abbrev S24x32 : Shape := ⟨2, ![24, 32]⟩
abbrev S24x32x1 : Shape := ⟨3, ![24, 32, 1]⟩
abbrev S1x1x3584 : Shape := ⟨3, ![1, 1, 3584]⟩
abbrev S24x32x2x18944 : Shape := ⟨4, ![24, 32, 2, 18944]⟩
abbrev S24x32x1x1 : Shape := ⟨4, ![24, 32, 1, 1]⟩
abbrev S1x1x2x18944 : Shape := ⟨4, ![1, 1, 2, 18944]⟩
abbrev S24x32x1x18944 : Shape := ⟨4, ![24, 32, 1, 18944]⟩
abbrev S24x32x18944 : Shape := ⟨3, ![24, 32, 18944]⟩

abbrev nBuf : Space → Nat
  | .hbm => 115
  | .vmem => 0
  | .smem => 0
  | _ => 0

abbrev bufTy : (tb : Table) → Fin (tcTables nBuf tb) → BufTy
  | .hbm, ⟨0, _⟩ => ⟨S768x3584, .f32⟩
  | .hbm, ⟨1, _⟩ => ⟨S3584, .f32⟩
  | .hbm, ⟨2, _⟩ => ⟨S3584x2x18944, .i8⟩
  | .hbm, ⟨3, _⟩ => ⟨S2x18944, .f32⟩
  | .hbm, ⟨4, _⟩ => ⟨S18944x3584, .i8⟩
  | .hbm, ⟨5, _⟩ => ⟨S3584, .f32⟩
  | .hbm, ⟨6, _⟩ => ⟨S24x32x3584, .f32⟩
  | .hbm, ⟨7, _⟩ => ⟨S24x32x3584, .f32⟩
  | .hbm, ⟨8, _⟩ => ⟨S_, .f32⟩
  | .hbm, ⟨9, _⟩ => ⟨S24x32, .f32⟩
  | .hbm, ⟨10, _⟩ => ⟨S24x32x1, .f32⟩
  | .hbm, ⟨11, _⟩ => ⟨S_, .f32⟩
  | .hbm, ⟨12, _⟩ => ⟨S24x32x1, .f32⟩
  | .hbm, ⟨13, _⟩ => ⟨S24x32x1, .f32⟩
  | .hbm, ⟨14, _⟩ => ⟨S_, .f32⟩
  | .hbm, ⟨15, _⟩ => ⟨S24x32x1, .f32⟩
  | .hbm, ⟨16, _⟩ => ⟨S24x32x1, .f32⟩
  | .hbm, ⟨17, _⟩ => ⟨S24x32x1, .f32⟩
  | .hbm, ⟨18, _⟩ => ⟨S24x32x3584, .f32⟩
  | .hbm, ⟨19, _⟩ => ⟨S24x32x3584, .f32⟩
  | .hbm, ⟨20, _⟩ => ⟨S1x1x3584, .f32⟩
  | .hbm, ⟨21, _⟩ => ⟨S24x32x3584, .f32⟩
  | .hbm, ⟨22, _⟩ => ⟨S24x32x3584, .f32⟩
  | .hbm, ⟨23, _⟩ => ⟨S24x32x3584, .f32⟩
  | .hbm, ⟨24, _⟩ => ⟨S_, .f32⟩
  | .hbm, ⟨25, _⟩ => ⟨S24x32, .f32⟩
  | .hbm, ⟨26, _⟩ => ⟨S_, .f32⟩
  | .hbm, ⟨27, _⟩ => ⟨S24x32, .f32⟩
  | .hbm, ⟨28, _⟩ => ⟨S24x32, .i1⟩
  | .hbm, ⟨29, _⟩ => ⟨S_, .f32⟩
  | .hbm, ⟨30, _⟩ => ⟨S24x32, .f32⟩
  | .hbm, ⟨31, _⟩ => ⟨S24x32, .f32⟩
  | .hbm, ⟨32, _⟩ => ⟨S_, .f32⟩
  | .hbm, ⟨33, _⟩ => ⟨S_, .f32⟩
  | .hbm, ⟨34, _⟩ => ⟨S24x32, .f32⟩
  | .hbm, ⟨35, _⟩ => ⟨S24x32, .f32⟩
  | .hbm, ⟨36, _⟩ => ⟨S24x32x1, .f32⟩
  | .hbm, ⟨37, _⟩ => ⟨S24x32x3584, .f32⟩
  | .hbm, ⟨38, _⟩ => ⟨S24x32x3584, .f32⟩
  | .hbm, ⟨39, _⟩ => ⟨S24x32x3584, .f32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S24x32x3584, .f32⟩
  | .hbm, ⟨44, _⟩ => ⟨S24x32x3584, .f32⟩
  | .hbm, ⟨45, _⟩ => ⟨S_, .f32⟩
  | .hbm, ⟨46, _⟩ => ⟨S24x32x3584, .f32⟩
  | .hbm, ⟨47, _⟩ => ⟨S24x32x3584, .f32⟩
  | .hbm, ⟨48, _⟩ => ⟨S24x32x3584, .i32⟩
  | .hbm, ⟨49, _⟩ => ⟨S24x32x3584, .i8⟩
  | .hbm, ⟨50, _⟩ => ⟨S24x32x3584, .i32⟩
  | .hbm, ⟨51, _⟩ => ⟨S24x32x3584, .f32⟩
  | .hbm, ⟨52, _⟩ => ⟨S3584x2x18944, .i32⟩
  | .hbm, ⟨53, _⟩ => ⟨S3584x2x18944, .f32⟩
  | .hbm, ⟨54, _⟩ => ⟨S24x32x2x18944, .f32⟩
  | .hbm, ⟨55, _⟩ => ⟨S24x32x1x1, .f32⟩
  | .hbm, ⟨56, _⟩ => ⟨S24x32x2x18944, .f32⟩
  | .hbm, ⟨57, _⟩ => ⟨S24x32x2x18944, .f32⟩
  | .hbm, ⟨58, _⟩ => ⟨S1x1x2x18944, .f32⟩
  | .hbm, ⟨59, _⟩ => ⟨S24x32x2x18944, .f32⟩
  | .hbm, ⟨60, _⟩ => ⟨S24x32x2x18944, .f32⟩
  | .hbm, ⟨61, _⟩ => ⟨S24x32x1x18944, .f32⟩
  | .hbm, ⟨62, _⟩ => ⟨S24x32x18944, .f32⟩
  | .hbm, ⟨63, _⟩ => ⟨S24x32x18944, .f32⟩
  | .hbm, ⟨64, _⟩ => ⟨S24x32x18944, .f32⟩
  | .hbm, ⟨65, _⟩ => ⟨S_, .f32⟩
  | .hbm, ⟨66, _⟩ => ⟨S24x32x18944, .f32⟩
  | .hbm, ⟨67, _⟩ => ⟨S24x32x18944, .f32⟩
  | .hbm, ⟨68, _⟩ => ⟨S_, .f32⟩
  | .hbm, ⟨69, _⟩ => ⟨S24x32x18944, .f32⟩
  | .hbm, ⟨70, _⟩ => ⟨S24x32x18944, .f32⟩
  | .hbm, ⟨71, _⟩ => ⟨S24x32x18944, .f32⟩
  | .hbm, ⟨72, _⟩ => ⟨S24x32x1x18944, .f32⟩
  | .hbm, ⟨73, _⟩ => ⟨S24x32x18944, .f32⟩
  | .hbm, ⟨74, _⟩ => ⟨S24x32x18944, .f32⟩
  | .hbm, ⟨75, _⟩ => ⟨S24x32x18944, .f32⟩
  | .hbm, ⟨76, _⟩ => ⟨S_, .f32⟩
  | .hbm, ⟨77, _⟩ => ⟨S24x32, .f32⟩
  | .hbm, ⟨78, _⟩ => ⟨S_, .f32⟩
  | .hbm, ⟨79, _⟩ => ⟨S24x32, .f32⟩
  | .hbm, ⟨80, _⟩ => ⟨S24x32, .i1⟩
  | .hbm, ⟨81, _⟩ => ⟨S_, .f32⟩
  | .hbm, ⟨82, _⟩ => ⟨S24x32, .f32⟩
  | .hbm, ⟨83, _⟩ => ⟨S24x32, .f32⟩
  | .hbm, ⟨84, _⟩ => ⟨S_, .f32⟩
  | .hbm, ⟨85, _⟩ => ⟨S_, .f32⟩
  | .hbm, ⟨86, _⟩ => ⟨S24x32, .f32⟩
  | .hbm, ⟨87, _⟩ => ⟨S24x32, .f32⟩
  | .hbm, ⟨88, _⟩ => ⟨S24x32x1, .f32⟩
  | .hbm, ⟨89, _⟩ => ⟨S24x32x18944, .f32⟩
  | .hbm, ⟨90, _⟩ => ⟨S24x32x18944, .f32⟩
  | .hbm, ⟨91, _⟩ => ⟨S24x32x18944, .f32⟩
  | .hbm, ⟨92, _⟩ => ⟨S_, .i32⟩
  | .hbm, ⟨93, _⟩ => ⟨S_, .i32⟩
  | .hbm, ⟨94, _⟩ => ⟨S_, .f32⟩
  | .hbm, ⟨95, _⟩ => ⟨S24x32x18944, .f32⟩
  | .hbm, ⟨96, _⟩ => ⟨S24x32x18944, .f32⟩
  | .hbm, ⟨97, _⟩ => ⟨S_, .f32⟩
  | .hbm, ⟨98, _⟩ => ⟨S24x32x18944, .f32⟩
  | .hbm, ⟨99, _⟩ => ⟨S24x32x18944, .f32⟩
  | .hbm, ⟨100, _⟩ => ⟨S24x32x18944, .i32⟩
  | .hbm, ⟨101, _⟩ => ⟨S24x32x18944, .i8⟩
  | .hbm, ⟨102, _⟩ => ⟨S24x32x18944, .i32⟩
  | .hbm, ⟨103, _⟩ => ⟨S24x32x18944, .f32⟩
  | .hbm, ⟨104, _⟩ => ⟨S18944x3584, .i32⟩
  | .hbm, ⟨105, _⟩ => ⟨S18944x3584, .f32⟩
  | .hbm, ⟨106, _⟩ => ⟨S24x32x3584, .f32⟩
  | .hbm, ⟨107, _⟩ => ⟨S24x32x1, .f32⟩
  | .hbm, ⟨108, _⟩ => ⟨S24x32x3584, .f32⟩
  | .hbm, ⟨109, _⟩ => ⟨S24x32x3584, .f32⟩
  | .hbm, ⟨110, _⟩ => ⟨S1x1x3584, .f32⟩
  | .hbm, ⟨111, _⟩ => ⟨S24x32x3584, .f32⟩
  | .hbm, ⟨112, _⟩ => ⟨S24x32x3584, .f32⟩
  | .hbm, ⟨113, _⟩ => ⟨S24x32x3584, .f32⟩
  | .hbm, ⟨114, _⟩ => ⟨S24x32x3584, .bf16⟩
  | _, _ => ⟨S768x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c : Ref sig .tc := ⟨.hbm, 40, rfl⟩
abbrev main_c_6 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call3_v0 : Ref sig .tc := ⟨.hbm, 63, rfl⟩
abbrev main_call3_v1 : Ref sig .tc := ⟨.hbm, 64, rfl⟩
abbrev main_call3_cst : Ref sig .tc := ⟨.hbm, 65, rfl⟩
abbrev main_call3_v2 : Ref sig .tc := ⟨.hbm, 66, rfl⟩
abbrev main_call3_v3 : Ref sig .tc := ⟨.hbm, 67, rfl⟩
abbrev main_call3_cst_0 : Ref sig .tc := ⟨.hbm, 68, rfl⟩
abbrev main_call3_v4 : Ref sig .tc := ⟨.hbm, 69, rfl⟩
abbrev main_call3_v5 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_7 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_v48 : Ref sig .tc := ⟨.hbm, 80, rfl⟩
abbrev main_cst_9 : Ref sig .tc := ⟨.hbm, 81, rfl⟩
abbrev main_v49 : Ref sig .tc := ⟨.hbm, 82, rfl⟩
abbrev main_v50 : Ref sig .tc := ⟨.hbm, 83, rfl⟩
abbrev main_cst_10 : Ref sig .tc := ⟨.hbm, 84, rfl⟩
abbrev main_call4_v0 : Ref sig .tc := ⟨.hbm, 85, rfl⟩
abbrev main_call4_v1 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_11 : Ref sig .tc := ⟨.hbm, 92, rfl⟩
abbrev main_c_12 : Ref sig .tc := ⟨.hbm, 93, rfl⟩
abbrev main_call6_v0 : Ref sig .tc := ⟨.hbm, 94, rfl⟩
abbrev main_call6_v1 : Ref sig .tc := ⟨.hbm, 95, rfl⟩
abbrev main_call6_v2 : Ref sig .tc := ⟨.hbm, 96, rfl⟩
abbrev main_call6_v3 : Ref sig .tc := ⟨.hbm, 97, rfl⟩
abbrev main_call6_v4 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩

abbrev nD : Nat := 1
abbrev τ : Topo := Topo.v7x

variable {F : FTy → Type} [FloatOps F]
-- ==== Proof.Chain.Ref.lean ====
module

public import proofs.«01_k».proof.Defs
public import proofs.«01_k».proof.Proof.Gen.ReferenceIdeal.Run
public import proofs.«01_k».proof.Proof.Gen.ReferenceIdeal.Read
public import Idealize.ShloMosaic.Lib.Quiescent

@[expose] public section

/-! # The reference's frame: its arguments end unchanged and every counter at zero -/

set_option maxRecDepth 16384

noncomputable section

namespace Cert.ReferenceIdeal.Chain

open Idealize.ShloMosaic Idealize.ShloMosaic.TcCoe
open Idealize.SL.Sem

/-- The reference's frame: the reference has no semaphore, so no counter can be other than zero. -/
theorem frame_ref : Cert.quiescent_ReferenceIdeal := fun m g _ =>
  (θ_run _ _ _).mono
    (fun r h => ⟨fun c => (h c).2.2.2.2.2, sem_eq_zero_of_no_sems rfl r.2⟩)
    (Cert.ReferenceIdeal.Value.run (F := Ideal) m g)

end Cert.ReferenceIdeal.Chain

end
-- ==== Proof.Chain.Region.lean ====
module

public import Idealize.ShloMosaic.Lib.Pipeline.RegionArraysF
public import Idealize.ShloMosaic.Lib.Pipeline.DatRel
public import Idealize.ShloMosaic.Lib.Pipeline.ArrRel
public import Idealize.ShloMosaic.Lib.Pipeline.FrameTail

@[expose] public section

/-! # A kernel region as one item of a chain, its windows named or held to a predicate

One record serves the three calls: the region is entered with every unscoped buffer held at a valuation `W` and left with
every one held at `W'`, provided `W'` is what the proof data determine of each array and `W` elsewhere. -/

noncomputable section

namespace Cert.Chain

open Idealize.ShloMosaic Idealize.ShloMosaic.Pipeline
open Idealize.SL
open Idealize.SL.BI (sProp bigSep bigSep_congr)
open scoped Idealize.SL.BI
open Idealize.SL.BI.BIBase Idealize.SL.BI.Laws Idealize.SL.Sem Idealize.SL.ProofMode
open Idealize.SL.RA
open TcCoe
open PCS

variable {nD : Nat} {τ : Topo} {sig : RefSig} {Val : EltTy → Type} [∀ e, Nonempty (Val e)]
variable {Λ₀ : Idealize.SL.Sem.Labels} {P : Type} [Fintype P] [DecidableEq P]

local notation "𝕄" => MT nD τ sig Unit Val ℕ (UR sig nD τ) ℕ

/-- What rides beside the buffers through the chain: the generator register, and the core owing nothing. -/
def rest (c : Dev nD) : sProp 𝕄 := iprop((∃ r, prngReg c r) ∗ ∃ W, owes (c.tc : Thread nD τ) (0 : CellTallies nD τ sig Unit) W)

/-- The arrays after a region read relationally are arrays at some contents each satisfying its window's predicate. -/
theorem arraysAt_exists {cfg : Cfg sig Λ₀} {c : Dev nD} (dat : Dat τ Val Unit ℕ (UR sig nD τ) ℕ cfg c) (fgt : Fin cfg.W → Bool)
    (Rl : (w : Fin cfg.W) → Fin cfg.N → ((cfg.win w).block.Idx → Val (cfg.win w).elt) → Prop) (n : Nat) :
    ((dat.toRRel fgt Rl).arraysAt n : sProp 𝕄) ⊢ iprop(∃ A : (w : Fin cfg.W) → Buf Val ((cfg.win w).arr.view.loc (c.tc : Thread nD τ)),
      ⌜∀ w, (dat.toRRel fgt Rl).ArrAt w n (A w)⌝ ∗ dat.arrays A) := by
  unfold RDat.arraysAt Dat.arrays
  refine (BI.bigSep_exists_pi Finset.univ _).trans ?_
  iintro ⟨%A, H⟩
  ihave H' := (BI.bigSep_pure_sep Finset.univ (fun w => (dat.toRRel fgt Rl).ArrAt w n (A w)) _) $$ H
  icases H' with ⟨%hA, H⟩
  iexists A
  isplitr
  · ipureintro; exact fun w => hA w (Finset.mem_univ w)
  iexact H

/-- A window whose contents are named ends with its array at the data's final contents. -/
theorem arrAt_named {cfg : Cfg sig Λ₀} {c : Dev nD} (dat : Dat τ Val Unit ℕ (UR sig nD τ) ℕ cfg c) {fgt : Fin cfg.W → Bool}
    {Rl : (w : Fin cfg.W) → Fin cfg.N → ((cfg.win w).block.Idx → Val (cfg.win w).elt) → Prop} {w : Fin cfg.W} (h : fgt w = false) {n : Nat}
    {A : Buf Val ((cfg.win w).arr.view.loc (c.tc : Thread nD τ))} (hA : (dat.toRRel fgt Rl).ArrAt w n A) : A = dat.arrAt w n := by
  have h1 : dat.toR.ArrAt w n A := (dat.toR.override_arrAt (by simp only [h]) n A).mp hA
  exact dat.toR_arrAt w n A h1

variable (pcs : P → PCfg sig Λ₀ Val) (a : (p : P) → (pcs p).Adm)
  (pdats : (p : P) → (c : Dev nD) → Dat τ Val Unit ℕ (UR sig nD τ) ℕ (pin pcs a p) c)
  (fg : (q : P) → Fin (pin pcs a q).W → Bool)
  (Rl : (q : P) → (c : Dev nD) → (w : Fin (pin pcs a q).W) → Fin (pin pcs a q).N → (((pin pcs a q).win w).block.Idx → Val ((pin pcs a q).win w).elt) → Prop)
  (defs₀ : Defs nD τ sig Val Λ₀) (𝒱₀ : Variants)
  (L : GSem nD τ sig → Finset Unit) (lv : GSem nD τ sig → Unit → ℕ)

/-- The family of proof data, each read with its marked windows held to their predicates. -/
abbrev rels : (q : P) → (c : Dev nD) → RDat τ Val Unit ℕ (UR sig nD τ) ℕ (pin pcs a q) c := fun q c => (pdats q c).toRRel (fg q) (Rl q c)

/-- The record of one region of the chain: every unscoped buffer held at `W` before, at `W'` after. -/
def region (p : P) (kit : PLaunchFacts (nD := nD) (τ := τ) pcs p) (hK : (pcs p).pre.K = 0)
    (hbody : ∀ c, BodyObligationRel (pdats p c) defs₀ 𝒱₀ () Set.univ (fg p) (Rl p c))
    (howed : ∀ c t, (pdats p c).owed t = 0) (hrec : ∀ c, (pdats p c).recorded 0 = Set.univ) (hshare : ∀ c w, (pdats p c).share w = fullShare)
    (hin : ∀ c, ΦA (pin pcs a p).spec c ⊢ (pdats p c).Φ 0) (hout : ∀ c, (pdats p c).Φ (Fin.last (pin pcs a p).N) ⊢ ΦA (pin pcs a p).spec c)
    (hS : arrRefs (τ := τ) (pcs p).spec ⊆ ucRefs τ sig)
    (W W' : Dev nD → Valuation τ sig Val)
    (hA : ∀ c w, (pdats p c).arrAt w 0 = W c (Proc.devRef .tc (arrRef (pin pcs a p).spec w)))
    (hA' : ∀ c (A : (w : Fin (pin pcs a p).W) → Buf Val (((pin pcs a p).win w).arr.view.loc (c.tc : Thread nD τ))), (∀ w, ((pdats p c).toRRel (fg p) (Rl p c)).ArrAt w (pin pcs a p).N (A w)) →
      ∀ w, A w = W' c (Proc.devRef .tc (arrRef (pin pcs a p).spec w)))
    (hoff : ∀ c, ∀ d ∈ ucRefs τ sig \ arrRefs (τ := τ) (pcs p).spec, W' c d = W c d) :
    RDat.RegionSeg pcs a (rels pcs a pdats fg Rl) () defs₀ 𝒱₀ L lv p where
  win := kit.to₀.win
  block_pos := kit.to₀.block_pos
  stage_whole := kit.to₀.stage_whole
  K := PEmpty
  osem := fun k => k.elim
  ho := OwnSemFacts.none _
  hbody c := (hbody c).toRRel
  hwaits := RDat.hwaits_of_owed_zero pcs a (rels pcs a pdats fg Rl) () L lv p howed
  pre c := iprop(StableHlo.held (c.tc : Thread nD τ) (ucRefs τ sig) (W c) ∗ rest c)
  post c := iprop(StableHlo.held (c.tc : Thread nD τ) (ucRefs τ sig) (W' c) ∗ rest c)
  X c := iprop(∃ r, prngReg c r)
  Y c := iprop(∃ r, prngReg c r)
  Z c := StableHlo.held (c.tc : Thread nD τ) (ucRefs τ sig \ arrRefs (τ := τ) (pcs p).spec) (W c)
  hentry c := by
    show _ ⊢ |={Set.univ}=> iprop((pdats p c).arrays ((pdats p c).arrAt · 0) ∗ prefHeld (pcs p).pre c (fun _ => fullShare) (a p).1
        ∗ (pdats p c).owesAt () 0 ∗ _ ∗ _)
    rw [ownSems0_none, prefHeld_of_none _ hK, arrays_held pcs a pdats p kit c (hshare c) ((pdats p c).arrAt · 0) (W c) (hA c),
      StableHlo.held_sub_split (c.tc : Thread nD τ) hS (W c)]
    unfold rest
    iintro ⟨⟨⟨Ha, Hr⟩, Hp, HO⟩, -, -⟩
    imodintro
    isplitl [Ha]; · iexact Ha
    isplitr; · iempintro
    isplitl [HO]
    · unfold Dat.owesAt owesWithin Dat.bound
      rw [howed c 0, hrec c]
      icases HO with ⟨%Wd, HO⟩; iexists Wd; isplitr; · ipureintro; exact fun _ _ => Or.inl trivial
      iexact HO
    isplitl [Hp]; · iexact Hp
    iexact Hr
  hin c := (show _ ⊢ ΦA (pin pcs a p).spec c from by
    unfold ΦA; iintro ⟨Hp, -, Hr⟩
    isplitl [Hr] <;> iassumption).trans (hin c)
  hout c := (hout c).trans (by
    rw [ownSems0_none]; unfold ΦA
    iintro ⟨Hr, Hp⟩
    isplitl [Hp]; · iexact Hp
    isplitr; · iempintro
    iexact Hr)
  hexit c := by
    show iprop(((pdats p c).toRRel (fg p) (Rl p c)).arraysAt (pin pcs a p).N ∗ (pdats p c).owesAt () (Fin.last (pin pcs a p).N) ∗ _ ∗ _) ⊢ _
    iintro ⟨Ha, HO, Hp, Hr⟩
    ihave Ha := (arraysAt_exists (pdats p c) (fg p) (Rl p c) (pin pcs a p).N) $$ Ha
    icases Ha with ⟨%A, %hAt, Ha⟩
    imodintro
    rw [StableHlo.held_sub_split (c.tc : Thread nD τ) hS (W' c),
      ← arrays_held pcs a pdats p kit c (hshare c) A (W' c) (hA' c A hAt),
      StableHlo.held_congr (c.tc : Thread nD τ) (S := ucRefs τ sig \ arrRefs (τ := τ) (pcs p).spec) (hoff c)]
    unfold rest
    isplitl [Ha Hr]
    · isplitl [Ha]; · iexact Ha
      iexact Hr
    isplitl [Hp]; · iexact Hp
    unfold Dat.owesAt owesWithin
    rw [howed c (Fin.last _)]
    icases HO with ⟨%Wd, -, HO⟩; iexists Wd; iexact HO

end Cert.Chain

end
-- ==== Proof.K0.Run.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.DatRel
public import Idealize.ShloMosaic.Lib.Pipeline.Value
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.K0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

/-- A store of the view's own sizes, newest of a list, is what the view reads afterwards. -/
theorem read_writes_full {sig' : RefSig} {κ : Kind} {sp : Space} {s : Shape} {e : EltTy} {Val : EltTy → Type} (v : View sig' κ sp s e)
    (f : v.ty.Contents Val) {off : Fin s.rank → ℕ} (inb : ∀ a, off a + s.size a ≤ s.size a) (w : s.Idx → Val e)
    (L : List (View.Piece Val s e)) : v.read Val (v.writes Val f (⟨Rect.unit off s.size inb, w⟩ :: L)) = w :=
  funext fun y => v.read_writes_cons_hit_of_coords f (Rect.unit off s.size inb) w L y y fun a => by
    show (y a).val = off a + 1 * (y a).val
    have := inb a; omega

/-- The row of scales that one point stores: the diagonal of the replicated scales, read as a row. -/
def rowOf (x0 : Vec F S32x3584 .f32) (x1 : Vec F S1x3584 .f32) : FVec F S1x32 .f32 :=
  k0_pay1 (k0_pay5 x0 x1) (iota .tc S32x128 32 [0] iota_S32x128_d0_w32) (iota .tc S32x128 32 [1] iota_S32x128_d1_w32)

/-- The rectangle of the scale array that the point with coordinates `i` stores: one row. -/
abbrev rowRect (i : grid0.Coords) : Rect S24x32 := Rect.unit (s := S24x32) (k0_off1 i) S1x32.size (k0_off1_inb i)

-- the run's proof term is large: checking it walks past the default budget
set_option maxHeartbeats 1000000 in
/-- The body's triple: the two inputs are kept, the codes and the replicated scales are left at their payloads, and of the
    scale array the point's row is left at its payload, every other entry as it was. -/
theorem kernelRun0 (c : Dev nD) (i : grid0.Coords) (arg1 : Memref sig .tc .vmem S32x3584 .f32) (harg1 : arg1.IsWhole) (arg2 : Memref sig .tc .vmem S1x3584 .f32) (harg2 : arg2.IsWhole) (arg3 : Memref sig .tc .vmem S32x3584 .i8) (harg3 : arg3.IsWhole) (arg4 : Memref sig .tc .vmem S32x128 .f32) (harg4 : arg4.IsWhole) (arg5 : Memref sig .tc .vmem S24x32 .f32) (harg5 : arg5.IsWhole)
    (x0 : Vec F S32x3584 .f32) (x1 : Vec F S1x3584 .f32) (x4 : Vec F S24x32 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare x4
            ∗ (iprop(owns (c : Thread nD τ) arg1 fullShare x0 ∗ owns (c : Thread nD τ) arg2 fullShare x1 ∗ owns (c : Thread nD τ) arg3 fullShare (k0_pay4 x0 x1) ∗ owns (c : Thread nD τ) arg4 fullShare (k0_pay5 x0 x1)
                ∗ (∃ X : Vec F S24x32 .f32, ⌜(∀ x, X ((rowRect i).emb x) = rowOf x0 x1 x) ∧ ∀ y, y ∉ (rowRect i).set → X y = x4 y⌝ ∗ owns (c : Thread nD τ) arg5 fullShare X)) -∗ K ⟨⟩))
          ⊢ wp frame (wpE (defs₀ (F := F)) Variants.none c none) E (cc0_norm_quant i arg1 harg1 arg2 harg2 arg3 harg3 arg4 harg4 arg5 harg5) K := by
    intro E K
    simp only [cc0_norm_quant_eq_skeleton]; unfold cc0_norm_quant_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, Hk⟩
    obtain rfl := harg1.eq_unread hf0; obtain rfl := harg2.eq_unread hf1; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      rw [read_writes_full, View.readAt_full, View.readAt_full, harg1.read_unread, harg2.read_unread]
    isplitl [H3]
    · iexists _; isplitr; swap; · iexact H3
      ipureintro
      rw [read_writes_full, View.readAt_full, View.readAt_full, harg1.read_unread, harg2.read_unread]
    iexists _; isplitr; swap
    · iexists _; isplitr; swap; · iexact H4
      ipureintro; rfl
    ipureintro
    have hr : k0_pay1 (kernelRun0.sl.r c arg1 harg1 arg2 harg2 x0 x1) kernelRun0.sl.v38 kernelRun0.sl.v39 = rowOf x0 x1 := by
      unfold kernelRun0.sl.r kernelRun0.sl.v38 kernelRun0.sl.v39 rowOf
      rw [View.readAt_full, View.readAt_full, harg1.read_unread, harg2.read_unread]
    refine ⟨fun x => ?_, fun y hy => ?_⟩
    · rw [← hr]; exact View.read_writes_cons_emb _ _ _ _ _ x
    · rw [View.read_writes_cons_miss _ _ _ _ y hy]; exact congrFun hf4 y

end Cert.KernelIdeal.K0

end
-- ==== Proof.K0.Body.lean ====
module

public import proofs.«01_k».proof.Proof.K0.Run

@[expose] public section

set_option maxRecDepth 16384

noncomputable section

namespace Cert.KernelIdeal.K0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat RDat Cfg Window BodyObligation cellOf)

variable {F : FTy → Type} [FloatOps F]

local notation "𝕄" => MT nD τ sig Unit (Elt F) ℕ (UR sig nD τ) ℕ

variable (V : Dev nD → Valuation τ sig (Elt F))

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The window whose contents are held to a predicate: the scale array, which the points fill a row at a time. -/
def fgt : Fin cfg0.W → Bool := fun w => w.val == 4

/-- The row of scales of point `b`. -/
def srow (c : Dev nD) (b : Fin cfg0.N) : FVec F S1x32 .f32 := rowOf (iblk V c 0 b) (iblk V c 1 b)

/-- What the scale array's buffer holds after point `t`: the rows of the points up to `t`. -/
def Rl (c : Dev nD) : (w : Fin cfg0.W) → Fin cfg0.N → ((cfg0.win w).block.Idx → Elt F (cfg0.win w).elt) → Prop
  | ⟨4, _⟩, t, X => ∀ b : Fin cfg0.N, b.val ≤ t.val → ∀ x, X ((rowRect (grid0.coords b)).emb x) = srow V c b x
  | _, _, _ => True

/-- The proof data of the first call: the arrays as the region finds them; after the body at point `t` each input's buffer
    at its block, the codes and the replicated scales at their payloads; of the scale array nothing is named here. -/
def dat (c : Dev nD) : Dat τ (Elt F) Unit ℕ (UR sig nD τ) ℕ cfg0 c where
  A w := V c (Proc.devRef .tc (Pipeline.arrRef spec0 w))
  after w t := match w with
    | ⟨0, _⟩ => iblk V c 0 t
    | ⟨1, _⟩ => iblk V c 1 t
    | ⟨2, _⟩ => k0_pay4 (iblk V c 0 t) (iblk V c 1 t)
    | ⟨3, _⟩ => k0_pay5 (iblk V c 0 t) (iblk V c 1 t)
    | ⟨4, h⟩ => Pipeline.Dat.unnamed (cfg := cfg0) ⟨4, h⟩ t
  Φ _ := Pipeline.ΦA spec0 c
  q _ := fullShare
  owed _ := 0

/-- The arrays start as the call finds them. -/
theorem A_eq (c : Dev nD) (w : Fin cfg0.W) : (dat V c).A w = V c (Proc.devRef .tc (Pipeline.arrRef spec0 w)) := by
  dsimp only [dat]

/-- What a point leaves in this window's buffer. -/
theorem after0_0 (c : Dev nD) (t : Fin cfg0.N) : (dat V c).after 0 t = iblk V c 0 t := by dsimp only [dat]
/-- What a point leaves in this window's buffer. -/
theorem after0_1 (c : Dev nD) (t : Fin cfg0.N) : (dat V c).after 1 t = iblk V c 1 t := by dsimp only [dat]
/-- What a point leaves in this window's buffer. -/
theorem after0_2 (c : Dev nD) (t : Fin cfg0.N) : (dat V c).after 2 t = k0_pay4 (iblk V c 0 t) (iblk V c 1 t) := by dsimp only [dat]
/-- What a point leaves in this window's buffer. -/
theorem after0_3 (c : Dev nD) (t : Fin cfg0.N) : (dat V c).after 3 t = k0_pay5 (iblk V c 0 t) (iblk V c 1 t) := by dsimp only [dat]

/-- An input's buffer holds its block at every point, fetched there or not. -/
theorem before0_0 (c : Dev nD) (t : Fin cfg0.N) (d) : (dat V c).before 0 t d = iblk V c 0 t :=
  ((dat V c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- What a point finds in this window's buffer. -/
theorem before0_1 (c : Dev nD) (t : Fin cfg0.N) (d) : (dat V c).before 1 t d = iblk V c 1 t :=
  ((dat V c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- The row that point `t` stores starts at row `t`. -/
theorem off_row : ∀ t : Fin cfg0.N, k0_off1 (grid0.coords t) = ![t.val, 0] :=
  (by decide +kernel : ∀ t : Fin grid0.N, k0_off1 (grid0.coords t) = ![t.val, 0])

/-- Different points store different rows. -/
theorem row_not_mem (t b : Fin cfg0.N) (h : b.val ≠ t.val) (x : S1x32.Idx) :
    (rowRect (grid0.coords b)).emb x ∉ (rowRect (grid0.coords t)).set := by
  have hx : (x 0).val = 0 := Nat.lt_one_iff.mp (x 0).isLt
  have e : ((rowRect (grid0.coords b)).emb x 0).val = b.val := by
    show (k0_off1 (grid0.coords b)) 0 + 1 * (x 0).val = b.val
    rw [off_row, hx]; rfl
  refine Rect.not_mem_set_of_axis _ _ 0 t.val 1 ?_ rfl rfl ?_
  · show (k0_off1 (grid0.coords t)) 0 = t.val
    rw [off_row]; rfl
  · rw [e]; omega

/-- The scale array is written back after the last point only, and never fetched. -/
theorem noFlush0_4 : ∀ t : Fin cfg0.N, t.val + 1 < 24 → (cfg0.win 4).flush t = false :=
  (by decide +kernel : ∀ t : Fin grid0.N, t.val + 1 < 24 → (cfg0.win 4).flush t = false)
/-- The scale array is never fetched. -/
theorem noFetch0_4 : ∀ t : Fin cfg0.N, (cfg0.win 4).fetch t = false :=
  (by decide +kernel : ∀ t : Fin grid0.N, (cfg0.win 4).fetch t = false)

/-- What the body finds in the scale array's buffer at point `t` holds the rows of the points before. -/
theorem finds_rows (c : Dev nD) (t : Fin cfg0.N) (Y : (cfg0.win 4).block.Idx → Elt F (cfg0.win 4).elt)
    (h : ((dat V c).toRRel fgt (Rl V c)).Finds 4 t Y) (b : Fin cfg0.N) (hb : b.val < t.val) (x : S1x32.Idx) :
    Y ((rowRect (grid0.coords b)).emb x) = srow V c b x := by
  have hN : t.val < 24 := lt_of_lt_of_eq t.isLt N_0
  rw [RDat.finds_of_pos _ (noFetch0_4 t) (by omega)] at h
  rcases h with h | h
  · rw [noFlush0_4 _ (by show t.val - 1 + 1 < 24; omega)] at h; exact absurd h Bool.false_ne_true
  · exact ((dat V c).toRRel_leaves (w := (4 : Fin cfg0.W)) rfl h : Rl V c 4 _ Y) b (by show b.val ≤ t.val - 1; omega) x

/-- The buffer of this window at a point. -/
abbrev ms0_0 (t : Fin cfg0.N) : Memref sig .tc .vmem S32x3584 .f32 := win0_0.stage (cfg0.slots t 0)
/-- The buffer of this window at a point. -/
abbrev ms0_1 (t : Fin cfg0.N) : Memref sig .tc .vmem S1x3584 .f32 := win0_1.stage (cfg0.slots t 1)
/-- The buffer of this window at a point. -/
abbrev ms0_2 (t : Fin cfg0.N) : Memref sig .tc .vmem S32x3584 .i8 := win0_2.stage (cfg0.slots t 2)
/-- The buffer of this window at a point. -/
abbrev ms0_3 (t : Fin cfg0.N) : Memref sig .tc .vmem S32x128 .f32 := win0_3.stage (cfg0.slots t 3)
/-- The buffer of this window at a point. -/
abbrev ms0_4 (t : Fin cfg0.N) : Memref sig .tc .vmem S24x32 .f32 := win0_4.stage (cfg0.slots t 4)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ Y, ⌜((dat V c).toRRel fgt (Rl V c)).Finds 4 t Y⌝ ∗ owns (c : Thread nD τ) (ms0_4 t) fullShare Y))

/-- and what it returns. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ (∃ X, ⌜Rl V c 4 t X⌝ ∗ owns (c : Thread nD τ) (ms0_4 t) fullShare X))

/-- The body at any point: the inputs hold their blocks; the scale array's buffer holds the earlier rows, and the body adds its own. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).Φ t.succ = (dat V c).Φ t.castSucc from rfl,
    show (dat V c).owesAt () t.succ = (dat V c).owesAt () t.castSucc from rfl,
    after0_0, after0_1, after0_2, after0_3]
  iintro ⟨HΦ, Ho, ⟨%d0, H0⟩, ⟨%d1, H1⟩, ⟨%d2, H2⟩, ⟨%d3, H3⟩, ⟨%Y, %hY, H4⟩⟩
  iapply (kernelRun0 c (grid0.coords t) _ _ _ _ _ _ _ _ _ _ (iblk V c 0 t) (iblk V c 1 t) Y Set.univ _)
  isplitl [H0]; · iexact H0
  isplitl [H1]; · iexact H1
  isplitl [H2]; · iexists _; iexact H2
  isplitl [H3]; · iexists _; iexact H3
  isplitl [H4]; · iexact H4
  iintro ⟨H0, H1, H2, H3, ⟨%X, %hX, H4⟩⟩
  isplitl [HΦ]; · iexact HΦ
  isplitl [Ho]; · iexact Ho
  isplitl [H0]; · iexact H0
  isplitl [H1]; · iexact H1
  isplitl [H2]; · iexact H2
  isplitl [H3]; · iexact H3
  iexists X; isplitr; swap; · iexact H4
  ipureintro
  intro b hb x
  by_cases hbt : b.val = t.val
  · obtain rfl : b = t := Fin.ext hbt
    exact hX.1 x
  · rw [hX.2 _ (row_not_mem t b hbt x)]
    exact finds_rows V c t Y hY b (by omega) x

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation of the first call, the scale array held to its rows. -/
theorem body_obligation (c : Dev nD) : Pipeline.BodyObligationRel (dat (F := F) V c) (defs₀ (F := F)) Variants.none () Set.univ fgt (Rl V c) := fun t => by
  rw [bigSep_W0, bigSep_W0, defs₀_row]
  exact triple_restated (sound_body V c t) rfl .rfl fun _ => .rfl

end Cert.KernelIdeal.K0

end
-- ==== Proof.K1.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.K1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Proc.devRef .tc (Pipeline.arrRef spec1 0)))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Proc.devRef .tc (Pipeline.arrRef spec1 1)))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Proc.devRef .tc (Pipeline.arrRef spec1 2)))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Proc.devRef .tc (Pipeline.arrRef spec1 3)))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 37 = 0 :=
  (fun t => by
    have ht : t.val < 37 := Nat.lt_of_lt_of_eq t.isLt N_1
    have e0 : (grid1.coords t 0).val = t.val / 1 % 37 := Pipeline.Grid.coords_val t 0 (by decide) rfl
    simp only [cond1_0, e0]
    word_cmp
   : ∀ t : Fin grid1.N, cond1_0 (grid1.coords t) ↔ t.val % 37 = 0)

/-- The condition of the body's `scf.if` 1 (`k1_h2`), from the grid coordinates (the skeleton's scalar
    chain substituted). -/
abbrev cond1_1 (i : grid1.Coords) : Prop := k1_cond2 i = 1#1
/-- It holds at the last point only — by arithmetic of the point. -/
theorem hcond1_1 : ∀ t : Fin cfg1.N, cond1_1 (grid1.coords t) ↔ t.val % 37 = 36 :=
  (fun t => by
    have ht : t.val < 37 := Nat.lt_of_lt_of_eq t.isLt N_1
    have e0 : (grid1.coords t 0).val = t.val / 1 % 37 := Pipeline.Grid.coords_val t 0 (by decide) rfl
    simp only [cond1_1, k1_cond2, e0]
    word_cmp
   : ∀ t : Fin grid1.N, cond1_1 (grid1.coords t) ↔ t.val % 37 = 36)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an output stored at every point, under no condition). -/
theorem liveAt1_4 : ∀ t : Fin cfg1.N, cfg1.idle 4 (grid1.coords t) = false := fun _ => rfl
/-- At the points of case A the printed configuration (`Cfg.idle`) calls output 5 idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case B the printed configuration (`Cfg.idle`) calls output 5 idle: the case stores nothing into it. -/
theorem idleAt1_5_B : ∀ t : Fin cfg1.N, ¬cond1_0 (grid1.coords t) → ¬cond1_1 (grid1.coords t) → cfg1.idle 5 (grid1.coords t) = true := by decide +kernel
/-- At the points of case B the pipeline does not write output 5's block back. -/
theorem noFlush1_5_B : ∀ t : Fin cfg1.N, ¬cond1_0 (grid1.coords t) → ¬cond1_1 (grid1.coords t) → (cfg1.win 5).flush t = false := by decide +kernel
/-- At the points of case C the printed configuration (`Cfg.idle`) calls output 5 live: the case stores into it. -/
theorem liveAt1_5_C : ∀ t : Fin cfg1.N, ¬cond1_0 (grid1.coords t) → cond1_1 (grid1.coords t) → cfg1.idle 5 (grid1.coords t) = false := by decide +kernel
/-- At the points of case A the printed configuration (`Cfg.idle`) calls output 6 idle: the case stores nothing into it. -/
theorem idleAt1_6_A : ∀ t : Fin cfg1.N, cond1_0 (grid1.coords t) → ¬cond1_1 (grid1.coords t) → cfg1.idle 6 (grid1.coords t) = true := by decide +kernel
/-- At the points of case A the pipeline does not write output 6's block back. -/
theorem noFlush1_6_A : ∀ t : Fin cfg1.N, cond1_0 (grid1.coords t) → ¬cond1_1 (grid1.coords t) → (cfg1.win 6).flush t = false := by decide +kernel
/-- At the points of case B the printed configuration (`Cfg.idle`) calls output 6 idle: the case stores nothing into it. -/
theorem idleAt1_6_B : ∀ t : Fin cfg1.N, ¬cond1_0 (grid1.coords t) → ¬cond1_1 (grid1.coords t) → cfg1.idle 6 (grid1.coords t) = true := by decide +kernel
/-- At the points of case B the pipeline does not write output 6's block back. -/
theorem noFlush1_6_B : ∀ t : Fin cfg1.N, ¬cond1_0 (grid1.coords t) → ¬cond1_1 (grid1.coords t) → (cfg1.win 6).flush t = false := by decide +kernel
/-- At the points of case C the printed configuration (`Cfg.idle`) calls output 6 live: the case stores into it. -/
theorem liveAt1_6_C : ∀ t : Fin cfg1.N, ¬cond1_0 (grid1.coords t) → cond1_1 (grid1.coords t) → cfg1.idle 6 (grid1.coords t) = false := by decide +kernel

/-! ## The kernel body on any staging memrefs: a subtype the run finds -/

/-- One staging buffer of output window 4, through which its contents are stated (`View.read_writes_of_cover`: the
    choice does not matter). -/
abbrev VO1_4 : View sig .tc .vmem S768x512 .f32 := (Memref.whole cc1_stg4_0 : Memref sig .tc .vmem S768x512 .f32).view
/-- One staging buffer of output window 5, through which its contents are stated (`View.read_writes_of_cover`: the
    choice does not matter). -/
abbrev VO1_5 : View sig .tc .vmem S768x128 .f32 := (Memref.whole cc1_stg5_0 : Memref sig .tc .vmem S768x128 .f32).view
/-- One staging buffer of output window 6, through which its contents are stated (`View.read_writes_of_cover`: the
    choice does not matter). -/
abbrev VO1_6 : View sig .tc .vmem S24x32 .f32 := (Memref.whole cc1_stg6_0 : Memref sig .tc .vmem S24x32 .f32).view
/-- Each window's current staging memref at point `t`, spelled as the pipeline passes it (`bodyAt1`), and its wholeness. -/
abbrev ms1_0 (t : Fin cfg1.N) : Memref sig .tc .vmem S768x3584 .i8 := win1_0.stage (cfg1.slots t 0)
/-- The buffer of this window at a point is a whole array. -/
abbrev hs1_0 (t : Fin cfg1.N) : (ms1_0 t).IsWhole := hstage1_0 ((cfg1.slots t 0).cast nbuf1_0)
/-- The buffer of this window at a point. -/
abbrev ms1_1 (t : Fin cfg1.N) : Memref sig .tc .vmem S768x128 .f32 := win1_1.stage (cfg1.slots t 1)
/-- The buffer of this window at a point is a whole array. -/
abbrev hs1_1 (t : Fin cfg1.N) : (ms1_1 t).IsWhole := hstage1_1 ((cfg1.slots t 1).cast nbuf1_1)
/-- The buffer of this window at a point. -/
abbrev ms1_2 (t : Fin cfg1.N) : Memref sig .tc .vmem S2x3584x512 .i8 := win1_2.stage (cfg1.slots t 2)
/-- The buffer of this window at a point is a whole array. -/
abbrev hs1_2 (t : Fin cfg1.N) : (ms1_2 t).IsWhole := hstage1_2 ((cfg1.slots t 2).cast nbuf1_2)
/-- The buffer of this window at a point. -/
abbrev ms1_3 (t : Fin cfg1.N) : Memref sig .tc .vmem S2x512 .f32 := win1_3.stage (cfg1.slots t 3)
/-- The buffer of this window at a point is a whole array. -/
abbrev hs1_3 (t : Fin cfg1.N) : (ms1_3 t).IsWhole := hstage1_3 ((cfg1.slots t 3).cast nbuf1_3)
/-- The buffer of this window at a point. -/
abbrev ms1_4 (t : Fin cfg1.N) : Memref sig .tc .vmem S768x512 .f32 := win1_4.stage (cfg1.slots t 4)
/-- The buffer of this window at a point is a whole array. -/
abbrev hs1_4 (t : Fin cfg1.N) : (ms1_4 t).IsWhole := hstage1_4 ((cfg1.slots t 4).cast nbuf1_4)
/-- The buffer of this window at a point. -/
abbrev ms1_5 (t : Fin cfg1.N) : Memref sig .tc .vmem S768x128 .f32 := win1_5.stage (cfg1.slots t 5)
/-- The buffer of this window at a point is a whole array. -/
abbrev hs1_5 (t : Fin cfg1.N) : (ms1_5 t).IsWhole := hstage1_5 ((cfg1.slots t 5).cast nbuf1_5)
/-- The buffer of this window at a point. -/
abbrev ms1_6 (t : Fin cfg1.N) : Memref sig .tc .vmem S24x32 .f32 := win1_6.stage (cfg1.slots t 6)
/-- The buffer of this window at a point is a whole array. -/
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S768x128 .f32 := Memref.whole cc1_scratch0
/-- The scratch `arg8` the kernel carries between points, as a view: what it holds is stated through it. -/
abbrev VS1_0 : View sig .tc .vmem S768x128 .f32 := scM1_0.view

/-- The scoped buffers that belong to the other two calls, each whole at some contents, and the generator register. -/
def Rst (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f) ∗ (∃ f : Buf (Elt F) ((c : Thread nD τ).loc cc2_scratch0), ((c : Thread nD τ).loc cc2_scratch0) ↦{fullShare} f)) ∗ (∃ r, prngReg c r))

/-- What the region is handed besides its windows: the scratch operand at some contents and the rest. -/
theorem PhiA1_eq (c : Dev nD) :
    (Pipeline.ΦA spec1 c : sProp 𝕄)
      = iprop(iprop((∃ d, owns (c : Thread nD τ) scM1_0 fullShare d)) ∗ Rst (F := F) c) := by
  unfold Pipeline.ΦA Rst
  rw [Pipeline.scopedRest_eq_of_list spec1 c [cc1_scratch0, cc0_stg0_0, cc0_stg0_1, cc0_stg1_0, cc0_stg2_0, cc0_stg2_1, cc0_stg3_0, cc0_stg3_1, cc0_stg4_0, cc2_stg0_0, cc2_stg0_1, cc2_stg1_0, cc2_stg2_0, cc2_stg2_1, cc2_stg3_0, cc2_stg4_0, cc2_stg5_0, cc2_stg6_0, cc2_stg6_1, cc2_scratch0] (by decide) (by decide)]
  simp only [scM1_0, owns_whole]
  exact Idealize.SL.BI.equiv_iff.mp ⟨Idealize.SL.BI.sep_assoc, Idealize.SL.BI.sep_assoc'⟩

end Cert.KernelIdeal.K1

end
-- ==== Proof.K1.RunA.lean ====
module

public import proofs.«01_k».proof.Proof.K1.Runs

@[expose] public section

-- membership in a rectangle of production extents (`View.cover_of_tiled`): the elaborator's structural look
-- recurses once per coordinate of the long axes
set_option maxRecDepth 16384

noncomputable section

namespace Cert.KernelIdeal.K1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (5, 6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : cond1_0 i) (hc1 : ¬cond1_1 i)
    (x0 : Vec F S768x3584 .i8) (x1 : Vec F S768x128 .f32) (x2 : Vec F S2x3584x512 .i8) (x3 : Vec F S2x512 .f32) :
    Σ' (L4 : List (View.Piece (Elt F) S768x512 .f32)), Σ' (L5 : List (View.Piece (Elt F) S768x128 .f32)), Σ' (L6 : List (View.Piece (Elt F) S24x32 .f32)), { LS0 : List (View.Piece (Elt F) S768x128 .f32) //
      ∀ (xi5 : Vec F S768x128 .f32) (xi6 : Vec F S24x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc1_gate_up i arg1 harg1 arg2 harg2 arg3 harg3 arg4 harg4 arg5 harg5 arg6 harg6 arg7 harg7 arg8 harg8) K } := by
  refine ⟨?_, [], [], ?_, fun xi5 xi6 E K => ?run⟩
  case run =>
    simp only [cc1_gate_up_eq_skeleton]; unfold cc1_gate_up_skel
    simp only [k1_part7_eq_skeleton, k1_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    iexists _; iexact HS0

end Cert.KernelIdeal.K1

end
-- ==== Proof.K1.RunB.lean ====
module

public import proofs.«01_k».proof.Proof.K1.RunA

@[expose] public section

-- membership in a rectangle of production extents (`View.cover_of_tiled`): the elaborator's structural look
-- recurses once per coordinate of the long axes
set_option maxRecDepth 16384

noncomputable section

namespace Cert.KernelIdeal.K1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 35: 35 of 37), WITH the
    proof that on whole staging memrefs — the inputs' at their contents, the outputs it leaves idle (5, 6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : ¬cond1_1 i)
    (x0 : Vec F S768x3584 .i8) (x1 : Vec F S768x128 .f32) (x2 : Vec F S2x3584x512 .i8) (x3 : Vec F S2x512 .f32) (xs0 : Vec F S768x128 .f32) :
    Σ' (L4 : List (View.Piece (Elt F) S768x512 .f32)), Σ' (L5 : List (View.Piece (Elt F) S768x128 .f32)), Σ' (L6 : List (View.Piece (Elt F) S24x32 .f32)), { LS0 : List (View.Piece (Elt F) S768x128 .f32) //
      ∀ (xi5 : Vec F S768x128 .f32) (xi6 : Vec F S24x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc1_gate_up i arg1 harg1 arg2 harg2 arg3 harg3 arg4 harg4 arg5 harg5 arg6 harg6 arg7 harg7 arg8 harg8) K } := by
  refine ⟨?_, [], [], ?_, fun xi5 xi6 E K => ?run⟩
  case run =>
    simp only [cc1_gate_up_eq_skeleton]; unfold cc1_gate_up_skel
    simp only [k1_part7_eq_skeleton, k1_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    iexists _; iexact HS0

end Cert.KernelIdeal.K1

end
-- ==== Proof.K1.RunC.lean ====
module

public import proofs.«01_k».proof.Proof.K1.RunB

@[expose] public section

-- membership in a rectangle of production extents (`View.cover_of_tiled`): the elaborator's structural look
-- recurses once per coordinate of the long axes
set_option maxRecDepth 16384

noncomputable section

namespace Cert.KernelIdeal.K1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

-- (the run's proof term is large: the definition's epilogue — `abstractNestedProofs` — walks it past the default budget)
set_option maxHeartbeats 1000000 in
/-- What the body's stores leave in each output's staging memref, as pieces (last first) IN CASE C (`scf.if` 0 not taken, `scf.if` 1 taken: points 36), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : cond1_1 i)
    (x0 : Vec F S768x3584 .i8) (x1 : Vec F S768x128 .f32) (x2 : Vec F S2x3584x512 .i8) (x3 : Vec F S2x512 .f32) (xs0 : Vec F S768x128 .f32) :
    Σ' (L4 : List (View.Piece (Elt F) S768x512 .f32)), Σ' (L5 : List (View.Piece (Elt F) S768x128 .f32)), Σ' (L6 : List (View.Piece (Elt F) S24x32 .f32)), { LS0 : List (View.Piece (Elt F) S768x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc1_gate_up i arg1 harg1 arg2 harg2 arg3 harg3 arg4 harg4 arg5 harg5 arg6 harg6 arg7 harg7 arg8 harg8) K } := by
  refine ⟨?_, ?_, ?_, ?_, fun E K => ?run⟩
  case run =>
    simp only [cc1_gate_up_eq_skeleton]; unfold cc1_gate_up_skel
    simp only [k1_part7_eq_skeleton, k1_part8_eq_skeleton, k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact HS0

end Cert.KernelIdeal.K1

end
-- ==== Proof.K1.Body.lean ====
module

public import proofs.«01_k».proof.Proof.K1.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.K1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))
/-- Case A's pieces for output 4 tile its block (4 stores of `S768x128`, checked by the kernel's evaluation: Lib/Ring.lean `Piece.tiledL`, linear in the pieces, through a loop's `@[irreducible]` trip theorem too), so they cover it. -/
theorem cover1_A_4 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : cond1_0 i) (hc1 : ¬cond1_1 i)
    (x0 : Vec F S768x3584 .i8) (x1 : Vec F S768x128 .f32) (x2 : Vec F S2x3584x512 .i8) (x3 : Vec F S2x512 .f32) (y : S768x512.Idx) :
    ∃ pc ∈ (kernelRun1_A c i arg1 harg1 arg2 harg2 arg3 harg3 arg4 harg4 arg5 harg5 arg6 harg6 arg7 harg7 arg8 harg8 hc0 hc1 x0 x1 x2 x3).1, y ∈ pc.1.set :=
  View.cover_of_tiledL (kernelRun1_A c i arg1 harg1 arg2 harg2 arg3 harg3 arg4 harg4 arg5 harg5 arg6 harg6 arg7 harg7 arg8 harg8 hc0 hc1 x0 x1 x2 x3).1 S768x128.size (by sl_kernel_rfl) y

/-- What case A leaves in output 4's staging buffer: its pieces read back over junk. -/
def out1_A_4 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : cond1_0 i) (hc1 : ¬cond1_1 i)
    (x0 : Vec F S768x3584 .i8) (x1 : Vec F S768x128 .f32) (x2 : Vec F S2x3584x512 .i8) (x3 : Vec F S2x512 .f32) : Vec F S768x512 .f32 :=
  VO1_4.read (Elt F) (VO1_4.writes (Elt F) VO1_4.junk (kernelRun1_A c i arg1 harg1 arg2 harg2 arg3 harg3 arg4 harg4 arg5 harg5 arg6 harg6 arg7 harg7 arg8 harg8 hc0 hc1 x0 x1 x2 x3).1)

/-- Case A stores nothing into output 5 (the window is idle at its points and not written back there):
    no pieces — a placeholder (junk read back) that nothing consults, since at these points the window is neither
    written back nor read at the next point (Lib/Pipeline.lean "Idle points"). -/
def out1_A_5 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : cond1_0 i) (hc1 : ¬cond1_1 i)
    (x0 : Vec F S768x3584 .i8) (x1 : Vec F S768x128 .f32) (x2 : Vec F S2x3584x512 .i8) (x3 : Vec F S2x512 .f32) : Vec F S768x128 .f32 :=
  VO1_5.read (Elt F) (VO1_5.writes (Elt F) VO1_5.junk (kernelRun1_A c i arg1 harg1 arg2 harg2 arg3 harg3 arg4 harg4 arg5 harg5 arg6 harg6 arg7 harg7 arg8 harg8 hc0 hc1 x0 x1 x2 x3).2.1)

/-- Case A stores nothing into output 6 (the window is idle at its points and not written back there):
    no pieces — a placeholder (junk read back) that nothing consults, since at these points the window is neither
    written back nor read at the next point (Lib/Pipeline.lean "Idle points"). -/
def out1_A_6 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : cond1_0 i) (hc1 : ¬cond1_1 i)
    (x0 : Vec F S768x3584 .i8) (x1 : Vec F S768x128 .f32) (x2 : Vec F S2x3584x512 .i8) (x3 : Vec F S2x512 .f32) : Vec F S24x32 .f32 :=
  VO1_6.read (Elt F) (VO1_6.writes (Elt F) VO1_6.junk (kernelRun1_A c i arg1 harg1 arg2 harg2 arg3 harg3 arg4 harg4 arg5 harg5 arg6 harg6 arg7 harg7 arg8 harg8 hc0 hc1 x0 x1 x2 x3).2.2.1)

/-- Case A's pieces for scratch `arg8`, which the kernel carries between points, cover it: 2 pieces of `S768x128` tiling it (Lib/Ring.lean `Piece.tiledL`). -/
theorem scover1_A_0 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : cond1_0 i) (hc1 : ¬cond1_1 i)
    (x0 : Vec F S768x3584 .i8) (x1 : Vec F S768x128 .f32) (x2 : Vec F S2x3584x512 .i8) (x3 : Vec F S2x512 .f32) (y : S768x128.Idx) :
    ∃ pc ∈ (kernelRun1_A c i arg1 harg1 arg2 harg2 arg3 harg3 arg4 harg4 arg5 harg5 arg6 harg6 arg7 harg7 arg8 harg8 hc0 hc1 x0 x1 x2 x3).2.2.2.1, y ∈ pc.1.set :=
  View.cover_of_tiledL (kernelRun1_A c i arg1 harg1 arg2 harg2 arg3 harg3 arg4 harg4 arg5 harg5 arg6 harg6 arg7 harg7 arg8 harg8 hc0 hc1 x0 x1 x2 x3).2.2.2.1 S768x128.size (by sl_kernel_rfl) y

/-- What case A leaves in scratch `arg8`: its pieces read back over junk. -/
def sout1_A_0 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : cond1_0 i) (hc1 : ¬cond1_1 i)
    (x0 : Vec F S768x3584 .i8) (x1 : Vec F S768x128 .f32) (x2 : Vec F S2x3584x512 .i8) (x3 : Vec F S2x512 .f32) : Vec F S768x128 .f32 :=
  VS1_0.read (Elt F) (VS1_0.writes (Elt F) VS1_0.junk (kernelRun1_A c i arg1 harg1 arg2 harg2 arg3 harg3 arg4 harg4 arg5 harg5 arg6 harg6 arg7 harg7 arg8 harg8 hc0 hc1 x0 x1 x2 x3).2.2.2.1)

/-- Case B's pieces for output 4 tile its block (4 stores of `S768x128`, checked by the kernel's evaluation: Lib/Ring.lean `Piece.tiledL`, linear in the pieces, through a loop's `@[irreducible]` trip theorem too), so they cover it. -/
theorem cover1_B_4 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : ¬cond1_1 i)
    (x0 : Vec F S768x3584 .i8) (x1 : Vec F S768x128 .f32) (x2 : Vec F S2x3584x512 .i8) (x3 : Vec F S2x512 .f32) (xs0 : Vec F S768x128 .f32) (y : S768x512.Idx) :
    ∃ pc ∈ (kernelRun1_B c i arg1 harg1 arg2 harg2 arg3 harg3 arg4 harg4 arg5 harg5 arg6 harg6 arg7 harg7 arg8 harg8 hc0 hc1 x0 x1 x2 x3 xs0).1, y ∈ pc.1.set :=
  View.cover_of_tiledL (kernelRun1_B c i arg1 harg1 arg2 harg2 arg3 harg3 arg4 harg4 arg5 harg5 arg6 harg6 arg7 harg7 arg8 harg8 hc0 hc1 x0 x1 x2 x3 xs0).1 S768x128.size (by sl_kernel_rfl) y

/-- What case B leaves in output 4's staging buffer: its pieces read back over junk. -/
def out1_B_4 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : ¬cond1_1 i)
    (x0 : Vec F S768x3584 .i8) (x1 : Vec F S768x128 .f32) (x2 : Vec F S2x3584x512 .i8) (x3 : Vec F S2x512 .f32) (xs0 : Vec F S768x128 .f32) : Vec F S768x512 .f32 :=
  VO1_4.read (Elt F) (VO1_4.writes (Elt F) VO1_4.junk (kernelRun1_B c i arg1 harg1 arg2 harg2 arg3 harg3 arg4 harg4 arg5 harg5 arg6 harg6 arg7 harg7 arg8 harg8 hc0 hc1 x0 x1 x2 x3 xs0).1)

/-- Case B stores nothing into output 5 (the window is idle at its points and not written back there):
    no pieces — a placeholder (junk read back) that nothing consults, since at these points the window is neither
    written back nor read at the next point (Lib/Pipeline.lean "Idle points"). -/
def out1_B_5 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : ¬cond1_1 i)
    (x0 : Vec F S768x3584 .i8) (x1 : Vec F S768x128 .f32) (x2 : Vec F S2x3584x512 .i8) (x3 : Vec F S2x512 .f32) (xs0 : Vec F S768x128 .f32) : Vec F S768x128 .f32 :=
  VO1_5.read (Elt F) (VO1_5.writes (Elt F) VO1_5.junk (kernelRun1_B c i arg1 harg1 arg2 harg2 arg3 harg3 arg4 harg4 arg5 harg5 arg6 harg6 arg7 harg7 arg8 harg8 hc0 hc1 x0 x1 x2 x3 xs0).2.1)

/-- Case B stores nothing into output 6 (the window is idle at its points and not written back there):
    no pieces — a placeholder (junk read back) that nothing consults, since at these points the window is neither
    written back nor read at the next point (Lib/Pipeline.lean "Idle points"). -/
def out1_B_6 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : ¬cond1_1 i)
    (x0 : Vec F S768x3584 .i8) (x1 : Vec F S768x128 .f32) (x2 : Vec F S2x3584x512 .i8) (x3 : Vec F S2x512 .f32) (xs0 : Vec F S768x128 .f32) : Vec F S24x32 .f32 :=
  VO1_6.read (Elt F) (VO1_6.writes (Elt F) VO1_6.junk (kernelRun1_B c i arg1 harg1 arg2 harg2 arg3 harg3 arg4 harg4 arg5 harg5 arg6 harg6 arg7 harg7 arg8 harg8 hc0 hc1 x0 x1 x2 x3 xs0).2.2.1)

/-- Case B's pieces for scratch `arg8`, which the kernel carries between points, cover it: 1 piece of `S768x128` tiling it (Lib/Ring.lean `Piece.tiledL`). -/
theorem scover1_B_0 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : ¬cond1_1 i)
    (x0 : Vec F S768x3584 .i8) (x1 : Vec F S768x128 .f32) (x2 : Vec F S2x3584x512 .i8) (x3 : Vec F S2x512 .f32) (xs0 : Vec F S768x128 .f32) (y : S768x128.Idx) :
    ∃ pc ∈ (kernelRun1_B c i arg1 harg1 arg2 harg2 arg3 harg3 arg4 harg4 arg5 harg5 arg6 harg6 arg7 harg7 arg8 harg8 hc0 hc1 x0 x1 x2 x3 xs0).2.2.2.1, y ∈ pc.1.set :=
  View.cover_of_tiledL (kernelRun1_B c i arg1 harg1 arg2 harg2 arg3 harg3 arg4 harg4 arg5 harg5 arg6 harg6 arg7 harg7 arg8 harg8 hc0 hc1 x0 x1 x2 x3 xs0).2.2.2.1 S768x128.size (by sl_kernel_rfl) y

/-- What case B leaves in scratch `arg8`: its pieces read back over junk. -/
def sout1_B_0 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : ¬cond1_1 i)
    (x0 : Vec F S768x3584 .i8) (x1 : Vec F S768x128 .f32) (x2 : Vec F S2x3584x512 .i8) (x3 : Vec F S2x512 .f32) (xs0 : Vec F S768x128 .f32) : Vec F S768x128 .f32 :=
  VS1_0.read (Elt F) (VS1_0.writes (Elt F) VS1_0.junk (kernelRun1_B c i arg1 harg1 arg2 harg2 arg3 harg3 arg4 harg4 arg5 harg5 arg6 harg6 arg7 harg7 arg8 harg8 hc0 hc1 x0 x1 x2 x3 xs0).2.2.2.1)

/-- Case C's pieces for output 4 tile its block (4 stores of `S768x128`, checked by the kernel's evaluation: Lib/Ring.lean `Piece.tiledL`, linear in the pieces, through a loop's `@[irreducible]` trip theorem too), so they cover it. -/
theorem cover1_C_4 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : cond1_1 i)
    (x0 : Vec F S768x3584 .i8) (x1 : Vec F S768x128 .f32) (x2 : Vec F S2x3584x512 .i8) (x3 : Vec F S2x512 .f32) (xs0 : Vec F S768x128 .f32) (y : S768x512.Idx) :
    ∃ pc ∈ (kernelRun1_C c i arg1 harg1 arg2 harg2 arg3 harg3 arg4 harg4 arg5 harg5 arg6 harg6 arg7 harg7 arg8 harg8 hc0 hc1 x0 x1 x2 x3 xs0).1, y ∈ pc.1.set :=
  View.cover_of_tiledL (kernelRun1_C c i arg1 harg1 arg2 harg2 arg3 harg3 arg4 harg4 arg5 harg5 arg6 harg6 arg7 harg7 arg8 harg8 hc0 hc1 x0 x1 x2 x3 xs0).1 S768x128.size (by sl_kernel_rfl) y

/-- What case C leaves in output 4's staging buffer: its pieces read back over junk. -/
def out1_C_4 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : cond1_1 i)
    (x0 : Vec F S768x3584 .i8) (x1 : Vec F S768x128 .f32) (x2 : Vec F S2x3584x512 .i8) (x3 : Vec F S2x512 .f32) (xs0 : Vec F S768x128 .f32) : Vec F S768x512 .f32 :=
  VO1_4.read (Elt F) (VO1_4.writes (Elt F) VO1_4.junk (kernelRun1_C c i arg1 harg1 arg2 harg2 arg3 harg3 arg4 harg4 arg5 harg5 arg6 harg6 arg7 harg7 arg8 harg8 hc0 hc1 x0 x1 x2 x3 xs0).1)

/-- Case C's pieces for output 5 tile its block (1 store of `S768x128`, checked by the kernel's evaluation: Lib/Ring.lean `Piece.tiledL`, linear in the pieces, through a loop's `@[irreducible]` trip theorem too), so they cover it. -/
theorem cover1_C_5 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : cond1_1 i)
    (x0 : Vec F S768x3584 .i8) (x1 : Vec F S768x128 .f32) (x2 : Vec F S2x3584x512 .i8) (x3 : Vec F S2x512 .f32) (xs0 : Vec F S768x128 .f32) (y : S768x128.Idx) :
    ∃ pc ∈ (kernelRun1_C c i arg1 harg1 arg2 harg2 arg3 harg3 arg4 harg4 arg5 harg5 arg6 harg6 arg7 harg7 arg8 harg8 hc0 hc1 x0 x1 x2 x3 xs0).2.1, y ∈ pc.1.set :=
  View.cover_of_tiledL (kernelRun1_C c i arg1 harg1 arg2 harg2 arg3 harg3 arg4 harg4 arg5 harg5 arg6 harg6 arg7 harg7 arg8 harg8 hc0 hc1 x0 x1 x2 x3 xs0).2.1 S768x128.size (by sl_kernel_rfl) y

/-- What case C leaves in output 5's staging buffer: its pieces read back over junk. -/
def out1_C_5 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : cond1_1 i)
    (x0 : Vec F S768x3584 .i8) (x1 : Vec F S768x128 .f32) (x2 : Vec F S2x3584x512 .i8) (x3 : Vec F S2x512 .f32) (xs0 : Vec F S768x128 .f32) : Vec F S768x128 .f32 :=
  VO1_5.read (Elt F) (VO1_5.writes (Elt F) VO1_5.junk (kernelRun1_C c i arg1 harg1 arg2 harg2 arg3 harg3 arg4 harg4 arg5 harg5 arg6 harg6 arg7 harg7 arg8 harg8 hc0 hc1 x0 x1 x2 x3 xs0).2.1)

/-- Case C's pieces for output 6 tile its block (24 stores of `S1x32`, checked by the kernel's evaluation: Lib/Ring.lean `Piece.tiledL`, linear in the pieces, through a loop's `@[irreducible]` trip theorem too), so they cover it. -/
theorem cover1_C_6 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : cond1_1 i)
    (x0 : Vec F S768x3584 .i8) (x1 : Vec F S768x128 .f32) (x2 : Vec F S2x3584x512 .i8) (x3 : Vec F S2x512 .f32) (xs0 : Vec F S768x128 .f32) (y : S24x32.Idx) :
    ∃ pc ∈ (kernelRun1_C c i arg1 harg1 arg2 harg2 arg3 harg3 arg4 harg4 arg5 harg5 arg6 harg6 arg7 harg7 arg8 harg8 hc0 hc1 x0 x1 x2 x3 xs0).2.2.1, y ∈ pc.1.set :=
  View.cover_of_tiledL (kernelRun1_C c i arg1 harg1 arg2 harg2 arg3 harg3 arg4 harg4 arg5 harg5 arg6 harg6 arg7 harg7 arg8 harg8 hc0 hc1 x0 x1 x2 x3 xs0).2.2.1 S1x32.size (by sl_kernel_rfl) y

/-- What case C leaves in output 6's staging buffer: its pieces read back over junk. -/
def out1_C_6 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : cond1_1 i)
    (x0 : Vec F S768x3584 .i8) (x1 : Vec F S768x128 .f32) (x2 : Vec F S2x3584x512 .i8) (x3 : Vec F S2x512 .f32) (xs0 : Vec F S768x128 .f32) : Vec F S24x32 .f32 :=
  VO1_6.read (Elt F) (VO1_6.writes (Elt F) VO1_6.junk (kernelRun1_C c i arg1 harg1 arg2 harg2 arg3 harg3 arg4 harg4 arg5 harg5 arg6 harg6 arg7 harg7 arg8 harg8 hc0 hc1 x0 x1 x2 x3 xs0).2.2.1)

/-- Case C's pieces for scratch `arg8`, which the kernel carries between points, cover it: 1 piece of `S768x128` tiling it (Lib/Ring.lean `Piece.tiledL`). -/
theorem scover1_C_0 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : cond1_1 i)
    (x0 : Vec F S768x3584 .i8) (x1 : Vec F S768x128 .f32) (x2 : Vec F S2x3584x512 .i8) (x3 : Vec F S2x512 .f32) (xs0 : Vec F S768x128 .f32) (y : S768x128.Idx) :
    ∃ pc ∈ (kernelRun1_C c i arg1 harg1 arg2 harg2 arg3 harg3 arg4 harg4 arg5 harg5 arg6 harg6 arg7 harg7 arg8 harg8 hc0 hc1 x0 x1 x2 x3 xs0).2.2.2.1, y ∈ pc.1.set :=
  View.cover_of_tiledL (kernelRun1_C c i arg1 harg1 arg2 harg2 arg3 harg3 arg4 harg4 arg5 harg5 arg6 harg6 arg7 harg7 arg8 harg8 hc0 hc1 x0 x1 x2 x3 xs0).2.2.2.1 S768x128.size (by sl_kernel_rfl) y

/-- What case C leaves in scratch `arg8`: its pieces read back over junk. -/
def sout1_C_0 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : cond1_1 i)
    (x0 : Vec F S768x3584 .i8) (x1 : Vec F S768x128 .f32) (x2 : Vec F S2x3584x512 .i8) (x3 : Vec F S2x512 .f32) (xs0 : Vec F S768x128 .f32) : Vec F S768x128 .f32 :=
  VS1_0.read (Elt F) (VS1_0.writes (Elt F) VS1_0.junk (kernelRun1_C c i arg1 harg1 arg2 harg2 arg3 harg3 arg4 harg4 arg5 harg5 arg6 harg6 arg7 harg7 arg8 harg8 hc0 hc1 x0 x1 x2 x3 xs0).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S768x512 .f32 × Vec F S768x128 .f32 × Vec F S24x32 .f32 × Vec F S768x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 37 = 0 then
      if h1 : (n + 1) % 37 = 36 then
        False.elim (by have hN : n + 1 < 37 := lt_of_lt_of_eq hn (show cfg1.N = 37 from N_1); omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 37 = 36 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2.2.2, out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2.2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2.2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2.2.2)

/-- `outsAt1` at a point of case A: that case's contents. -/
theorem outsAt1_A (c : Dev nD) (t : Fin cfg1.N) (h0 : t.val % 37 = 0) (h1 : ¬t.val % 37 = 36) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk V c 0 t) (iblk V c 1 t) (iblk V c 2 t) (iblk V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk V c 0 t) (iblk V c 1 t) (iblk V c 2 t) (iblk V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk V c 0 t) (iblk V c 1 t) (iblk V c 2 t) (iblk V c 3 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 37 = 0) (h1 : ¬t.val % 37 = 36) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk V c 0 t) (iblk V c 1 t) (iblk V c 2 t) (iblk V c 3 t) (outsAt1 V c (t.val - 1) (Nat.lt_of_le_of_lt (Nat.sub_le _ _) t.isLt)).2.2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk V c 0 t) (iblk V c 1 t) (iblk V c 2 t) (iblk V c 3 t) (outsAt1 V c (t.val - 1) (Nat.lt_of_le_of_lt (Nat.sub_le _ _) t.isLt)).2.2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk V c 0 t) (iblk V c 1 t) (iblk V c 2 t) (iblk V c 3 t) (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk V c 0 t) (iblk V c 1 t) (iblk V c 2 t) (iblk V c 3 t) (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 37 = 0) (h1 : t.val % 37 = 36) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk V c 0 t) (iblk V c 1 t) (iblk V c 2 t) (iblk V c 3 t) (outsAt1 V c (t.val - 1) (Nat.lt_of_le_of_lt (Nat.sub_le _ _) t.isLt)).2.2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk V c 0 t) (iblk V c 1 t) (iblk V c 2 t) (iblk V c 3 t) (outsAt1 V c (t.val - 1) (Nat.lt_of_le_of_lt (Nat.sub_le _ _) t.isLt)).2.2.2, out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk V c 0 t) (iblk V c 1 t) (iblk V c 2 t) (iblk V c 3 t) (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk V c 0 t) (iblk V c 1 t) (iblk V c 2 t) (iblk V c 3 t) (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.2.2)) ∗ Rst (F := F) c)

/-- Before the first point the scratch is as the call finds it. -/
theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM1_0 fullShare ((outsAt1 V c n hn).2.2.2)) ∗ Rst (F := F) c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2.2.2)) ∗ Rst (F := F) c) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat (c : Dev nD) : Dat τ (Elt F) Unit ℕ (UR sig nD τ) ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Proc.devRef .tc (Pipeline.arrRef spec1 w)) := by
  dsimp only [dat]

/-- The invariant at a point's start (the proof data at `t.castSucc`), restated at `t.val`. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after1_0 (c : Dev nD) (t : Fin cfg1.N) : (dat V c).after 0 t = iblk V c 0 t := by dsimp only [dat]
/-- What a point leaves in this window's buffer. -/
theorem after1_1 (c : Dev nD) (t : Fin cfg1.N) : (dat V c).after 1 t = iblk V c 1 t := by dsimp only [dat]
/-- What a point leaves in this window's buffer. -/
theorem after1_2 (c : Dev nD) (t : Fin cfg1.N) : (dat V c).after 2 t = iblk V c 2 t := by dsimp only [dat]
/-- What a point leaves in this window's buffer. -/
theorem after1_3 (c : Dev nD) (t : Fin cfg1.N) : (dat V c).after 3 t = iblk V c 3 t := by dsimp only [dat]
/-- What a point leaves in this window's buffer. -/
theorem after1_4 (c : Dev nD) (t : Fin cfg1.N) : (dat V c).after 4 t = (outsAt1 V c t.val t.isLt).1 := by dsimp only [dat]
/-- What a point leaves in this window's buffer. -/
theorem after1_5 (c : Dev nD) (t : Fin cfg1.N) : (dat V c).after 5 t = (outsAt1 V c t.val t.isLt).2.1 := by dsimp only [dat]
/-- What a point leaves in this window's buffer. -/
theorem after1_6 (c : Dev nD) (t : Fin cfg1.N) : (dat V c).after 6 t = (outsAt1 V c t.val t.isLt).2.2.1 := by dsimp only [dat]

/-- Each input's current staging buffer holds its block at every point, fetched there or not (`beforeK_W_of`). -/
theorem before1_0 (c : Dev nD) (t : Fin cfg1.N) (d) : (dat V c).before 0 t d = iblk V c 0 t :=
  before1_0_of V (dat V c) (A_eq V c 0) (after1_0 V c) t d
/-- What a point finds in this window's buffer. -/
theorem before1_1 (c : Dev nD) (t : Fin cfg1.N) (d) : (dat V c).before 1 t d = iblk V c 1 t :=
  before1_1_of V (dat V c) (A_eq V c 1) (after1_1 V c) t d
/-- What a point finds in this window's buffer. -/
theorem before1_2 (c : Dev nD) (t : Fin cfg1.N) (d) : (dat V c).before 2 t d = iblk V c 2 t :=
  before1_2_of V (dat V c) (A_eq V c 2) (after1_2 V c) t d
/-- What a point finds in this window's buffer. -/
theorem before1_3 (c : Dev nD) (t : Fin cfg1.N) (d) : (dat V c).before 3 t d = iblk V c 3 t :=
  before1_3_of V (dat V c) (A_eq V c 3) (after1_3 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 9600000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat V c).owesAt () t.succ = (dat V c).owesAt () t.castSucc from rfl]
  rw [show (dat V c).Φ t.succ = PhiS V c (t.val + 1) t.isLt from rfl, PhiS_succ]
  have hN : t.val < 37 := lt_of_lt_of_eq t.isLt (show cfg1.N = 37 from N_1)
  by_cases h0 : t.val % 37 = 0
  · by_cases h1 : t.val % 37 = 36
    · exfalso; omega
    · rw [show (dat V c).leavesExact 0 t = owns (c : Thread nD τ) (ms1_0 t) fullShare ((dat V c).after 0 t) from by
      unfold Dat.leavesExact; rw [liveAt1_0 t], after1_0]
      rw [show (dat V c).leavesExact 1 t = owns (c : Thread nD τ) (ms1_1 t) fullShare ((dat V c).after 1 t) from by
      unfold Dat.leavesExact; rw [liveAt1_1 t], after1_1]
      rw [show (dat V c).leavesExact 2 t = owns (c : Thread nD τ) (ms1_2 t) fullShare ((dat V c).after 2 t) from by
      unfold Dat.leavesExact; rw [liveAt1_2 t], after1_2]
      rw [show (dat V c).leavesExact 3 t = owns (c : Thread nD τ) (ms1_3 t) fullShare ((dat V c).after 3 t) from by
      unfold Dat.leavesExact; rw [liveAt1_3 t], after1_3]
      rw [show (dat V c).leavesExact 4 t = owns (c : Thread nD τ) (ms1_4 t) fullShare ((dat V c).after 4 t) from by
      unfold Dat.leavesExact; rw [liveAt1_4 t], after1_4]
      rw [Dat.leavesExact_idle (dat V c) 5 t (idleAt1_5_A t ((hcond1_0 t).mpr h0) (fun h => h1 ((hcond1_1 t).mp h))) (noFlush1_5_A t ((hcond1_0 t).mpr h0) (fun h => h1 ((hcond1_1 t).mp h)))]
      rw [Dat.leavesExact_idle (dat V c) 6 t (idleAt1_6_A t ((hcond1_0 t).mpr h0) (fun h => h1 ((hcond1_1 t).mp h))) (noFlush1_6_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold out1_A_4 sout1_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk V c 0 t) (iblk V c 1 t) (iblk V c 2 t) (iblk V c 3 t)).2.2.2.2 _ _ Set.univ _)
        isplitl [H0]; · iexact H0
        isplitl [H1]; · iexact H1
        isplitl [H2]; · iexact H2
        isplitl [H3]; · iexact H3
        isplitl [H4]; · iexists _; iexact H4
        isplitl [H5]; · iexact H5
        isplitl [H6]; · iexact H6
        isplitl [HS0]; · iexact HS0
        iintro ⟨H0, H1, H2, H3, ⟨%e4, H4⟩, H5, H6, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_A_4 c _ _ _ _ _ _ _ _ _ _ _ _ _ _ _ _ _ _ _ _ _ _ _)
        isplitl [H5]; · iexists _; iexact H5
        iexists _; iexact H6
      · exfalso; have hN : t.val < 37 := lt_of_lt_of_eq t.isLt (show cfg1.N = 37 from N_1); omega
  · by_cases h1 : t.val % 37 = 36
    · rw [show (dat V c).leavesExact 0 t = owns (c : Thread nD τ) (ms1_0 t) fullShare ((dat V c).after 0 t) from by
      unfold Dat.leavesExact; rw [liveAt1_0 t], after1_0]
      rw [show (dat V c).leavesExact 1 t = owns (c : Thread nD τ) (ms1_1 t) fullShare ((dat V c).after 1 t) from by
      unfold Dat.leavesExact; rw [liveAt1_1 t], after1_1]
      rw [show (dat V c).leavesExact 2 t = owns (c : Thread nD τ) (ms1_2 t) fullShare ((dat V c).after 2 t) from by
      unfold Dat.leavesExact; rw [liveAt1_2 t], after1_2]
      rw [show (dat V c).leavesExact 3 t = owns (c : Thread nD τ) (ms1_3 t) fullShare ((dat V c).after 3 t) from by
      unfold Dat.leavesExact; rw [liveAt1_3 t], after1_3]
      rw [show (dat V c).leavesExact 4 t = owns (c : Thread nD τ) (ms1_4 t) fullShare ((dat V c).after 4 t) from by
      unfold Dat.leavesExact; rw [liveAt1_4 t], after1_4]
      rw [show (dat V c).leavesExact 5 t = owns (c : Thread nD τ) (ms1_5 t) fullShare ((dat V c).after 5 t) from by
      unfold Dat.leavesExact; rw [liveAt1_5_C t (fun h => h0 ((hcond1_0 t).mp h)) ((hcond1_1 t).mpr h1)], after1_5]
      rw [show (dat V c).leavesExact 6 t = owns (c : Thread nD τ) (ms1_6 t) fullShare ((dat V c).after 6 t) from by
      unfold Dat.leavesExact; rw [liveAt1_6_C t (fun h => h0 ((hcond1_0 t).mp h)) ((hcond1_1 t).mpr h1)], after1_6]
      by_cases hz : t.val = 0
      · exfalso; have hN : t.val < 37 := lt_of_lt_of_eq t.isLt (show cfg1.N = 37 from N_1); omega
      · rw [PhiS_castSucc V c t, PhiS_pos V c _ _ hz]
        rw [outsAt1_C V c t h0 h1]
        unfold out1_C_4 out1_C_5 out1_C_6 sout1_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk V c 0 t) (iblk V c 1 t) (iblk V c 2 t) (iblk V c 3 t) _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexact HS0
        iintro ⟨H0, H1, H2, H3, ⟨%e4, H4⟩, ⟨%e5, H5⟩, ⟨%e6, H6⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_C_4 c _ _ _ _ _ _ _ _ _ _ _ _ _ _ _ _ _ _ _ _ _ _ _ _)
        isplitl [H5]
        · unfold owns; iexists _; isplitr
          swap; · iexact H5
          ipureintro; exact View.read_writes_of_cover _ _ _ _ _ (cover1_C_5 c _ _ _ _ _ _ _ _ _ _ _ _ _ _ _ _ _ _ _ _ _ _ _ _)
        unfold owns; iexists _; isplitr
        swap; · iexact H6
        ipureintro; exact View.read_writes_of_cover _ _ _ _ _ (cover1_C_6 c _ _ _ _ _ _ _ _ _ _ _ _ _ _ _ _ _ _ _ _ _ _ _ _)
    · rw [show (dat V c).leavesExact 0 t = owns (c : Thread nD τ) (ms1_0 t) fullShare ((dat V c).after 0 t) from by
      unfold Dat.leavesExact; rw [liveAt1_0 t], after1_0]
      rw [show (dat V c).leavesExact 1 t = owns (c : Thread nD τ) (ms1_1 t) fullShare ((dat V c).after 1 t) from by
      unfold Dat.leavesExact; rw [liveAt1_1 t], after1_1]
      rw [show (dat V c).leavesExact 2 t = owns (c : Thread nD τ) (ms1_2 t) fullShare ((dat V c).after 2 t) from by
      unfold Dat.leavesExact; rw [liveAt1_2 t], after1_2]
      rw [show (dat V c).leavesExact 3 t = owns (c : Thread nD τ) (ms1_3 t) fullShare ((dat V c).after 3 t) from by
      unfold Dat.leavesExact; rw [liveAt1_3 t], after1_3]
      rw [show (dat V c).leavesExact 4 t = owns (c : Thread nD τ) (ms1_4 t) fullShare ((dat V c).after 4 t) from by
      unfold Dat.leavesExact; rw [liveAt1_4 t], after1_4]
      rw [Dat.leavesExact_idle (dat V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [Dat.leavesExact_idle (dat V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      by_cases hz : t.val = 0
      · exfalso; have hN : t.val < 37 := lt_of_lt_of_eq t.isLt (show cfg1.N = 37 from N_1); omega
      · rw [PhiS_castSucc V c t, PhiS_pos V c _ _ hz]
        rw [outsAt1_B V c t h0 h1]
        unfold out1_B_4 sout1_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk V c 0 t) (iblk V c 1 t) (iblk V c 2 t) (iblk V c 3 t) _).2.2.2.2 _ _ Set.univ _)
        isplitl [H0]; · iexact H0
        isplitl [H1]; · iexact H1
        isplitl [H2]; · iexact H2
        isplitl [H3]; · iexact H3
        isplitl [H4]; · iexists _; iexact H4
        isplitl [H5]; · iexact H5
        isplitl [H6]; · iexact H6
        isplitl [HS0]; · iexact HS0
        iintro ⟨H0, H1, H2, H3, ⟨%e4, H4⟩, H5, H6, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_B_4 c _ _ _ _ _ _ _ _ _ _ _ _ _ _ _ _ _ _ _ _ _ _ _ _)
        isplitl [H5]; · iexists _; iexact H5
        iexists _; iexact H6

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨HS0, Hg⟩
  isplitl [HS0]
  · iexists _; iexact HS0
  iexact Hg

/-- The same after the last point. -/
theorem hout (c : Dev nD) : (dat V c).Φ (Fin.last cfg1.N) ⊢ Pipeline.ΦA spec1 c :=
  Phi_out V c _ (by rw [Fin.val_last]; have : cfg1.N = 37 := N_1; omega)

end Cert.KernelIdeal.K1

end
-- ==== Proof.K2.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.K2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))
/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Proc.devRef .tc (Pipeline.arrRef spec2 0)))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Proc.devRef .tc (Pipeline.arrRef spec2 1)))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Proc.devRef .tc (Pipeline.arrRef spec2 2)))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Proc.devRef .tc (Pipeline.arrRef spec2 3)))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Proc.devRef .tc (Pipeline.arrRef spec2 4)))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 0).val) 0#32)) 0#32) = 1#1
/-- It holds at the first point only — by arithmetic of the point. -/
theorem hcond2_0 : ∀ t : Fin cfg2.N, cond2_0 (grid2.coords t) ↔ t.val % 37 = 0 :=
  (fun t => by
    have ht : t.val < 37 := Nat.lt_of_lt_of_eq t.isLt N_2
    have e0 : (grid2.coords t 0).val = t.val / 1 % 37 := Pipeline.Grid.coords_val t 0 (by decide) rfl
    simp only [cond2_0, e0]
    word_cmp
   : ∀ t : Fin grid2.N, cond2_0 (grid2.coords t) ↔ t.val % 37 = 0)

/-- The condition of the body's `scf.if` 1 (`k2_h2`), from the grid coordinates (the skeleton's scalar
    chain substituted). -/
abbrev cond2_1 (i : grid2.Coords) : Prop := k2_cond2 i = 1#1
/-- It holds at the last point only — by arithmetic of the point. -/
theorem hcond2_1 : ∀ t : Fin cfg2.N, cond2_1 (grid2.coords t) ↔ t.val % 37 = 36 :=
  (fun t => by
    have ht : t.val < 37 := Nat.lt_of_lt_of_eq t.isLt N_2
    have e0 : (grid2.coords t 0).val = t.val / 1 % 37 := Pipeline.Grid.coords_val t 0 (by decide) rfl
    simp only [cond2_1, k2_cond2, e0]
    word_cmp
   : ∀ t : Fin grid2.N, cond2_1 (grid2.coords t) ↔ t.val % 37 = 36)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an input). -/
theorem liveAt2_2 : ∀ t : Fin cfg2.N, cfg2.idle 2 (grid2.coords t) = false := fun _ => rfl
/-- Window 3 is never idle (an input). -/
theorem liveAt2_3 : ∀ t : Fin cfg2.N, cfg2.idle 3 (grid2.coords t) = false := fun _ => rfl
/-- Window 4 is never idle (an input). -/
theorem liveAt2_4 : ∀ t : Fin cfg2.N, cfg2.idle 4 (grid2.coords t) = false := fun _ => rfl
/-- Window 6 is never idle (an output stored at every point, under no condition). -/
theorem liveAt2_6 : ∀ t : Fin cfg2.N, cfg2.idle 6 (grid2.coords t) = false := fun _ => rfl
/-- At the points of case A the printed configuration (`Cfg.idle`) calls output 5 idle: the case stores nothing into it. -/
theorem idleAt2_5_A : ∀ t : Fin cfg2.N, cond2_0 (grid2.coords t) → ¬cond2_1 (grid2.coords t) → cfg2.idle 5 (grid2.coords t) = true := by decide +kernel
/-- At the points of case A the pipeline does not write output 5's block back. -/
theorem noFlush2_5_A : ∀ t : Fin cfg2.N, cond2_0 (grid2.coords t) → ¬cond2_1 (grid2.coords t) → (cfg2.win 5).flush t = false := by decide +kernel
/-- At the points of case B the printed configuration (`Cfg.idle`) calls output 5 idle: the case stores nothing into it. -/
theorem idleAt2_5_B : ∀ t : Fin cfg2.N, ¬cond2_0 (grid2.coords t) → ¬cond2_1 (grid2.coords t) → cfg2.idle 5 (grid2.coords t) = true := by decide +kernel
/-- At the points of case B the pipeline does not write output 5's block back. -/
theorem noFlush2_5_B : ∀ t : Fin cfg2.N, ¬cond2_0 (grid2.coords t) → ¬cond2_1 (grid2.coords t) → (cfg2.win 5).flush t = false := by decide +kernel
/-- At the points of case C the printed configuration (`Cfg.idle`) calls output 5 live: the case stores into it. -/
theorem liveAt2_5_C : ∀ t : Fin cfg2.N, ¬cond2_0 (grid2.coords t) → cond2_1 (grid2.coords t) → cfg2.idle 5 (grid2.coords t) = false := by decide +kernel

/-! ## The kernel body on any staging memrefs: a subtype the run finds -/

/-- One staging buffer of output window 5, through which its contents are stated (`View.read_writes_of_cover`: the
    choice does not matter). -/
abbrev VO2_5 : View sig .tc .vmem S768x3584 .bf16 := (Memref.whole cc2_stg5_0 : Memref sig .tc .vmem S768x3584 .bf16).view
/-- One staging buffer of output window 6, through which its contents are stated (`View.read_writes_of_cover`: the
    choice does not matter). -/
abbrev VO2_6 : View sig .tc .vmem S768x512 .i8 := (Memref.whole cc2_stg6_0 : Memref sig .tc .vmem S768x512 .i8).view
/-- Each window's current staging memref at point `t`, spelled as the pipeline passes it (`bodyAt2`), and its wholeness. -/
abbrev ms2_0 (t : Fin cfg2.N) : Memref sig .tc .vmem S768x512 .f32 := win2_0.stage (cfg2.slots t 0)
/-- The buffer of this window at a point is a whole array. -/
abbrev hs2_0 (t : Fin cfg2.N) : (ms2_0 t).IsWhole := hstage2_0 ((cfg2.slots t 0).cast nbuf2_0)
/-- The buffer of this window at a point. -/
abbrev ms2_1 (t : Fin cfg2.N) : Memref sig .tc .vmem S768x128 .f32 := win2_1.stage (cfg2.slots t 1)
/-- The buffer of this window at a point is a whole array. -/
abbrev hs2_1 (t : Fin cfg2.N) : (ms2_1 t).IsWhole := hstage2_1 ((cfg2.slots t 1).cast nbuf2_1)
/-- The buffer of this window at a point. -/
abbrev ms2_2 (t : Fin cfg2.N) : Memref sig .tc .vmem S512x3584 .i8 := win2_2.stage (cfg2.slots t 2)
/-- The buffer of this window at a point is a whole array. -/
abbrev hs2_2 (t : Fin cfg2.N) : (ms2_2 t).IsWhole := hstage2_2 ((cfg2.slots t 2).cast nbuf2_2)
/-- The buffer of this window at a point. -/
abbrev ms2_3 (t : Fin cfg2.N) : Memref sig .tc .vmem S1x3584 .f32 := win2_3.stage (cfg2.slots t 3)
/-- The buffer of this window at a point is a whole array. -/
abbrev hs2_3 (t : Fin cfg2.N) : (ms2_3 t).IsWhole := hstage2_3 ((cfg2.slots t 3).cast nbuf2_3)
/-- The buffer of this window at a point. -/
abbrev ms2_4 (t : Fin cfg2.N) : Memref sig .tc .vmem S768x3584 .f32 := win2_4.stage (cfg2.slots t 4)
/-- The buffer of this window at a point is a whole array. -/
abbrev hs2_4 (t : Fin cfg2.N) : (ms2_4 t).IsWhole := hstage2_4 ((cfg2.slots t 4).cast nbuf2_4)
/-- The buffer of this window at a point. -/
abbrev ms2_5 (t : Fin cfg2.N) : Memref sig .tc .vmem S768x3584 .bf16 := win2_5.stage (cfg2.slots t 5)
/-- The buffer of this window at a point is a whole array. -/
abbrev hs2_5 (t : Fin cfg2.N) : (ms2_5 t).IsWhole := hstage2_5 ((cfg2.slots t 5).cast nbuf2_5)
/-- The buffer of this window at a point. -/
abbrev ms2_6 (t : Fin cfg2.N) : Memref sig .tc .vmem S768x512 .i8 := win2_6.stage (cfg2.slots t 6)
/-- The buffer of this window at a point is a whole array. -/
abbrev hs2_6 (t : Fin cfg2.N) : (ms2_6 t).IsWhole := hstage2_6 ((cfg2.slots t 6).cast nbuf2_6)
/-- The scratch operands: whole scoped buffers of the kernel's own, passed beside the windows. -/
abbrev scM2_0 : Memref sig .tc .vmem S768x3584 .f32 := Memref.whole cc2_scratch0
/-- The scratch `arg8` the kernel carries between points, as a view: what it holds is stated through it. -/
abbrev VS2_0 : View sig .tc .vmem S768x3584 .f32 := scM2_0.view

/-- The scoped buffers that belong to the other two calls, each whole at some contents, and the generator register. -/
def Rst (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_scratch0), ((c : Thread nD τ).loc cc1_scratch0) ↦{fullShare} f)) ∗ (∃ r, prngReg c r))

/-- What the region is handed besides its windows: the scratch operand at some contents and the rest. -/
theorem PhiA2_eq (c : Dev nD) :
    (Pipeline.ΦA spec2 c : sProp 𝕄)
      = iprop(iprop((∃ d, owns (c : Thread nD τ) scM2_0 fullShare d)) ∗ Rst (F := F) c) := by
  unfold Pipeline.ΦA Rst
  rw [Pipeline.scopedRest_eq_of_list spec2 c [cc2_scratch0, cc0_stg0_0, cc0_stg0_1, cc0_stg1_0, cc0_stg2_0, cc0_stg2_1, cc0_stg3_0, cc0_stg3_1, cc0_stg4_0, cc1_stg0_0, cc1_stg1_0, cc1_stg2_0, cc1_stg2_1, cc1_stg3_0, cc1_stg3_1, cc1_stg4_0, cc1_stg4_1, cc1_stg5_0, cc1_stg6_0, cc1_scratch0] (by decide) (by decide)]
  simp only [scM2_0, owns_whole]
  exact Idealize.SL.BI.equiv_iff.mp ⟨Idealize.SL.BI.sep_assoc, Idealize.SL.BI.sep_assoc'⟩

end Cert.KernelIdeal.K2

end
-- ==== Proof.K2.RunA.lean ====
module

public import proofs.«01_k».proof.Proof.K2.Runs

@[expose] public section

-- membership in a rectangle of production extents (`View.cover_of_tiled`): the elaborator's structural look
-- recurses once per coordinate of the long axes
set_option maxRecDepth 16384

noncomputable section

namespace Cert.KernelIdeal.K2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : cond2_0 i) (hc1 : ¬cond2_1 i)
    (x0 : Vec F S768x512 .f32) (x1 : Vec F S768x128 .f32) (x2 : Vec F S512x3584 .i8) (x3 : Vec F S1x3584 .f32) (x4 : Vec F S768x3584 .f32) :
    Σ' (L5 : List (View.Piece (Elt F) S768x3584 .bf16)), Σ' (L6 : List (View.Piece (Elt F) S768x512 .i8)), { LS0 : List (View.Piece (Elt F) S768x3584 .f32) //
      ∀ (xi5 : Vec F S768x3584 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc2_down i arg1 harg1 arg2 harg2 arg3 harg3 arg4 harg4 arg5 harg5 arg6 harg6 arg7 harg7 arg8 harg8) K } := by
  refine ⟨[], ?_, ?_, fun xi5 E K => ?run⟩
  case run =>
    simp only [cc2_down_eq_skeleton]; unfold cc2_down_skel
    simp only [k2_part10_eq_skeleton, k2_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.KernelIdeal.K2

end
-- ==== Proof.K2.RunB.lean ====
module

public import proofs.«01_k».proof.Proof.K2.RunA

@[expose] public section

-- membership in a rectangle of production extents (`View.cover_of_tiled`): the elaborator's structural look
-- recurses once per coordinate of the long axes
set_option maxRecDepth 16384

noncomputable section

namespace Cert.KernelIdeal.K2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 35: 35 of 37), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : ¬cond2_1 i)
    (x0 : Vec F S768x512 .f32) (x1 : Vec F S768x128 .f32) (x2 : Vec F S512x3584 .i8) (x3 : Vec F S1x3584 .f32) (x4 : Vec F S768x3584 .f32) (xs0 : Vec F S768x3584 .f32) :
    Σ' (L5 : List (View.Piece (Elt F) S768x3584 .bf16)), Σ' (L6 : List (View.Piece (Elt F) S768x512 .i8)), { LS0 : List (View.Piece (Elt F) S768x3584 .f32) //
      ∀ (xi5 : Vec F S768x3584 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc2_down i arg1 harg1 arg2 harg2 arg3 harg3 arg4 harg4 arg5 harg5 arg6 harg6 arg7 harg7 arg8 harg8) K } := by
  refine ⟨[], ?_, ?_, fun xi5 E K => ?run⟩
  case run =>
    simp only [cc2_down_eq_skeleton]; unfold cc2_down_skel
    simp only [k2_part10_eq_skeleton, k2_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.KernelIdeal.K2

end
-- ==== Proof.K2.RunC.lean ====
module

public import proofs.«01_k».proof.Proof.K2.RunB

@[expose] public section

-- membership in a rectangle of production extents (`View.cover_of_tiled`): the elaborator's structural look
-- recurses once per coordinate of the long axes
set_option maxRecDepth 16384

noncomputable section

namespace Cert.KernelIdeal.K2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

-- (the run's proof term is large: the definition's epilogue — `abstractNestedProofs` — walks it past the default budget)
set_option maxHeartbeats 1000000 in
/-- What the body's stores leave in each output's staging memref, as pieces (last first) IN CASE C (`scf.if` 0 not taken, `scf.if` 1 taken: points 36), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_C (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : cond2_1 i)
    (x0 : Vec F S768x512 .f32) (x1 : Vec F S768x128 .f32) (x2 : Vec F S512x3584 .i8) (x3 : Vec F S1x3584 .f32) (x4 : Vec F S768x3584 .f32) (xs0 : Vec F S768x3584 .f32) :
    Σ' (L5 : List (View.Piece (Elt F) S768x3584 .bf16)), Σ' (L6 : List (View.Piece (Elt F) S768x512 .i8)), { LS0 : List (View.Piece (Elt F) S768x3584 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc2_down i arg1 harg1 arg2 harg2 arg3 harg3 arg4 harg4 arg5 harg5 arg6 harg6 arg7 harg7 arg8 harg8) K } := by
  refine ⟨?_, ?_, ?_, fun E K => ?run⟩
  case run =>
    simp only [cc2_down_eq_skeleton]; unfold cc2_down_skel
    simp only [k2_part10_eq_skeleton, k2_part11_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact HS0

end Cert.KernelIdeal.K2

end
-- ==== Proof.K2.Body.lean ====
module

public import proofs.«01_k».proof.Proof.K2.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.K2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))
/-- Case A stores nothing into output 5 (the window is idle at its points and not written back there):
    no pieces — a placeholder (junk read back) that nothing consults, since at these points the window is neither
    written back nor read at the next point (Lib/Pipeline.lean "Idle points"). -/
def out2_A_5 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : cond2_0 i) (hc1 : ¬cond2_1 i)
    (x0 : Vec F S768x512 .f32) (x1 : Vec F S768x128 .f32) (x2 : Vec F S512x3584 .i8) (x3 : Vec F S1x3584 .f32) (x4 : Vec F S768x3584 .f32) : Vec F S768x3584 .bf16 :=
  VO2_5.read (Elt F) (VO2_5.writes (Elt F) VO2_5.junk (kernelRun2_A c i arg1 harg1 arg2 harg2 arg3 harg3 arg4 harg4 arg5 harg5 arg6 harg6 arg7 harg7 arg8 harg8 hc0 hc1 x0 x1 x2 x3 x4).1)

/-- Case A's pieces for output 6 tile its block (1 store of `S768x512`, checked by the kernel's evaluation: Lib/Ring.lean `Piece.tiledL`, linear in the pieces, through a loop's `@[irreducible]` trip theorem too), so they cover it. -/
theorem cover2_A_6 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : cond2_0 i) (hc1 : ¬cond2_1 i)
    (x0 : Vec F S768x512 .f32) (x1 : Vec F S768x128 .f32) (x2 : Vec F S512x3584 .i8) (x3 : Vec F S1x3584 .f32) (x4 : Vec F S768x3584 .f32) (y : S768x512.Idx) :
    ∃ pc ∈ (kernelRun2_A c i arg1 harg1 arg2 harg2 arg3 harg3 arg4 harg4 arg5 harg5 arg6 harg6 arg7 harg7 arg8 harg8 hc0 hc1 x0 x1 x2 x3 x4).2.1, y ∈ pc.1.set :=
  View.cover_of_tiledL (kernelRun2_A c i arg1 harg1 arg2 harg2 arg3 harg3 arg4 harg4 arg5 harg5 arg6 harg6 arg7 harg7 arg8 harg8 hc0 hc1 x0 x1 x2 x3 x4).2.1 S768x512.size (by sl_kernel_rfl) y

/-- What case A leaves in output 6's staging buffer: its pieces read back over junk. -/
def out2_A_6 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : cond2_0 i) (hc1 : ¬cond2_1 i)
    (x0 : Vec F S768x512 .f32) (x1 : Vec F S768x128 .f32) (x2 : Vec F S512x3584 .i8) (x3 : Vec F S1x3584 .f32) (x4 : Vec F S768x3584 .f32) : Vec F S768x512 .i8 :=
  VO2_6.read (Elt F) (VO2_6.writes (Elt F) VO2_6.junk (kernelRun2_A c i arg1 harg1 arg2 harg2 arg3 harg3 arg4 harg4 arg5 harg5 arg6 harg6 arg7 harg7 arg8 harg8 hc0 hc1 x0 x1 x2 x3 x4).2.1)

/-- Case A's pieces for scratch `arg8`, which the kernel carries between points, cover it: 2 pieces of `S768x3584` tiling it (Lib/Ring.lean `Piece.tiledL`). -/
theorem scover2_A_0 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : cond2_0 i) (hc1 : ¬cond2_1 i)
    (x0 : Vec F S768x512 .f32) (x1 : Vec F S768x128 .f32) (x2 : Vec F S512x3584 .i8) (x3 : Vec F S1x3584 .f32) (x4 : Vec F S768x3584 .f32) (y : S768x3584.Idx) :
    ∃ pc ∈ (kernelRun2_A c i arg1 harg1 arg2 harg2 arg3 harg3 arg4 harg4 arg5 harg5 arg6 harg6 arg7 harg7 arg8 harg8 hc0 hc1 x0 x1 x2 x3 x4).2.2.1, y ∈ pc.1.set :=
  View.cover_of_tiledL (kernelRun2_A c i arg1 harg1 arg2 harg2 arg3 harg3 arg4 harg4 arg5 harg5 arg6 harg6 arg7 harg7 arg8 harg8 hc0 hc1 x0 x1 x2 x3 x4).2.2.1 S768x3584.size (by sl_kernel_rfl) y

/-- What case A leaves in scratch `arg8`: its pieces read back over junk. -/
def sout2_A_0 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : cond2_0 i) (hc1 : ¬cond2_1 i)
    (x0 : Vec F S768x512 .f32) (x1 : Vec F S768x128 .f32) (x2 : Vec F S512x3584 .i8) (x3 : Vec F S1x3584 .f32) (x4 : Vec F S768x3584 .f32) : Vec F S768x3584 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2 x3 x4).2.2.1)

/-- Case B stores nothing into output 5 (the window is idle at its points and not written back there):
    no pieces — a placeholder (junk read back) that nothing consults, since at these points the window is neither
    written back nor read at the next point (Lib/Pipeline.lean "Idle points"). -/
def out2_B_5 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : ¬cond2_1 i)
    (x0 : Vec F S768x512 .f32) (x1 : Vec F S768x128 .f32) (x2 : Vec F S512x3584 .i8) (x3 : Vec F S1x3584 .f32) (x4 : Vec F S768x3584 .f32) (xs0 : Vec F S768x3584 .f32) : Vec F S768x3584 .bf16 :=
  VO2_5.read (Elt F) (VO2_5.writes (Elt F) VO2_5.junk (kernelRun2_B c i arg1 harg1 arg2 harg2 arg3 harg3 arg4 harg4 arg5 harg5 arg6 harg6 arg7 harg7 arg8 harg8 hc0 hc1 x0 x1 x2 x3 x4 xs0).1)

/-- Case B's pieces for output 6 tile its block (1 store of `S768x512`, checked by the kernel's evaluation: Lib/Ring.lean `Piece.tiledL`, linear in the pieces, through a loop's `@[irreducible]` trip theorem too), so they cover it. -/
theorem cover2_B_6 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : ¬cond2_1 i)
    (x0 : Vec F S768x512 .f32) (x1 : Vec F S768x128 .f32) (x2 : Vec F S512x3584 .i8) (x3 : Vec F S1x3584 .f32) (x4 : Vec F S768x3584 .f32) (xs0 : Vec F S768x3584 .f32) (y : S768x512.Idx) :
    ∃ pc ∈ (kernelRun2_B c i arg1 harg1 arg2 harg2 arg3 harg3 arg4 harg4 arg5 harg5 arg6 harg6 arg7 harg7 arg8 harg8 hc0 hc1 x0 x1 x2 x3 x4 xs0).2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 x4 xs0).2.1 S768x512.size (by sl_kernel_rfl) y

/-- What case B leaves in output 6's staging buffer: its pieces read back over junk. -/
def out2_B_6 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : ¬cond2_1 i)
    (x0 : Vec F S768x512 .f32) (x1 : Vec F S768x128 .f32) (x2 : Vec F S512x3584 .i8) (x3 : Vec F S1x3584 .f32) (x4 : Vec F S768x3584 .f32) (xs0 : Vec F S768x3584 .f32) : Vec F S768x512 .i8 :=
  VO2_6.read (Elt F) (VO2_6.writes (Elt F) VO2_6.junk (kernelRun2_B c i arg1 harg1 arg2 harg2 arg3 harg3 arg4 harg4 arg5 harg5 arg6 harg6 arg7 harg7 arg8 harg8 hc0 hc1 x0 x1 x2 x3 x4 xs0).2.1)

/-- Case B's pieces for scratch `arg8`, which the kernel carries between points, cover it: 1 piece of `S768x3584` tiling it (Lib/Ring.lean `Piece.tiledL`). -/
theorem scover2_B_0 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : ¬cond2_1 i)
    (x0 : Vec F S768x512 .f32) (x1 : Vec F S768x128 .f32) (x2 : Vec F S512x3584 .i8) (x3 : Vec F S1x3584 .f32) (x4 : Vec F S768x3584 .f32) (xs0 : Vec F S768x3584 .f32) (y : S768x3584.Idx) :
    ∃ pc ∈ (kernelRun2_B c i arg1 harg1 arg2 harg2 arg3 harg3 arg4 harg4 arg5 harg5 arg6 harg6 arg7 harg7 arg8 harg8 hc0 hc1 x0 x1 x2 x3 x4 xs0).2.2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 x4 xs0).2.2.1 S768x3584.size (by sl_kernel_rfl) y

/-- What case B leaves in scratch `arg8`: its pieces read back over junk. -/
def sout2_B_0 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : ¬cond2_1 i)
    (x0 : Vec F S768x512 .f32) (x1 : Vec F S768x128 .f32) (x2 : Vec F S512x3584 .i8) (x3 : Vec F S1x3584 .f32) (x4 : Vec F S768x3584 .f32) (xs0 : Vec F S768x3584 .f32) : Vec F S768x3584 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 x3 x4 xs0).2.2.1)

/-- Case C's pieces for output 5 tile its block (28 stores of `S768x128`, checked by the kernel's evaluation: Lib/Ring.lean `Piece.tiledL`, linear in the pieces, through a loop's `@[irreducible]` trip theorem too), so they cover it. -/
theorem cover2_C_5 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : cond2_1 i)
    (x0 : Vec F S768x512 .f32) (x1 : Vec F S768x128 .f32) (x2 : Vec F S512x3584 .i8) (x3 : Vec F S1x3584 .f32) (x4 : Vec F S768x3584 .f32) (xs0 : Vec F S768x3584 .f32) (y : S768x3584.Idx) :
    ∃ pc ∈ (kernelRun2_C c i arg1 harg1 arg2 harg2 arg3 harg3 arg4 harg4 arg5 harg5 arg6 harg6 arg7 harg7 arg8 harg8 hc0 hc1 x0 x1 x2 x3 x4 xs0).1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 xs0).1 S768x128.size (by sl_kernel_rfl) y

/-- What case C leaves in output 5's staging buffer: its pieces read back over junk. -/
def out2_C_5 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : cond2_1 i)
    (x0 : Vec F S768x512 .f32) (x1 : Vec F S768x128 .f32) (x2 : Vec F S512x3584 .i8) (x3 : Vec F S1x3584 .f32) (x4 : Vec F S768x3584 .f32) (xs0 : Vec F S768x3584 .f32) : Vec F S768x3584 .bf16 :=
  VO2_5.read (Elt F) (VO2_5.writes (Elt F) VO2_5.junk (kernelRun2_C c i arg1 harg1 arg2 harg2 arg3 harg3 arg4 harg4 arg5 harg5 arg6 harg6 arg7 harg7 arg8 harg8 hc0 hc1 x0 x1 x2 x3 x4 xs0).1)

/-- Case C's pieces for output 6 tile its block (1 store of `S768x512`, checked by the kernel's evaluation: Lib/Ring.lean `Piece.tiledL`, linear in the pieces, through a loop's `@[irreducible]` trip theorem too), so they cover it. -/
theorem cover2_C_6 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : cond2_1 i)
    (x0 : Vec F S768x512 .f32) (x1 : Vec F S768x128 .f32) (x2 : Vec F S512x3584 .i8) (x3 : Vec F S1x3584 .f32) (x4 : Vec F S768x3584 .f32) (xs0 : Vec F S768x3584 .f32) (y : S768x512.Idx) :
    ∃ pc ∈ (kernelRun2_C c i arg1 harg1 arg2 harg2 arg3 harg3 arg4 harg4 arg5 harg5 arg6 harg6 arg7 harg7 arg8 harg8 hc0 hc1 x0 x1 x2 x3 x4 xs0).2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 xs0).2.1 S768x512.size (by sl_kernel_rfl) y

/-- What case C leaves in output 6's staging buffer: its pieces read back over junk. -/
def out2_C_6 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : cond2_1 i)
    (x0 : Vec F S768x512 .f32) (x1 : Vec F S768x128 .f32) (x2 : Vec F S512x3584 .i8) (x3 : Vec F S1x3584 .f32) (x4 : Vec F S768x3584 .f32) (xs0 : Vec F S768x3584 .f32) : Vec F S768x512 .i8 :=
  VO2_6.read (Elt F) (VO2_6.writes (Elt F) VO2_6.junk (kernelRun2_C c i arg1 harg1 arg2 harg2 arg3 harg3 arg4 harg4 arg5 harg5 arg6 harg6 arg7 harg7 arg8 harg8 hc0 hc1 x0 x1 x2 x3 x4 xs0).2.1)

/-- Case C's pieces for scratch `arg8`, which the kernel carries between points, cover it: 1 piece of `S768x3584` tiling it (Lib/Ring.lean `Piece.tiledL`). -/
theorem scover2_C_0 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : cond2_1 i)
    (x0 : Vec F S768x512 .f32) (x1 : Vec F S768x128 .f32) (x2 : Vec F S512x3584 .i8) (x3 : Vec F S1x3584 .f32) (x4 : Vec F S768x3584 .f32) (xs0 : Vec F S768x3584 .f32) (y : S768x3584.Idx) :
    ∃ pc ∈ (kernelRun2_C c i arg1 harg1 arg2 harg2 arg3 harg3 arg4 harg4 arg5 harg5 arg6 harg6 arg7 harg7 arg8 harg8 hc0 hc1 x0 x1 x2 x3 x4 xs0).2.2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 xs0).2.2.1 S768x3584.size (by sl_kernel_rfl) y

/-- What case C leaves in scratch `arg8`: its pieces read back over junk. -/
def sout2_C_0 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : cond2_1 i)
    (x0 : Vec F S768x512 .f32) (x1 : Vec F S768x128 .f32) (x2 : Vec F S512x3584 .i8) (x3 : Vec F S1x3584 .f32) (x4 : Vec F S768x3584 .f32) (xs0 : Vec F S768x3584 .f32) : Vec F S768x3584 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 x3 x4 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S768x3584 .bf16 × Vec F S768x512 .i8 × Vec F S768x3584 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk V c 0 ⟨0, hn⟩) (iblk V c 1 ⟨0, hn⟩) (iblk V c 2 ⟨0, hn⟩) (iblk V c 3 ⟨0, hn⟩) (iblk V c 4 ⟨0, hn⟩), out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk V c 0 ⟨0, hn⟩) (iblk V c 1 ⟨0, hn⟩) (iblk V c 2 ⟨0, hn⟩) (iblk V c 3 ⟨0, hn⟩) (iblk V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 37 = 0 then
      if h1 : (n + 1) % 37 = 36 then
        False.elim (by have hN : n + 1 < 37 := lt_of_lt_of_eq hn (show cfg2.N = 37 from N_2); omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      if h1 : (n + 1) % 37 = 36 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt2 c n (Nat.lt_of_succ_lt hn)).2.2, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt2 c n (Nat.lt_of_succ_lt hn)).2.2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt2 c n (Nat.lt_of_succ_lt hn)).2.2, out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt2 c n (Nat.lt_of_succ_lt hn)).2.2)

/-- `outsAt2` at a point of case A: that case's contents. -/
theorem outsAt2_A (c : Dev nD) (t : Fin cfg2.N) (h0 : t.val % 37 = 0) (h1 : ¬t.val % 37 = 36) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk V c 0 t) (iblk V c 1 t) (iblk V c 2 t) (iblk V c 3 t) (iblk V c 4 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk V c 0 t) (iblk V c 1 t) (iblk V c 2 t) (iblk V c 3 t) (iblk V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk V c 0 t) (iblk V c 1 t) (iblk V c 2 t) (iblk V c 3 t) (iblk V c 4 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 37 = 0) (h1 : ¬t.val % 37 = 36) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk V c 0 t) (iblk V c 1 t) (iblk V c 2 t) (iblk V c 3 t) (iblk V c 4 t) (outsAt2 V c (t.val - 1) (Nat.lt_of_le_of_lt (Nat.sub_le _ _) t.isLt)).2.2, out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk V c 0 t) (iblk V c 1 t) (iblk V c 2 t) (iblk V c 3 t) (iblk V c 4 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk V c 0 t) (iblk V c 1 t) (iblk V c 2 t) (iblk V c 3 t) (iblk V c 4 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 37 = 0) (h1 : t.val % 37 = 36) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk V c 0 t) (iblk V c 1 t) (iblk V c 2 t) (iblk V c 3 t) (iblk V c 4 t) (outsAt2 V c (t.val - 1) (Nat.lt_of_le_of_lt (Nat.sub_le _ _) t.isLt)).2.2, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk V c 0 t) (iblk V c 1 t) (iblk V c 2 t) (iblk V c 3 t) (iblk V c 4 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk V c 0 t) (iblk V c 1 t) (iblk V c 2 t) (iblk V c 3 t) (iblk V c 4 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt2`'s scratch components), the others at anything, and the generator register
    at some state. -/
def PhiS (c : Dev nD) : (n : ℕ) → n ≤ cfg2.N → sProp 𝕄
  | 0, _ => Pipeline.ΦA spec2 c
  | n + 1, hn => iprop(iprop(owns (c : Thread nD τ) scM2_0 fullShare ((outsAt2 V c n hn).2.2)) ∗ Rst (F := F) c)

/-- Before the first point the scratch is as the call finds it. -/
theorem PhiS_zero (c : Dev nD) (n : ℕ) (h : n ≤ cfg2.N) (hz : n = 0) : PhiS V c n h = Pipeline.ΦA spec2 c := by
  subst hz; rfl

/-- After point `n` (before point `n + 1`): the carried scratch at that point's contents. -/
theorem PhiS_succ (c : Dev nD) (n : ℕ) (hn : n < cfg2.N) :
    PhiS V c (n + 1) hn = iprop(iprop(owns (c : Thread nD τ) scM2_0 fullShare ((outsAt2 V c n hn).2.2)) ∗ Rst (F := F) c) := rfl

/-- Before a point that is not the first: the carried scratch at what the point before left. -/
theorem PhiS_pos (c : Dev nD) (n : ℕ) (h : n ≤ cfg2.N) (hz : n ≠ 0) :
    PhiS V c n h = iprop(iprop(owns (c : Thread nD τ) scM2_0 fullShare ((outsAt2 V c (n - 1) (by omega)).2.2)) ∗ Rst (F := F) c) := by
  cases n with
  | zero => exact absurd rfl hz
  | succ n => rfl

/-! ## The pipeline's proof data -/

/-- The proof data of the one pipeline on core `c`: the arrays as the region finds them (`V`); after the body at
    point `t` each input's buffer at its block and the outputs' at `outsAt2`; the invariant the class's
    (`PhiS`: the class's `ΦA` before the first point, then the scoped rest with the carried scratch at `outsAt2`'s component);
    nothing owed; full shares. -/
def dat (c : Dev nD) : Dat τ (Elt F) Unit ℕ (UR sig nD τ) ℕ cfg2 c where
  A w := V c (Proc.devRef .tc (Pipeline.arrRef spec2 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt2 V c t.val t.isLt).1
    | ⟨6, _⟩ => (outsAt2 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat V c).A w = V c (Proc.devRef .tc (Pipeline.arrRef spec2 w)) := by
  dsimp only [dat]

/-- The invariant at a point's start (the proof data at `t.castSucc`), restated at `t.val`. -/
theorem PhiS_castSucc (c : Dev nD) (t : Fin cfg2.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after2_0 (c : Dev nD) (t : Fin cfg2.N) : (dat V c).after 0 t = iblk V c 0 t := by dsimp only [dat]
/-- What a point leaves in this window's buffer. -/
theorem after2_1 (c : Dev nD) (t : Fin cfg2.N) : (dat V c).after 1 t = iblk V c 1 t := by dsimp only [dat]
/-- What a point leaves in this window's buffer. -/
theorem after2_2 (c : Dev nD) (t : Fin cfg2.N) : (dat V c).after 2 t = iblk V c 2 t := by dsimp only [dat]
/-- What a point leaves in this window's buffer. -/
theorem after2_3 (c : Dev nD) (t : Fin cfg2.N) : (dat V c).after 3 t = iblk V c 3 t := by dsimp only [dat]
/-- What a point leaves in this window's buffer. -/
theorem after2_4 (c : Dev nD) (t : Fin cfg2.N) : (dat V c).after 4 t = iblk V c 4 t := by dsimp only [dat]
/-- What a point leaves in this window's buffer. -/
theorem after2_5 (c : Dev nD) (t : Fin cfg2.N) : (dat V c).after 5 t = (outsAt2 V c t.val t.isLt).1 := by dsimp only [dat]
/-- What a point leaves in this window's buffer. -/
theorem after2_6 (c : Dev nD) (t : Fin cfg2.N) : (dat V c).after 6 t = (outsAt2 V c t.val t.isLt).2.1 := by dsimp only [dat]

/-- Each input's current staging buffer holds its block at every point, fetched there or not (`beforeK_W_of`). -/
theorem before2_0 (c : Dev nD) (t : Fin cfg2.N) (d) : (dat V c).before 0 t d = iblk V c 0 t :=
  before2_0_of V (dat V c) (A_eq V c 0) (after2_0 V c) t d
/-- What a point finds in this window's buffer. -/
theorem before2_1 (c : Dev nD) (t : Fin cfg2.N) (d) : (dat V c).before 1 t d = iblk V c 1 t :=
  before2_1_of V (dat V c) (A_eq V c 1) (after2_1 V c) t d
/-- What a point finds in this window's buffer. -/
theorem before2_2 (c : Dev nD) (t : Fin cfg2.N) (d) : (dat V c).before 2 t d = iblk V c 2 t :=
  before2_2_of V (dat V c) (A_eq V c 2) (after2_2 V c) t d
/-- What a point finds in this window's buffer. -/
theorem before2_3 (c : Dev nD) (t : Fin cfg2.N) (d) : (dat V c).before 3 t d = iblk V c 3 t :=
  before2_3_of V (dat V c) (A_eq V c 3) (after2_3 V c) t d
/-- What a point finds in this window's buffer. -/
theorem before2_4 (c : Dev nD) (t : Fin cfg2.N) (d) : (dat V c).before 4 t d = iblk V c 4 t :=
  before2_4_of V (dat V c) (A_eq V c 4) (after2_4 V c) t d

/-! ## The body obligation, at a generic point -/

/-- What the body is called with at point `t` (Lib/Pipeline.lean `BodyObligation`'s precondition, the windows one by one), -/
def bodyPre (c : Dev nD) (t : Fin cfg2.N) : sProp 𝕄 :=
  iprop((dat V c).Φ t.castSucc ∗ (dat V c).owesAt () t.castSucc
    ∗ (∃ d, owns (c : Thread nD τ) (ms2_0 t) fullShare ((dat V c).before 0 t d))
    ∗ (∃ d, owns (c : Thread nD τ) (ms2_1 t) fullShare ((dat V c).before 1 t d))
    ∗ (∃ d, owns (c : Thread nD τ) (ms2_2 t) fullShare ((dat V c).before 2 t d))
    ∗ (∃ d, owns (c : Thread nD τ) (ms2_3 t) fullShare ((dat V c).before 3 t d))
    ∗ (∃ d, owns (c : Thread nD τ) (ms2_4 t) fullShare ((dat V c).before 4 t d))
    ∗ (∃ d, owns (c : Thread nD τ) (ms2_5 t) fullShare ((dat V c).before 5 t d))
    ∗ (∃ d, owns (c : Thread nD τ) (ms2_6 t) fullShare ((dat V c).before 6 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 9600000 in
/-- The body at any point: the inputs' memrefs hold their blocks (`before2_W`); the closed forms say which case the point is in (`by_cases`), an output the case reads before covering holds what the point before left (`before2_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3, before2_4]
  rw [show (dat V c).owesAt () t.succ = (dat V c).owesAt () t.castSucc from rfl]
  rw [show (dat V c).Φ t.succ = PhiS V c (t.val + 1) t.isLt from rfl, PhiS_succ]
  have hN : t.val < 37 := lt_of_lt_of_eq t.isLt (show cfg2.N = 37 from N_2)
  by_cases h0 : t.val % 37 = 0
  · by_cases h1 : t.val % 37 = 36
    · exfalso; omega
    · rw [show (dat V c).leavesExact 0 t = owns (c : Thread nD τ) (ms2_0 t) fullShare ((dat V c).after 0 t) from by
      unfold Dat.leavesExact; rw [liveAt2_0 t], after2_0]
      rw [show (dat V c).leavesExact 1 t = owns (c : Thread nD τ) (ms2_1 t) fullShare ((dat V c).after 1 t) from by
      unfold Dat.leavesExact; rw [liveAt2_1 t], after2_1]
      rw [show (dat V c).leavesExact 2 t = owns (c : Thread nD τ) (ms2_2 t) fullShare ((dat V c).after 2 t) from by
      unfold Dat.leavesExact; rw [liveAt2_2 t], after2_2]
      rw [show (dat V c).leavesExact 3 t = owns (c : Thread nD τ) (ms2_3 t) fullShare ((dat V c).after 3 t) from by
      unfold Dat.leavesExact; rw [liveAt2_3 t], after2_3]
      rw [show (dat V c).leavesExact 4 t = owns (c : Thread nD τ) (ms2_4 t) fullShare ((dat V c).after 4 t) from by
      unfold Dat.leavesExact; rw [liveAt2_4 t], after2_4]
      rw [Dat.leavesExact_idle (dat V c) 5 t (idleAt2_5_A t ((hcond2_0 t).mpr h0) (fun h => h1 ((hcond2_1 t).mp h))) (noFlush2_5_A t ((hcond2_0 t).mpr h0) (fun h => h1 ((hcond2_1 t).mp h)))]
      rw [show (dat V c).leavesExact 6 t = owns (c : Thread nD τ) (ms2_6 t) fullShare ((dat V c).after 6 t) from by
      unfold Dat.leavesExact; rw [liveAt2_6 t], after2_6]
      by_cases hz : t.val = 0
      · rw [PhiS_castSucc V c t, PhiS_zero V c _ _ hz, PhiA2_eq]
        rw [outsAt2_A V c t h0 h1]
        unfold out2_A_6 sout2_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ ((hcond2_0 t).mpr h0) (fun h => h1 ((hcond2_1 t).mp h)) (iblk V c 0 t) (iblk V c 1 t) (iblk V c 2 t) (iblk V c 3 t) (iblk V c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 Hg]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        unfold owns; iexists _; isplitr
        swap; · iexact H6
        ipureintro; exact View.read_writes_of_cover _ _ _ _ _ (cover2_A_6 c _ _ _ _ _ _ _ _ _ _ _ _ _ _ _ _ _ _ _ _ _ _ _ _)
      · exfalso; have hN : t.val < 37 := lt_of_lt_of_eq t.isLt (show cfg2.N = 37 from N_2); omega
  · by_cases h1 : t.val % 37 = 36
    · rw [show (dat V c).leavesExact 0 t = owns (c : Thread nD τ) (ms2_0 t) fullShare ((dat V c).after 0 t) from by
      unfold Dat.leavesExact; rw [liveAt2_0 t], after2_0]
      rw [show (dat V c).leavesExact 1 t = owns (c : Thread nD τ) (ms2_1 t) fullShare ((dat V c).after 1 t) from by
      unfold Dat.leavesExact; rw [liveAt2_1 t], after2_1]
      rw [show (dat V c).leavesExact 2 t = owns (c : Thread nD τ) (ms2_2 t) fullShare ((dat V c).after 2 t) from by
      unfold Dat.leavesExact; rw [liveAt2_2 t], after2_2]
      rw [show (dat V c).leavesExact 3 t = owns (c : Thread nD τ) (ms2_3 t) fullShare ((dat V c).after 3 t) from by
      unfold Dat.leavesExact; rw [liveAt2_3 t], after2_3]
      rw [show (dat V c).leavesExact 4 t = owns (c : Thread nD τ) (ms2_4 t) fullShare ((dat V c).after 4 t) from by
      unfold Dat.leavesExact; rw [liveAt2_4 t], after2_4]
      rw [show (dat V c).leavesExact 5 t = owns (c : Thread nD τ) (ms2_5 t) fullShare ((dat V c).after 5 t) from by
      unfold Dat.leavesExact; rw [liveAt2_5_C t (fun h => h0 ((hcond2_0 t).mp h)) ((hcond2_1 t).mpr h1)], after2_5]
      rw [show (dat V c).leavesExact 6 t = owns (c : Thread nD τ) (ms2_6 t) fullShare ((dat V c).after 6 t) from by
      unfold Dat.leavesExact; rw [liveAt2_6 t], after2_6]
      by_cases hz : t.val = 0
      · exfalso; have hN : t.val < 37 := lt_of_lt_of_eq t.isLt (show cfg2.N = 37 from N_2); omega
      · rw [PhiS_castSucc V c t, PhiS_pos V c _ _ hz]
        rw [outsAt2_C V c t h0 h1]
        unfold out2_C_5 out2_C_6 sout2_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_C c (grid2.coords t) _ _ _ _ _ _ _ _ _ _ _ _ _ _ _ _ (fun h => h0 ((hcond2_0 t).mp h)) ((hcond2_1 t).mpr h1) (iblk V c 0 t) (iblk V c 1 t) (iblk V c 2 t) (iblk V c 3 t) (iblk V c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        iintro ⟨H0, H1, H2, H3, H4, ⟨%e5, H5⟩, ⟨%e6, H6⟩, ⟨%es0, HS0⟩⟩
        isplitl [HS0 Hg]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover2_C_5 c _ _ _ _ _ _ _ _ _ _ _ _ _ _ _ _ _ _ _ _ _ _ _ _ _)
        unfold owns; iexists _; isplitr
        swap; · iexact H6
        ipureintro; exact View.read_writes_of_cover _ _ _ _ _ (cover2_C_6 c _ _ _ _ _ _ _ _ _ _ _ _ _ _ _ _ _ _ _ _ _ _ _ _ _)
    · rw [show (dat V c).leavesExact 0 t = owns (c : Thread nD τ) (ms2_0 t) fullShare ((dat V c).after 0 t) from by
      unfold Dat.leavesExact; rw [liveAt2_0 t], after2_0]
      rw [show (dat V c).leavesExact 1 t = owns (c : Thread nD τ) (ms2_1 t) fullShare ((dat V c).after 1 t) from by
      unfold Dat.leavesExact; rw [liveAt2_1 t], after2_1]
      rw [show (dat V c).leavesExact 2 t = owns (c : Thread nD τ) (ms2_2 t) fullShare ((dat V c).after 2 t) from by
      unfold Dat.leavesExact; rw [liveAt2_2 t], after2_2]
      rw [show (dat V c).leavesExact 3 t = owns (c : Thread nD τ) (ms2_3 t) fullShare ((dat V c).after 3 t) from by
      unfold Dat.leavesExact; rw [liveAt2_3 t], after2_3]
      rw [show (dat V c).leavesExact 4 t = owns (c : Thread nD τ) (ms2_4 t) fullShare ((dat V c).after 4 t) from by
      unfold Dat.leavesExact; rw [liveAt2_4 t], after2_4]
      rw [Dat.leavesExact_idle (dat V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [show (dat V c).leavesExact 6 t = owns (c : Thread nD τ) (ms2_6 t) fullShare ((dat V c).after 6 t) from by
      unfold Dat.leavesExact; rw [liveAt2_6 t], after2_6]
      by_cases hz : t.val = 0
      · exfalso; have hN : t.val < 37 := lt_of_lt_of_eq t.isLt (show cfg2.N = 37 from N_2); omega
      · rw [PhiS_castSucc V c t, PhiS_pos V c _ _ hz]
        rw [outsAt2_B V c t h0 h1]
        unfold out2_B_6 sout2_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_B c (grid2.coords t) _ _ _ _ _ _ _ _ _ _ _ _ _ _ _ _ (fun h => h0 ((hcond2_0 t).mp h)) (fun h => h1 ((hcond2_1 t).mp h)) (iblk V c 0 t) (iblk V c 1 t) (iblk V c 2 t) (iblk V c 3 t) (iblk V c 4 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 Hg]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        unfold owns; iexists _; isplitr
        swap; · iexact H6
        ipureintro; exact View.read_writes_of_cover _ _ _ _ _ (cover2_B_6 c _ _ _ _ _ _ _ _ _ _ _ _ _ _ _ _ _ _ _ _ _ _ _ _ _)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

/-- What the launch hands the region (`ΦA`) is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA2_eq]
  iintro ⟨HS0, Hg⟩
  isplitl [HS0]
  · iexists _; iexact HS0
  iexact Hg

/-- The same after the last point. -/
theorem hout (c : Dev nD) : (dat V c).Φ (Fin.last cfg2.N) ⊢ Pipeline.ΦA spec2 c :=
  Phi_out V c _ (by rw [Fin.val_last]; have : cfg2.N = 37 := N_2; omega)

end Cert.KernelIdeal.K2

end
-- ==== Proof.Chain.Run.lean ====
module

public import proofs.«01_k».proof.Proof.Chain.Region
public import proofs.«01_k».proof.Proof.K0.Body
public import proofs.«01_k».proof.Proof.K1.Body
public import proofs.«01_k».proof.Proof.K2.Body
public import proofs.«01_k».proof.Proof.Gen.KernelIdeal.Regions

@[expose] public section

/-! # The run of the program: its three calls and the host operations between them -/

set_option maxRecDepth 16384

noncomputable section

namespace Cert.KernelIdeal.Chain

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)
open Cert.KernelIdeal.Gen

variable {F : FTy → Type} [FloatOps F]

variable (m : (ℓ : Loc nD τ sig) → Buf (Elt F) ℓ)

/-- The row of the scale array that position `j` lies in, as the point that writes it. -/
def rowPt (j : S24x32.Idx) : Fin cfg0.N := ⟨(j 0).val, (j 0).isLt⟩

/-- The position of `j` within its row. -/
def rowIx (j : S24x32.Idx) : S1x32.Idx := fun a => match a with
  | ⟨0, _⟩ => ⟨0, Nat.one_pos⟩
  | ⟨1, _⟩ => ⟨(j 1).val, (j 1).isLt⟩

/-- The scale array the first call leaves: row `b` is the row of scales of point `b`. -/
def scales (V : Dev nD → Valuation τ sig (Elt F)) (c : Dev nD) : S24x32.Idx → Elt F .f32 :=
  fun j => K0.srow V c (rowPt j) (rowIx j)

/-- What the first call leaves in a buffer. -/
def outs2 (r : Ref sig .tc) (c : Dev nD) : Buf (Elt F) ((c : Thread nD τ).loc r) :=
  Function.update (Pipeline.afterRegion (K0.dat (V1 m) c) (V1 m c)) (Proc.devRef .tc main_v1_2) (scales (V1 m) c) (Proc.devRef .tc r)
/-- The contents the second call is entered with, given what the first leaves. -/
def outsA : Outs (F := F) := fun _ r c => outs2 m r c
/-- What the second call leaves in a buffer. -/
def outs4 (r : Ref sig .tc) (c : Dev nD) : Buf (Elt F) ((c : Thread nD τ).loc r) :=
  Pipeline.afterRegion (K1.dat (V3 m (outsA m)) c) (V3 m (outsA m) c) (Proc.devRef .tc r)
/-- The contents the third call is entered with, given what the first two leave. -/
def outsB : Outs (F := F) := fun J r c => match J with
  | 2 => outs2 m r c
  | _ => outs4 m r c
/-- What the third call leaves in a buffer. -/
def outs6 (r : Ref sig .tc) (c : Dev nD) : Buf (Elt F) ((c : Thread nD τ).loc r) :=
  Pipeline.afterRegion (K2.dat (V5 m (outsB m)) c) (V5 m (outsB m) c) (Proc.devRef .tc r)
/-- What each call leaves in the buffers it may change. -/
def outs : Outs (F := F) := fun J r c => match J with
  | 2 => outs2 m r c
  | 4 => outs4 m r c
  | _ => outs6 m r c

/-- What the second call finds does not depend on what the later calls leave. -/
theorem V3_outs : V3 m (outs m) = V3 m (outsA m) := rfl
/-- What the third call finds does not depend on what it leaves. -/
theorem V5_outs : V5 m (outs m) = V5 m (outsB m) := rfl

/-- The proof data of the three calls, each at the contents the program reaches it with. -/
def pdats : (p : Fin 3) → (c : Dev nD) → Dat τ (Elt F) Unit ℕ (UR sig nD τ) ℕ (cfgs p) c
  | ⟨0, _⟩, c => K0.dat (V1 m) c
  | ⟨1, _⟩, c => K1.dat (V3 m (outsA m)) c
  | ⟨2, _⟩, c => K2.dat (V5 m (outsB m)) c

/-- The windows held to a predicate: the first call's scale array alone. -/
def fg : (p : Fin 3) → Fin (cfgs p).W → Bool
  | ⟨0, _⟩ => K0.fgt
  | ⟨1, _⟩ => fun _ => false
  | ⟨2, _⟩ => fun _ => false

/-- The predicates. -/
def Rl : (p : Fin 3) → (c : Dev nD) → (w : Fin (cfgs p).W) → Fin (cfgs p).N → (((cfgs p).win w).block.Idx → Elt F ((cfgs p).win w).elt) → Prop
  | ⟨0, _⟩, c => K0.Rl (V1 m) c
  | ⟨1, _⟩, _ => fun _ _ _ => True
  | ⟨2, _⟩, _ => fun _ _ _ => True

/-- The arrays of call 1 are among the program's buffers. -/
theorem sub_ucRefs0 : Pipeline.arrRefs (τ := τ) spec0 ⊆ Pipeline.ucRefs τ sig := Pipeline.arrRefs_sub_ucRefs _ (by decide)
/-- The arrays of call 2 are among the program's buffers. -/
theorem sub_ucRefs1 : Pipeline.arrRefs (τ := τ) spec1 ⊆ Pipeline.ucRefs τ sig := Pipeline.arrRefs_sub_ucRefs _ (by decide)
/-- The arrays of call 3 are among the program's buffers. -/
theorem sub_ucRefs2 : Pipeline.arrRefs (τ := τ) spec2 ⊆ Pipeline.ucRefs τ sig := Pipeline.arrRefs_sub_ucRefs _ (by decide)

/-- A buffer that is no array of the call is not the array of window `w`. -/
theorem ne_of_off {gr W : Nat} {win : Fin W → Pipeline.WinSpec sig gr} {S : Finset (DevRef τ sig)} {d : DevRef τ sig}
    (hd : d ∈ S \ Pipeline.arrRefs (τ := τ) win) (w : Fin W) : d ≠ Proc.devRef .tc (Pipeline.arrRef win w) := fun h =>
  (Finset.mem_sdiff.mp hd).2 (h ▸ Finset.mem_map.mpr ⟨_, Finset.mem_image.mpr ⟨w, Finset.mem_univ _, rfl⟩, rfl⟩)

/-- The last point of the first call holds the whole scale array. -/
theorem whole0_4 : (cfg0.win 4).WholeAt ⟨23, by decide⟩ := by decide +kernel

/-- Position `j` of the scale array is position `rowIx j` of row `rowPt j`. -/
theorem rowRect_emb (j : S24x32.Idx) : (K0.rowRect (grid0.coords (rowPt j))).emb (rowIx j) = j := by
  funext a
  apply Fin.ext
  have ho := K0.off_row (rowPt j)
  match a with
  | ⟨0, _⟩ =>
    show k0_off1 (grid0.coords (rowPt j)) 0 + 1 * 0 = (j 0).val
    rw [ho]; rfl
  | ⟨1, _⟩ =>
    show k0_off1 (grid0.coords (rowPt j)) 1 + 1 * (j 1).val = (j 1).val
    rw [ho, Nat.one_mul]; exact Nat.zero_add _

/-- The scale array ends at the rows of every point. -/
theorem final_scales (V : Dev nD → Valuation τ sig (Elt F)) (c : Dev nD)
    (A : Buf (Elt F) ((cfg0.win 4).arr.view.loc (c.tc : Thread nD τ)))
    (hA : ((K0.dat V c).toRRel K0.fgt (K0.Rl V c)).ArrAt 4 cfg0.N A) : A = scales V c := by
  obtain ⟨X, hX, hj⟩ := RDat.ArrAt.emb_eq_of_wholeAt hA whole0_4
  have hR := Dat.toRRel_leaves (K0.dat V c) (fgt := K0.fgt) (Rl := K0.Rl V c) (w := 4) rfl hX
  funext j
  have h1 := hj j
  have h2 := hR (rowPt j) (Nat.le_of_lt_succ (rowPt j).isLt) (rowIx j)
  rw [rowRect_emb] at h2
  exact h1.trans h2

/-! ## What each call leaves, read off the chain's contents -/

/-- The first call leaves the codes of its third window. -/
theorem outs2_codes (c : Dev nD) : outs2 m main_v1_0 c = (K0.dat (V1 m) c).arrAt 2 cfg0.N :=
  (Function.update_of_ne (StableHlo.devRef_ne_of_ne (by decide)) _ _).trans (Pipeline.afterRegion_arr (K0.dat (V1 m) c) (V1 m c) launch0.win.arr_inj 2)
/-- The first call leaves the repeated scales of its fourth window. -/
theorem outs2_srep (c : Dev nD) : outs2 m main_v1_1 c = (K0.dat (V1 m) c).arrAt 3 cfg0.N :=
  (Function.update_of_ne (StableHlo.devRef_ne_of_ne (by decide)) _ _).trans (Pipeline.afterRegion_arr (K0.dat (V1 m) c) (V1 m c) launch0.win.arr_inj 3)
/-- The first call leaves the rows of scales. -/
theorem outs2_srow (c : Dev nD) : outs2 m main_v1_2 c = scales (V1 m) c := Function.update_self _ _ _

/-- The second call leaves the hidden layer of its fifth window. -/
theorem outs4_h (c : Dev nD) : outs4 m main_v3_0 c = (K1.dat (V3 m (outsA m)) c).arrAt 4 cfg1.N :=
  Pipeline.afterRegion_arr (K1.dat (V3 m (outsA m)) c) (V3 m (outsA m) c) launch1.win.arr_inj 4
/-- The second call leaves the repeated scales of its sixth window. -/
theorem outs4_srep (c : Dev nD) : outs4 m main_v3_1 c = (K1.dat (V3 m (outsA m)) c).arrAt 5 cfg1.N :=
  Pipeline.afterRegion_arr (K1.dat (V3 m (outsA m)) c) (V3 m (outsA m) c) launch1.win.arr_inj 5
/-- The second call leaves the rows of scales of its seventh window. -/
theorem outs4_srow (c : Dev nD) : outs4 m main_v3_2 c = (K1.dat (V3 m (outsA m)) c).arrAt 6 cfg1.N :=
  Pipeline.afterRegion_arr (K1.dat (V3 m (outsA m)) c) (V3 m (outsA m) c) launch1.win.arr_inj 6

/-- The third call leaves the output of its sixth window. -/
theorem outs6_y (c : Dev nD) : outs6 m main_v5_0 c = (K2.dat (V5 m (outsB m)) c).arrAt 5 cfg2.N :=
  Pipeline.afterRegion_arr (K2.dat (V5 m (outsB m)) c) (V5 m (outsB m) c) launch2.win.arr_inj 5
/-- The third call leaves the codes of its seventh window. -/
theorem outs6_codes (c : Dev nD) : outs6 m main_v5_1 c = (K2.dat (V5 m (outsB m)) c).arrAt 6 cfg2.N :=
  Pipeline.afterRegion_arr (K2.dat (V5 m (outsB m)) c) (V5 m (outsB m) c) launch2.win.arr_inj 6

/-- The codes after the first call. -/
theorem V2_codes (c : Dev nD) : V2 m (outs m) c main_v1_0 = (K0.dat (V1 m) c).arrAt 2 cfg0.N := by
  rw [← outs2_codes]
  exact (Function.update_of_ne (StableHlo.devRef_ne_of_ne (by decide)) _ _).trans <| (Function.update_of_ne (StableHlo.devRef_ne_of_ne (by decide)) _ _).trans (Function.update_self _ _ _)
/-- The repeated scales after the first call. -/
theorem V2_srep (c : Dev nD) : V2 m (outs m) c main_v1_1 = (K0.dat (V1 m) c).arrAt 3 cfg0.N := by
  rw [← outs2_srep]
  exact (Function.update_of_ne (StableHlo.devRef_ne_of_ne (by decide)) _ _).trans (Function.update_self _ _ _)
/-- The rows of scales after the first call. -/
theorem V2_srow (c : Dev nD) : V2 m (outs m) c main_v1_2 = scales (V1 m) c :=
  (Function.update_self _ _ _).trans (outs2_srow m c)

/-- The hidden layer after the second call. -/
theorem V4_h (c : Dev nD) : V4 m (outs m) c main_v3_0 = (K1.dat (V3 m (outsA m)) c).arrAt 4 cfg1.N := by
  rw [← outs4_h]
  exact (Function.update_of_ne (StableHlo.devRef_ne_of_ne (by decide)) _ _).trans <| (Function.update_of_ne (StableHlo.devRef_ne_of_ne (by decide)) _ _).trans (Function.update_self _ _ _)
/-- The repeated scales after the second call. -/
theorem V4_srep (c : Dev nD) : V4 m (outs m) c main_v3_1 = (K1.dat (V3 m (outsA m)) c).arrAt 5 cfg1.N := by
  rw [← outs4_srep]
  exact (Function.update_of_ne (StableHlo.devRef_ne_of_ne (by decide)) _ _).trans (Function.update_self _ _ _)
/-- The rows of scales after the second call. -/
theorem V4_srow (c : Dev nD) : V4 m (outs m) c main_v3_2 = (K1.dat (V3 m (outsA m)) c).arrAt 6 cfg1.N :=
  (Function.update_self _ _ _).trans (outs4_srow m c)

/-- The output after the third call. -/
theorem V6_y (c : Dev nD) : V6 m (outs m) c main_v5_0 = (K2.dat (V5 m (outsB m)) c).arrAt 5 cfg2.N := by
  rw [← outs6_y]
  exact (Function.update_of_ne (StableHlo.devRef_ne_of_ne (by decide)) _ _).trans (Function.update_self _ _ _)
/-- The codes after the third call. -/
theorem V6_codes (c : Dev nD) : V6 m (outs m) c main_v5_1 = (K2.dat (V5 m (outsB m)) c).arrAt 6 cfg2.N :=
  (Function.update_self _ _ _).trans (outs6_codes m c)

/-- An input's array is the same after the first call. -/
theorem in0 (c : Dev nD) (w : Fin cfg0.W) (h : (cfg0.win w).isOut = false) (hw : Pipeline.arrRef spec0 w ∉ ([main_v1_0, main_v1_1, main_v1_2] : List (Ref sig .tc))) :
    (K0.dat (V1 m) c).arrAt w cfg0.N = V2 m (outs m) c (Proc.devRef .tc (Pipeline.arrRef spec0 w)) :=
  ((K0.dat (V1 m) c).arrAt_in w h _).trans ((K0.A_eq (V1 m) c w).trans (V2_of m (outs m) c (Pipeline.arrRef spec0 w) hw).symm)
/-- An input's array is the same after the second call. -/
theorem in1 (c : Dev nD) (w : Fin cfg1.W) (h : (cfg1.win w).isOut = false) (hw : Pipeline.arrRef spec1 w ∉ ([main_v3_0, main_v3_1, main_v3_2] : List (Ref sig .tc))) :
    (K1.dat (V3 m (outsA m)) c).arrAt w cfg1.N = V4 m (outs m) c (Proc.devRef .tc (Pipeline.arrRef spec1 w)) :=
  ((K1.dat (V3 m (outsA m)) c).arrAt_in w h _).trans ((K1.A_eq (V3 m (outsA m)) c w).trans (V4_of m (outs m) c (Pipeline.arrRef spec1 w) hw).symm)
/-- An input's array is the same after the third call. -/
theorem in2 (c : Dev nD) (w : Fin cfg2.W) (h : (cfg2.win w).isOut = false) (hw : Pipeline.arrRef spec2 w ∉ ([main_v5_0, main_v5_1] : List (Ref sig .tc))) :
    (K2.dat (V5 m (outsB m)) c).arrAt w cfg2.N = V6 m (outs m) c (Proc.devRef .tc (Pipeline.arrRef spec2 w)) :=
  ((K2.dat (V5 m (outsB m)) c).arrAt_in w h _).trans ((K2.A_eq (V5 m (outsB m)) c w).trans (V6_of m (outs m) c (Pipeline.arrRef spec2 w) hw).symm)

/-- The arrays of call 1 end as the contents after it say. -/
theorem arrays0 (c : Dev nD) (A : (w : Fin cfg0.W) → Buf (Elt F) ((cfg0.win w).arr.view.loc (c.tc : Thread nD τ)))
    (hA : ∀ w, ((K0.dat (V1 m) c).toRRel K0.fgt (K0.Rl (V1 m) c)).ArrAt w cfg0.N (A w)) :
    ∀ w, A w = V2 m (outs m) c (Proc.devRef .tc (Pipeline.arrRef spec0 w))
  | ⟨0, _⟩ => (Cert.Chain.arrAt_named _ rfl (hA 0)).trans (in0 m c 0 rfl (by decide))
  | ⟨1, _⟩ => (Cert.Chain.arrAt_named _ rfl (hA 1)).trans (in0 m c 1 rfl (by decide))
  | ⟨2, _⟩ => (Cert.Chain.arrAt_named _ rfl (hA 2)).trans (V2_codes m c).symm
  | ⟨3, _⟩ => (Cert.Chain.arrAt_named _ rfl (hA 3)).trans (V2_srep m c).symm
  | ⟨4, _⟩ => (final_scales (V1 m) c _ (hA 4)).trans (V2_srow m c).symm

/-- The arrays of call 2 end as the contents after it say. -/
theorem arrays1 (c : Dev nD) (A : (w : Fin cfg1.W) → Buf (Elt F) ((cfg1.win w).arr.view.loc (c.tc : Thread nD τ)))
    (hA : ∀ w, ((K1.dat (V3 m (outsA m)) c).toRRel (fun _ => false) (fun _ _ _ => True)).ArrAt w cfg1.N (A w)) :
    ∀ w, A w = V4 m (outs m) c (Proc.devRef .tc (Pipeline.arrRef spec1 w))
  | ⟨0, _⟩ => (Cert.Chain.arrAt_named _ rfl (hA 0)).trans (in1 m c 0 rfl (by decide))
  | ⟨1, _⟩ => (Cert.Chain.arrAt_named _ rfl (hA 1)).trans (in1 m c 1 rfl (by decide))
  | ⟨2, _⟩ => (Cert.Chain.arrAt_named _ rfl (hA 2)).trans (in1 m c 2 rfl (by decide))
  | ⟨3, _⟩ => (Cert.Chain.arrAt_named _ rfl (hA 3)).trans (in1 m c 3 rfl (by decide))
  | ⟨4, _⟩ => (Cert.Chain.arrAt_named _ rfl (hA 4)).trans (V4_h m c).symm
  | ⟨5, _⟩ => (Cert.Chain.arrAt_named _ rfl (hA 5)).trans (V4_srep m c).symm
  | ⟨6, _⟩ => (Cert.Chain.arrAt_named _ rfl (hA 6)).trans (V4_srow m c).symm

/-- The arrays of call 3 end as the contents after it say. -/
theorem arrays2 (c : Dev nD) (A : (w : Fin cfg2.W) → Buf (Elt F) ((cfg2.win w).arr.view.loc (c.tc : Thread nD τ)))
    (hA : ∀ w, ((K2.dat (V5 m (outsB m)) c).toRRel (fun _ => false) (fun _ _ _ => True)).ArrAt w cfg2.N (A w)) :
    ∀ w, A w = V6 m (outs m) c (Proc.devRef .tc (Pipeline.arrRef spec2 w))
  | ⟨0, _⟩ => (Cert.Chain.arrAt_named _ rfl (hA 0)).trans (in2 m c 0 rfl (by decide))
  | ⟨1, _⟩ => (Cert.Chain.arrAt_named _ rfl (hA 1)).trans (in2 m c 1 rfl (by decide))
  | ⟨2, _⟩ => (Cert.Chain.arrAt_named _ rfl (hA 2)).trans (in2 m c 2 rfl (by decide))
  | ⟨3, _⟩ => (Cert.Chain.arrAt_named _ rfl (hA 3)).trans (in2 m c 3 rfl (by decide))
  | ⟨4, _⟩ => (Cert.Chain.arrAt_named _ rfl (hA 4)).trans (in2 m c 4 rfl (by decide))
  | ⟨5, _⟩ => (Cert.Chain.arrAt_named _ rfl (hA 5)).trans (V6_y m c).symm
  | ⟨6, _⟩ => (Cert.Chain.arrAt_named _ rfl (hA 6)).trans (V6_codes m c).symm

/-- A buffer that is no array of call 1 is the same after it. -/
theorem off0 (c : Dev nD) (d : DevRef τ sig) (hd : d ∈ Pipeline.ucRefs τ sig \ Pipeline.arrRefs (τ := τ) spec0) : V2 m (outs m) c d = V1 m c d :=
  (Function.update_of_ne (ne_of_off hd 4) _ _).trans <| (Function.update_of_ne (ne_of_off hd 3) _ _).trans (Function.update_of_ne (ne_of_off hd 2) _ _)
/-- A buffer that is no array of call 2 is the same after it. -/
theorem off1 (c : Dev nD) (d : DevRef τ sig) (hd : d ∈ Pipeline.ucRefs τ sig \ Pipeline.arrRefs (τ := τ) spec1) : V4 m (outs m) c d = V3 m (outs m) c d :=
  (Function.update_of_ne (ne_of_off hd 6) _ _).trans <| (Function.update_of_ne (ne_of_off hd 5) _ _).trans (Function.update_of_ne (ne_of_off hd 4) _ _)
/-- A buffer that is no array of call 3 is the same after it. -/
theorem off2 (c : Dev nD) (d : DevRef τ sig) (hd : d ∈ Pipeline.ucRefs τ sig \ Pipeline.arrRefs (τ := τ) spec2) : V6 m (outs m) c d = V5 m (outs m) c d :=
  (Function.update_of_ne (ne_of_off hd 6) _ _).trans (Function.update_of_ne (ne_of_off hd 5) _ _)

/-! ## The records and the run -/

/-- Data that hold every input at the full share hold every array at it. -/
theorem share_full {cfg : Pipeline.Cfg sig Λ₀} {c : Dev nD} (dat : Dat τ (Elt F) Unit ℕ (UR sig nD τ) ℕ cfg c) (hq : ∀ w, dat.q w = fullShare)
    (w : Fin cfg.W) : dat.share w = fullShare := by
  unfold Dat.share; split
  · rfl
  · exact hq w

/-- No level is assigned to any semaphore. -/
abbrev L₀ : GSem nD τ sig → Finset Unit := fun _ => ∅
/-- The level of every pair. -/
abbrev lv₀ : GSem nD τ sig → Unit → ℕ := fun _ _ => 0

/-- The three calls' data, read relationally. -/
abbrev rdats : (p : Fin 3) → (c : Dev nD) → RDat τ (Elt F) Unit ℕ (UR sig nD τ) ℕ (Pipeline.pin (pcfgs (F := F)) adm p) c :=
  Cert.Chain.rels (pcfgs (F := F)) adm (pdats m) fg (Rl m)

set_option backward.isDefEq.respectTransparency.types false in
/-- The first call's record. -/
def R0 : RDat.RegionSeg (pcfgs (F := F)) adm (rdats m) () defs₀ Variants.none L₀ lv₀ 0 :=
  Cert.Chain.region (pcfgs (F := F)) adm (pdats m) fg (Rl m) defs₀ Variants.none L₀ lv₀ 0 launch0.toP rfl
    (fun c => K0.body_obligation (V1 m) c) (fun _ _ => rfl) (fun _ => rfl) (fun _ w => share_full _ (fun _ => rfl) w) (fun _ => .rfl) (fun _ => .rfl) sub_ucRefs0
    (fun c => V1 m c) (fun c => V2 m (outs m) c) (fun c w => K0.A_eq (V1 m) c w) (fun c A hA => arrays0 m c A hA) (fun c d hd => off0 m c d hd)

set_option backward.isDefEq.respectTransparency.types false in
/-- The second call's record. -/
def R1 : RDat.RegionSeg (pcfgs (F := F)) adm (rdats m) () defs₀ Variants.none L₀ lv₀ 1 :=
  Cert.Chain.region (pcfgs (F := F)) adm (pdats m) fg (Rl m) defs₀ Variants.none L₀ lv₀ 1 launch1.toP rfl
    (fun c => K1.body_obligation (V3 m (outsA m)) c) (fun _ _ => rfl) (fun _ => rfl) (fun _ w => share_full _ (fun _ => rfl) w) (fun c => K1.hin (V3 m (outsA m)) c) (fun c => K1.hout (V3 m (outsA m)) c) sub_ucRefs1
    (fun c => V3 m (outs m) c) (fun c => V4 m (outs m) c) (fun c w => K1.A_eq (V3 m (outsA m)) c w) (fun c A hA => arrays1 m c A hA) (fun c d hd => off1 m c d hd)

set_option backward.isDefEq.respectTransparency.types false in
/-- The third call's record. -/
def R2 : RDat.RegionSeg (pcfgs (F := F)) adm (rdats m) () defs₀ Variants.none L₀ lv₀ 2 :=
  Cert.Chain.region (pcfgs (F := F)) adm (pdats m) fg (Rl m) defs₀ Variants.none L₀ lv₀ 2 launch2.toP rfl
    (fun c => K2.body_obligation (V5 m (outsB m)) c) (fun _ _ => rfl) (fun _ => rfl) (fun _ w => share_full _ (fun _ => rfl) w) (fun c => K2.hin (V5 m (outsB m)) c) (fun c => K2.hout (V5 m (outsB m)) c) sub_ucRefs2
    (fun c => V5 m (outs m) c) (fun c => V6 m (outs m) c) (fun c w => K2.A_eq (V5 m (outsB m)) c w) (fun c A hA => arrays2 m c A hA) (fun c d hd => off2 m c d hd)

/-- The host operations before, between and after the calls, as items of the chain. -/
abbrev E₀ : Fin 4 → Dev nD → sProp (MT nD τ sig Unit (Elt F) ℕ (UR sig nD τ) ℕ) := fun _ c => Cert.Chain.rest c

/-- The items of the program. -/
abbrev items : List (RDat.Seg (pcfgs (F := F)) adm (rdats m) () defs₀ Variants.none L₀ lv₀) :=
  [.host (seg0 m Variants.none L₀ lv₀ E₀), .region (R0 m), .host (seg2 m (outs m) Variants.none L₀ lv₀ E₀), .region (R1 m),
    .host (seg4 m (outs m) Variants.none L₀ lv₀ E₀), .region (R2 m), .host (seg6 m (outs m) Variants.none L₀ lv₀ E₀)]

local notation "𝕄" => MT nD τ sig Unit (Elt F) ℕ (UR sig nD τ) ℕ

set_option backward.isDefEq.respectTransparency.types false in
/-- THE RUN. Every weakly fair execution of the program terminates, with every semaphore counter at zero and every unscoped
    buffer at the contents the chain computes for it. -/
theorem run (ρ : Dev nD → PrngReg) :
    θ_run defs (onTc (τ := τ) (main (F := F))) ⟨m, fun _ => 0, ρ⟩ (fun r =>
      (∀ (c : Dev nD) (b : Ref sig .tc), b.isScoped = false → r.2.mem ((c.tc : Thread nD τ).loc b) = V7 m (outs m) c b)
        ∧ r.2.sem = fun _ => 0) := by
  refine RDat.θ_run_regions_kit_dev_sems (pcfgs (F := F)) adm (rdats m) () cellOf_inj emb₁ defs₀ Variants.none L₀ lv₀ m ρ main
    (fun _ => items m)
    (fun c Q => by
      rewrite [main_chain c, RDat.Seg.run_eq_chain,
        show (items m).map RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [items, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Cert.Chain.rest c))
    (Tₙ := fun c => StableHlo.held (c : Thread nD τ) (Pipeline.ucRefs τ sig) (V7 m (outs m) c))
    (hch := fun c => ⟨.rfl, .rfl, .rfl, .rfl, .rfl, .rfl, .rfl,
      (show iprop(StableHlo.held (c.tc : Thread nD τ) (Pipeline.ucRefs τ sig) (V7 m (outs m) c) ∗ Cert.Chain.rest c) ⊢ (_ : sProp 𝕄) from by
        unfold Cert.Chain.rest
        iintro ⟨Hh, -, HO⟩
        isplitl [Hh] <;> iassumption)⟩)
    (hinit := by
      refine Pipeline.initEach L₀ lv₀ fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      unfold Cert.Chain.rest
      iintro ⟨⟨Hh, -, HO, -, Hp, -⟩, -⟩
      imodintro
      isplitl [Hh]; · iexact Hh
      isplitl [Hp]; · iexists _; iexact Hp
      iexists _; iexact HO)
    (QY := fun c s => ∀ b ∈ Pipeline.ucRefs τ sig, s.mem ((c.tc : Thread nD τ).1, b) = V7 m (outs m) c b)
    (hfin := fun c s' => by
      unfold StableHlo.held
      iintro ⟨Hh, HSI⟩
      ihave Hr := (pointsTo_read_all (Pipeline.ucRefs τ sig) (fun b => ((c.tc : Thread nD τ).1, b)) (V7 m (outs m) c) s') $$ [Hh HSI]
      · isplitl [Hh] <;> iassumption
      imodintro; iexact Hr)
    (hQ := fun _ h hz => ⟨fun c b hb => h c (Proc.devRef .tc b) (Pipeline.devRef_mem_ucRefs hb),
      funext fun g => hz g (.inr (regions_no_unscoped g.2))⟩)

end Cert.KernelIdeal.Chain

end
-- ==== Proof.Chain.Frame.lean ====
module

public import proofs.«01_k».proof.Proof.Chain.Run
public import proofs.«01_k».proof.Defs

@[expose] public section

/-! # The kernel's frame: it runs, its arguments end as launched, every semaphore counter ends at zero -/

set_option maxRecDepth 16384

noncomputable section

namespace Cert.KernelIdeal.Chain

open Idealize.ShloMosaic Idealize.ShloMosaic.TcCoe
open Idealize.SL.Sem
open Cert.KernelIdeal.Gen

variable {F : FTy → Type} [FloatOps F]

/-- The frame, at any reading of the floats. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => ⟨fun c =>
    ⟨(h.1 c main_arg0 (by decide)).trans (V7_main_arg0 m (outs m) c), (h.1 c main_arg1 (by decide)).trans (V7_main_arg1 m (outs m) c),
     (h.1 c main_arg2 (by decide)).trans (V7_main_arg2 m (outs m) c), (h.1 c main_arg3 (by decide)).trans (V7_main_arg3 m (outs m) c),
     (h.1 c main_arg4 (by decide)).trans (V7_main_arg4 m (outs m) c), (h.1 c main_arg5 (by decide)).trans (V7_main_arg5 m (outs m) c)⟩, h.2⟩)
    (run m ρ)

end Cert.KernelIdeal.Chain

end
-- ==== Proof.Chain.Twin.lean ====
module

public import proofs.«01_k».proof.Proof.Chain.Frame
public import proofs.«01_k».proof.Proof.Gen.Kernel

@[expose] public section

/-! # The kernel as printed is the same program as its idealization, read at the machine's floats -/

set_option maxRecDepth 100000

noncomputable section

namespace Cert.KernelIdeal.Chain

open Idealize.ShloMosaic Idealize.ShloMosaic.TcCoe
open Idealize.SL.Sem

variable {F : FTy → Type} [FloatOps F]

/-- The kernels' body tables are the same, label by label. -/
theorem twin_defs₀ : Cert.Kernel.defs₀ (F := F) = Cert.KernelIdeal.defs₀ := by
  unfold Cert.Kernel.defs₀ Cert.KernelIdeal.defs₀
  refine congrArg Defs.onTc (funext fun l => ?_)
  match l with
  | ⟨0, _⟩ => exact funext fun a => rfl
  | ⟨1, _⟩ => exact funext fun a => rfl
  | ⟨2, _⟩ => exact funext fun a => rfl

/-- The programs' body tables are the same. -/
theorem twin_defs : Cert.Kernel.defs (F := F) = Cert.KernelIdeal.defs := by
  unfold Cert.Kernel.defs Cert.KernelIdeal.defs
  exact congrArg (Pipeline.defs Cert.KernelIdeal.pcfgs) twin_defs₀

/-- The programs are the same. -/
theorem twin_main : (Cert.Kernel.main (F := F)) = Cert.KernelIdeal.main := rfl

/-- The printed kernel's frame. -/
theorem frame_printed : Cert.quiescent_Kernel := fun m g _ => by
  have h := frame (F := Bits) m g
  rw [← twin_defs, ← twin_main] at h
  exact h

/-- The idealized kernel's frame. -/
theorem frame_ideal : Cert.quiescent_KernelIdeal := fun m g _ => frame (F := Ideal) m g

end Cert.KernelIdeal.Chain

end
-- ==== Proof.Value.Scalars.lean ====
module

public import Idealize.ShloMosaic.Lib.ValueIdx
public import Idealize.ShloMosaic.Lib.KernelVsHost
public import Idealize.ShloMosaic.Lib.Pipeline.Value
public import Idealize.ShloMosaic.PureOps.Ideal.Laws

@[expose] public section

/-! # The scalar formulas of the layer, over the extended reals

Both programs compute the same formulas element by element: the RMS-normed value, the scale of a row from its largest
magnitude, the clipped rounded quotient that becomes a code, the SiLU gate. They are named here once, with the one fact
about them that is not a rewriting: a clipped rounded quotient is an integer between −127 and 127, so turning it into a
byte, by way of 32 bits or straight, and reading the byte back as a number gives it back. -/

set_option maxRecDepth 16384

noncomputable section

namespace Cert.Value

open Idealize.ShloMosaic Idealize.ShloMosaic.ValueIdx

/-- The scale of a row whose largest magnitude is `a`: one if that is zero, else a hundred and twenty-seventh of it. -/
def scaleOf (a : Ideal .f32) : Ideal .f32 :=
  Scalar.select (FloatOps.cmpf .oeq a (FloatOps.ofBits .f32 0x00000000#32)) (FloatOps.ofBits .f32 0x3F800000#32)
    (FloatOps.divf a (FloatOps.ofBits .f32 0x42FE0000#32))

/-- The value `v` quantised at scale `s`, still a number: the quotient, rounded to even, clipped to ±127. -/
def clipOf (v s : Ideal .f32) : Ideal .f32 :=
  FloatOps.minimumf (FloatOps.sitofp .f32 (127#32 : BitVec 32))
    (FloatOps.maximumf (FloatOps.sitofp .f32 (4294967169#32 : BitVec 32)) (FloatOps.roundeven (FloatOps.divf v s)))

/-- The code of `v` at scale `s`. -/
def codeOf (v s : Ideal .f32) : BitVec 8 := FloatOps.fptosi 8 (clipOf v s)

/-- The SiLU of a number: the number times its logistic. -/
def siluOf (x : Ideal .f32) : Ideal .f32 := FloatOps.mulf x (FloatOps.logistic x)

/-- The sum of the squares of a row. -/
def sqSum {n : ℕ} (row : Fin n → Ideal .f32) : Ideal .f32 := (∑ k : Fin n, (row k : EReal) * (row k : EReal) : EReal)

/-- An integer product scaled by its row's scale and its column's. -/
def scaledAt (dot : EReal) (xs ws : Ideal .f32) : Ideal .f32 := FloatOps.mulf (FloatOps.mulf (dot : Ideal .f32) xs) ws

/-- Element `d` of a row, RMS-normed and multiplied by its gain. -/
def normAt (row g : Fin 3584 → Ideal .f32) (d : Fin 3584) : Ideal .f32 :=
  FloatOps.mulf
    (FloatOps.divf (row d)
      (FloatOps.sqrt (FloatOps.addf (FloatOps.divf (sqSum row) (FloatOps.ofBits .f32 0x45600000#32))
        (FloatOps.ofBits .f32 0x3727C5AC#32))))
    (g d)

/-- The largest magnitude of a row. -/
def amaxOf {n : ℕ} (f : Fin n → Ideal .f32) : Ideal .f32 :=
  (Finset.univ : Finset (Fin n)).fold max (FloatOps.ofBits .f32 0xFF800000#32) fun k => FloatOps.absf (f k)

/-- A product of a row of codes and a column of weights, both read as numbers. -/
def dotAt {n : ℕ} (x w : Fin n → BitVec 8) : EReal := ∑ k : Fin n, (((x k).toInt : ℝ) : EReal) * (((w k).toInt : ℝ) : EReal)

/-- The clip's two bounds as numbers. -/
theorem clipOf_def (v s : Ideal .f32) :
    clipOf v s = min (((127 : ℤ) : ℝ) : EReal) (max (((-127 : ℤ) : ℝ) : EReal) (Ideal.liftRound Ideal.roundHalfEven (Ideal.div v s))) := rfl

/-- A clipped rounded quotient is an integer from −127 to 127. -/
theorem clipOf_int (v s : Ideal .f32) : ∃ n : ℤ, -127 ≤ n ∧ n ≤ 127 ∧ clipOf v s = ((n : ℝ) : EReal) := by
  rw [clipOf_def]
  generalize Ideal.div v s = q
  induction q using EReal.rec with
  | bot => exact ⟨-127, le_refl _, by norm_num, by
      show min _ (max _ ⊥) = _
      rw [max_eq_left bot_le, min_eq_right (by exact_mod_cast (by norm_num : (-127 : ℤ) ≤ 127))]⟩
  | top => exact ⟨127, by norm_num, le_refl _, by
      show min _ (max _ ⊤) = _
      rw [max_eq_right le_top, min_eq_left le_top]⟩
  | coe r =>
    refine ⟨min 127 (max (-127) (Ideal.roundHalfEven r)), ?_, ?_, ?_⟩
    · exact le_min (by norm_num) (le_max_left _ _)
    · exact min_le_left _ _
    · show min _ (max _ (((Ideal.roundHalfEven r : ℤ) : ℝ) : EReal)) = _
      simp only [Int.cast_min, Int.cast_max, EReal.coe_strictMono.monotone.map_min, EReal.coe_strictMono.monotone.map_max]

/-- An integer that a byte holds, clamped to the range of `w` bits, is itself. -/
theorem toIntClamped_int (lo hi n : ℤ) (h1 : lo ≤ n) (h2 : n ≤ hi) : Ideal.toIntClamped lo hi ((n : ℝ) : EReal) = n := by
  rw [Ideal.toIntClamped_coe, Int.floor_intCast, Int.ceil_intCast, ite_self, min_eq_right h2, max_eq_right h1]

/-- A code as the byte of the integer it is. -/
theorem codeOf_int (v s : Ideal .f32) (n : ℤ) (h1 : -127 ≤ n) (h2 : n ≤ 127) (h : clipOf v s = ((n : ℝ) : EReal)) :
    codeOf v s = BitVec.ofInt 8 n := by
  show BitVec.ofInt 8 (Ideal.toIntClamped _ _ (clipOf v s)) = _
  rw [h, toIntClamped_int _ _ _ (by norm_num; omega) (by norm_num; omega)]

/-- By way of 32 bits the code is the same. -/
theorem codeOf_wide (v s : Ideal .f32) : (FloatOps.fptosi 32 (clipOf v s) : BitVec 32).setWidth 8 = codeOf v s := by
  obtain ⟨n, h1, h2, h⟩ := clipOf_int v s
  rw [codeOf_int v s n h1 h2 h]
  show (BitVec.ofInt 32 (Ideal.toIntClamped _ _ (clipOf v s))).setWidth 8 = _
  rw [h, toIntClamped_int _ _ _ (by norm_num; omega) (by norm_num; omega)]
  apply BitVec.eq_of_toNat_eq
  simp only [BitVec.toNat_setWidth, BitVec.toNat_ofInt]
  omega

/-- The code read back as a number is the clipped rounded quotient. -/
theorem codeOf_toInt (v s : Ideal .f32) : (((codeOf v s).toInt : ℝ) : EReal) = clipOf v s := by
  obtain ⟨n, h1, h2, h⟩ := clipOf_int v s
  rw [codeOf_int v s n h1 h2 h, h, BitVec.toInt_ofInt]
  have : n.bmod (2 ^ 8) = n := by rw [Int.bmod_eq_of_le] <;> norm_num <;> omega
  rw [this]

/-- A byte widened to 32 bits reads as the same integer. -/
theorem toInt_wide (x : BitVec 8) : (x.signExtend 32).toInt = x.toInt := BitVec.toInt_signExtend_of_le (by norm_num)

/-- The magnitude of a number is not negative. -/
theorem absf_nonneg (x : Ideal .f32) : (0 : EReal) ≤ FloatOps.absf x := by
  rw [Ideal.absf_def]
  rcases le_total 0 (x : EReal) with h | h
  · exact le_max_of_le_left h
  · exact le_max_of_le_right (EReal.neg_nonneg.mpr h)

/-- The bits the largest magnitude starts from stand for −∞. -/
theorem negInf : (FloatOps.ofBits .f32 0xFF800000#32 : Ideal .f32) = (⊥ : EReal) := by
  simp [Ideal.ofBits, Ideal.ieee]

/-- The bits of one stand for one. -/
theorem one_f32 : (FloatOps.ofBits .f32 0x3F800000#32 : Ideal .f32) = (1 : EReal) := by
  show Ideal.ofBits .f32 0x3F800000#32 = 1
  simp [Ideal.ofBits, Ideal.ieee, -EReal.coe_mul]; norm_num

/-- The bits of zero stand for zero. -/
theorem zero_f32 : (FloatOps.ofBits .f32 0x00000000#32 : Ideal .f32) = (0 : EReal) := by
  show Ideal.ofBits .f32 0x00000000#32 = 0
  simp [Ideal.ofBits, Ideal.ieee]

/-- The largest magnitude lies under a bound exactly if every magnitude does. -/
theorem amaxOf_le {n : ℕ} (f : Fin n → Ideal .f32) (c : EReal) : amaxOf f ≤ c ↔ ∀ k, (FloatOps.absf (f k) : EReal) ≤ c := by
  unfold amaxOf
  rw [Finset.fold_max_le, negInf]
  simp

/-- A host maximum over one axis whose elements are magnitudes, as the largest magnitude. -/
theorem hostMax_amaxOf {s t u : Shape} {a : Fin s.rank} (y : FVec Ideal s .f32) (h : s.ReducesTo [a] t) (hu : 0 < u.numel)
    (hr : s.Reduces [a] t) (j : t.Idx) {n : ℕ} (hn : n = s.size a) (f : Fin n → Ideal .f32)
    (idx : Fin n → s.Idx) (hi : ∀ k : Fin n, hr.lift j (Fin.cast hn k) = idx k) (hf : ∀ k : Fin n, y (idx k) = FloatOps.absf (f k)) :
    Host.reduce FloatOps.maximumf y (constant u .f32 0xFF800000#32) h hu j = amaxOf f := by
  subst hn
  refine (congrFun (hostReduce_maximumf_eq_multiReduction y 0xFF800000#32 h hu hr (.inl rfl) rfl) j).trans ?_
  refine (Ideal.multiReduction_maximumf_single y 0xFF800000#32 hr (.inl rfl) rfl j).trans ?_
  exact congrArg (Finset.fold max _ · _) (funext fun k => (congrArg y (hi k)).trans (hf k))

/-- A kernel's maximum over one axis whose elements are magnitudes, as the largest magnitude. -/
theorem kernelMax_amaxOf {s t : Shape} {a : Fin s.rank} (y : FVec Ideal s .f32)
    (hr : s.Reduces [a] t) (hφ : FKind.Formats .f32) (hacc : (0xFF800000#32 : BitVec 32) = FKind.maximumf.neutral .f32 hφ) (j : t.Idx) {n : ℕ}
    (hn : n = s.size a) (f : Fin n → Ideal .f32)
    (idx : Fin n → s.Idx) (hi : ∀ k : Fin n, hr.lift j (Fin.cast hn k) = idx k) (hf : ∀ k : Fin n, y (idx k) = FloatOps.absf (f k)) :
    multiReduction .maximumf [a] t y 0xFF800000#32 hr hφ hacc j = amaxOf f := by
  subst hn
  refine (Ideal.multiReduction_maximumf_single y 0xFF800000#32 hr hφ hacc j).trans ?_
  exact congrArg (Finset.fold max _ · _) (funext fun k => (congrArg y (hi k)).trans (hf k))

/-- A kernel's sum over one axis. -/
theorem kernelSum {s t : Shape} {a : Fin s.rank} (y : FVec Ideal s .f32)
    (hr : s.Reduces [a] t) (hφ : FKind.Formats .f32) (hacc : (0x00000000#32 : BitVec 32) = FKind.add.neutral .f32 hφ) (j : t.Idx) {n : ℕ}
    (hn : n = s.size a) (f : Fin n → EReal)
    (idx : Fin n → s.Idx) (hi : ∀ k : Fin n, hr.lift j (Fin.cast hn k) = idx k) (hf : ∀ k : Fin n, y (idx k) = f k) :
    multiReduction .add [a] t y 0x00000000#32 hr hφ hacc j = (∑ k : Fin n, f k : EReal) := by
  subst hn
  refine (Ideal.multiReduction_add_single y 0x00000000#32 hr hφ hacc j).trans ?_
  exact Finset.sum_congr rfl fun k _ => (congrArg y (hi k)).trans (hf k)

end Cert.Value

end
-- ==== Proof.Value.Layout.lean ====
module

public import proofs.«01_k».proof.Proof.Value.Scalars
public import Idealize.ShloMosaic.Lib.ValueLayout
public import Idealize.ShloMosaic.Lib.ValueLayoutCasts

@[expose] public section

/-! # Layout operations of the kernels, read at an index -/

set_option maxRecDepth 16384

noncomputable section

namespace Cert.Value

open Idealize.ShloMosaic Idealize.ShloMosaic.ValueIdx

/-- A column spread over the lanes of a block: every lane holds the column's element of its row. -/
theorem spread_col {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    by_cases ha : a = 1
    · rw [if_pos ha]; have := p.isLt; omega
    · rw [if_neg ha]
  | ⟨1, _⟩ => rfl

/-- Two small numbers are equal as 32-bit words exactly if they are equal. -/
theorem word_eq (a b : ℕ) (ha : a < 128) (hb : b < 128) : (BitVec.ofNat 32 a = BitVec.ofNat 32 b) ↔ a = b := by
  constructor
  · intro h
    have := congrArg BitVec.toNat h
    simp only [BitVec.toNat_ofNat] at this
    omega
  · rintro rfl; rfl

/-- The diagonal of a block of replicated scales, read as a row: the elements off the diagonal are cleared and the rows
    added up, so lane `s` is left with the element of row `s` at lane `s`. -/
theorem diag_row (u : FVec Ideal ⟨2, ![32, 128]⟩ .f32) (i0 i1 : IVec ⟨2, ![32, 128]⟩ 32)
    (h0 : ∀ (p : Fin 32) (q : Fin 128), i0 (ix2 p q) = BitVec.ofNat 32 p.val)
    (h1 : ∀ (p : Fin 32) (q : Fin 128), i1 (ix2 p q) = BitVec.ofNat 32 q.val)
    (hr : (⟨2, ![32, 128]⟩ : Shape).Reduces [0] ⟨1, ![128]⟩) (hc : (⟨1, ![128]⟩ : Shape).ShapeCasts ⟨2, ![1, 128]⟩)
    (hs : (⟨2, ![1, 128]⟩ : Shape).Slices ![0, 0] ⟨2, ![1, 32]⟩) (hφ : FKind.Formats .f32) (hacc : (0x00000000#32 : BitVec 32) = FKind.add.neutral .f32 hφ)
    (s : Fin 32) :
    extractStridedSlice ⟨2, ![1, 32]⟩ ![0, 0] (shapeCast ⟨2, ![1, 128]⟩
        (multiReduction .add [0] ⟨1, ![128]⟩ (select (cmpi .eq i0 i1) u (broadcast ⟨2, ![32, 128]⟩ (Scalar.ofBits .f32 0x00000000#32)))
          0x00000000#32 hr hφ hacc) hc) hs (ix2 (0 : Fin 1) s)
      = u (ix2 s (⟨s.val, by omega⟩ : Fin 128)) := by
  rw [slice2_axis1_apply 0 _ hs (0 : Fin 1) s ⟨s.val, by omega⟩ (Nat.zero_add _).symm, shapeCast_a_1a_apply]
  rw [kernelSum _ hr hφ hacc (ix1 (⟨s.val, by omega⟩ : Fin 128)) (n := 32) rfl
    (fun p => if p = s then (u (ix2 s (⟨s.val, by omega⟩ : Fin 128)) : EReal) else 0) (fun p => ix2 p (⟨s.val, by omega⟩ : Fin 128))
    (fun p => funext fun a => by match a with | ⟨0, _⟩ => rfl | ⟨1, _⟩ => rfl) ?_]
  · rw [Finset.sum_ite_eq' Finset.univ s]; simp
  · intro p
    show Scalar.select (Scalar.cmpi .eq (i0 _) (i1 _)) (u (ix2 p _)) (FloatOps.ofBits .f32 0x00000000#32) = _
    rw [h0, h1]
    by_cases h : p = s
    · subst h
      rw [if_pos rfl]
      simp [Scalar.select, Scalar.cmpi, IntOp.cmpi]
    · rw [if_neg h, zero_f32]
      have hne : ¬ (BitVec.ofNat 32 p.val = BitVec.ofNat 32 s.val) := fun e =>
        h (Fin.ext ((word_eq _ _ (by omega) (by omega)).mp e))
      have hb : (BitVec.ofNat 32 p.val == BitVec.ofNat 32 s.val) = false := by simpa using hne
      show (if BitVec.ofBool (BitVec.ofNat 32 p.val == BitVec.ofNat 32 s.val) = 1#1 then (u (ix2 p _) : EReal) else 0) = 0
      rw [hb]; rfl

end Cert.Value

end
-- ==== Proof.Value.K1Pay.lean ====
module

public import proofs.«01_k».proof.Proof.Value.Layout
public import Idealize.ShloMosaic.Lib.MatmulPlain
public import proofs.«01_k».proof.Proof.Gen.KernelIdeal.Skeleton

@[expose] public section

/-! # The second call's payloads, read at an index: the gated hidden layer, its running maximum, its scales -/

set_option maxRecDepth 16384

noncomputable section

namespace Cert.KernelIdeal.K1

open Idealize.ShloMosaic Idealize.ShloMosaic.TcCoe Idealize.ShloMosaic.ValueIdx
open Cert.KernelIdeal.Gen Cert.Value

/-- Column `l` of the group of lanes `g` of a block. -/
def col (g : Fin 4) (l : Fin 128) : Fin 512 := ⟨128 * g.val + l.val, by omega⟩

/-- The integer product of row `r` of the codes and column `j` of a block of one half (`u`) of the weights. -/
def gd (x0 : S768x3584.Idx → BitVec 8) (x2 : S2x3584x512.Idx → BitVec 8) (u : Fin 2) (r : Fin 768) (j : Fin 512) : EReal :=
  dotAt (fun k => x0 (ix2 r k)) fun k => x2 (ix3 u k j)

/-- Element `(r, l)` of group `g` of a block of the gated hidden layer. -/
def hAt (x0 : S768x3584.Idx → BitVec 8) (x1 : FVec Ideal S768x128 .f32) (x2 : S2x3584x512.Idx → BitVec 8) (x3 : FVec Ideal S2x512 .f32)
    (r : Fin 768) (g : Fin 4) (l : Fin 128) : Ideal .f32 :=
  FloatOps.mulf (siluOf (scaledAt (gd x0 x2 0 r (col g l)) (x1 (ix2 r l)) (x3 (ix2 (0 : Fin 2) (col g l)))))
    (scaledAt (gd x0 x2 1 r (col g l)) (x1 (ix2 r l)) (x3 (ix2 (1 : Fin 2) (col g l))))

/-- The running maximum of a lane after a block: of what it was and the magnitudes of the block's four groups. -/
def stepMax (x0 : S768x3584.Idx → BitVec 8) (x1 : FVec Ideal S768x128 .f32) (x2 : S2x3584x512.Idx → BitVec 8) (x3 : FVec Ideal S2x512 .f32)
    (prev : Ideal .f32) (r : Fin 768) (l : Fin 128) : Ideal .f32 :=
  FloatOps.maximumf (FloatOps.maximumf (FloatOps.maximumf (FloatOps.maximumf prev (FloatOps.absf (hAt x0 x1 x2 x3 r 0 l)))
    (FloatOps.absf (hAt x0 x1 x2 x3 r 1 l))) (FloatOps.absf (hAt x0 x1 x2 x3 r 2 l))) (FloatOps.absf (hAt x0 x1 x2 x3 r 3 l))

/-- The product of a block: each element is the integer product of a row of codes and a column of weights. -/
theorem pay36_apply (v3 : Vec Ideal S768x3584 .i8) (v6 : Vec Ideal S1x3584x512 .i8) (r : Fin 768) (j : Fin 512) :
    k1_pay36 v3 v6 (ix2 r j) = (dotAt (fun k => v3 (ix2 r k)) (fun k => v6 (ix3 (0 : Fin 1) k j)) : EReal) := by
  unfold k1_pay36 k1_pay35
  refine (Ideal.matmul_plain_apply (M := 768) (K := 3584) (N := 512) none _ _ _ r j).trans ?_
  have h : ∀ k : Fin 3584, ((sitofp .bf16 (shapeCast S768x3584 v3 shapeCasts_S768x3584_S768x3584) : FVec Ideal S768x3584 .bf16) (ix2 r k) : EReal)
      * (sitofp .bf16 (shapeCast S3584x512 v6 shapeCasts_S1x3584x512_S3584x512) : FVec Ideal S3584x512 .bf16) (ix2 k j)
      = (((v3 (ix2 r k)).toInt : ℝ) : EReal) * (((v6 (ix3 (0 : Fin 1) k j)).toInt : ℝ) : EReal) := fun k => by
    rw [shapeCast_self]
    show (((v3 (ix2 r k)).toInt : ℝ) : EReal) * (((shapeCast S3584x512 v6 shapeCasts_S1x3584x512_S3584x512 (ix2 k j)).toInt : ℝ) : EReal) = _
    rw [shapeCast_1ab_ab_apply]
  have hz : (constant S768x512 .f32 0x00000000#32 : FVec Ideal S768x512 .f32) (ix2 r j) = (0 : EReal) := zero_f32
  refine (congrArg₂ (fun a b : EReal => a + b) hz (Finset.sum_congr rfl fun k _ => h k)).trans ?_
  exact zero_add _

/-- The gate's product at an entry. -/
theorem pay37_apply (v3 : Vec Ideal S768x3584 .i8) (v6 : Vec Ideal S1x3584x512 .i8) (r : Fin 768) (j : Fin 512) :
    k1_pay37 v3 v6 (ix2 r j) = (dotAt (fun k => v3 (ix2 r k)) (fun k => v6 (ix3 (0 : Fin 1) k j)) : EReal) :=
  pay36_apply v3 v6 r j

/-- One group of lanes: the SiLU of the scaled gate times the scaled up-projection. -/
theorem grp_apply (o : ℕ) (hs : S768x512.Slices ![0, o] S768x128) (v9 v13 : FVec Ideal S768x512 .f32) (v15 : FVec Ideal S768x128 .f32)
    (w0 w1 : FVec Ideal S1x128 .f32) (r : Fin 768) (l : Fin 128) (j : Fin 512) (hj : j.val = o + l.val) :
    mulf (mulf (mulf (mulf (extractStridedSlice S768x128 ![0, o] v9 hs) v15) (broadcastTo S768x128 w0 broadcasts_S1x128_S768x128))
        (logistic (mulf (mulf (extractStridedSlice S768x128 ![0, o] v9 hs) v15) (broadcastTo S768x128 w0 broadcasts_S1x128_S768x128))))
      (mulf (mulf (extractStridedSlice S768x128 ![0, o] v13 hs) v15) (broadcastTo S768x128 w1 broadcasts_S1x128_S768x128)) (ix2 r l)
    = FloatOps.mulf (siluOf (scaledAt (v9 (ix2 r j)) (v15 (ix2 r l)) (w0 (ix2 (0 : Fin 1) l))))
        (scaledAt (v13 (ix2 r j)) (v15 (ix2 r l)) (w1 (ix2 (0 : Fin 1) l))) := by
  have e9 : extractStridedSlice S768x128 ![0, o] v9 hs (ix2 r l) = v9 (ix2 r j) := slice2_axis1_apply o v9 hs r l j hj
  have e13 : extractStridedSlice S768x128 ![0, o] v13 hs (ix2 r l) = v13 (ix2 r j) := slice2_axis1_apply o v13 hs r l j hj
  have e0 : broadcastTo S768x128 w0 broadcasts_S1x128_S768x128 (ix2 r l) = w0 (ix2 (0 : Fin 1) l) := broadcastTo_1b_ab_apply w0 _ r l
  have e1 : broadcastTo S768x128 w1 broadcasts_S1x128_S768x128 (ix2 r l) = w1 (ix2 (0 : Fin 1) l) := broadcastTo_1b_ab_apply w1 _ r l
  rw [← e9, ← e13, ← e0, ← e1]
  rfl

section Groups

variable (x0 : S768x3584.Idx → BitVec 8) (x1 : FVec Ideal S768x128 .f32) (x2 : S2x3584x512.Idx → BitVec 8) (x3 : FVec Ideal S2x512 .f32)
  (v9 v13 : FVec Ideal S768x512 .f32) (v15 : FVec Ideal S768x128 .f32)
  (h9 : ∀ r j, v9 (ix2 r j) = gd x0 x2 0 r j) (h13 : ∀ r j, v13 (ix2 r j) = gd x0 x2 1 r j) (h15 : ∀ r l, v15 (ix2 r l) = x1 (ix2 r l))
  (w0 w1 : FVec Ideal S1x128 .f32)

include h9 h13 h15

/-- One group of lanes of a block, from the block's products and the group's column scales. -/
theorem grp_eq (g : Fin 4) (hs : S768x512.Slices ![0, 128 * g.val] S768x128)
    (hw0 : ∀ l, w0 (ix2 (0 : Fin 1) l) = x3 (ix2 (0 : Fin 2) (col g l))) (hw1 : ∀ l, w1 (ix2 (0 : Fin 1) l) = x3 (ix2 (1 : Fin 2) (col g l)))
    (r : Fin 768) (l : Fin 128) :
    mulf (mulf (mulf (mulf (extractStridedSlice S768x128 ![0, 128 * g.val] v9 hs) v15) (broadcastTo S768x128 w0 broadcasts_S1x128_S768x128))
        (logistic (mulf (mulf (extractStridedSlice S768x128 ![0, 128 * g.val] v9 hs) v15) (broadcastTo S768x128 w0 broadcasts_S1x128_S768x128))))
      (mulf (mulf (extractStridedSlice S768x128 ![0, 128 * g.val] v13 hs) v15) (broadcastTo S768x128 w1 broadcasts_S1x128_S768x128)) (ix2 r l)
    = hAt x0 x1 x2 x3 r g l := by
  rw [grp_apply _ hs v9 v13 v15 w0 w1 r l (col g l) rfl, h9, h13, h15, hw0, hw1]
  rfl

/-- The second group of columns, by the general formula. -/
theorem grp1_eq (v34 : FVec Ideal S768x128 .f32) (h34 : v34 = mulf (extractStridedSlice S768x128 ![0, 128] v9 slices_S768x512_o0_128_S768x128) v15)
    (hw0 : ∀ l, w0 (ix2 (0 : Fin 1) l) = x3 (ix2 (0 : Fin 2) (col 1 l))) (hw1 : ∀ l, w1 (ix2 (0 : Fin 1) l) = x3 (ix2 (1 : Fin 2) (col 1 l)))
    (r : Fin 768) (l : Fin 128) : k1_pay42 v13 v15 v34 w0 w1 (ix2 r l) = hAt x0 x1 x2 x3 r 1 l := by
  subst h34
  exact grp_eq x0 x1 x2 x3 v9 v13 v15 h9 h13 h15 w0 w1 1 slices_S768x512_o0_128_S768x128 hw0 hw1 r l

/-- The third group of columns, by the general formula. -/
theorem grp2_eq
    (hw0 : ∀ l, w0 (ix2 (0 : Fin 1) l) = x3 (ix2 (0 : Fin 2) (col 2 l))) (hw1 : ∀ l, w1 (ix2 (0 : Fin 1) l) = x3 (ix2 (1 : Fin 2) (col 2 l)))
    (r : Fin 768) (l : Fin 128) : k1_pay43 v9 v13 v15 w0 w1 (ix2 r l) = hAt x0 x1 x2 x3 r 2 l :=
  grp_eq x0 x1 x2 x3 v9 v13 v15 h9 h13 h15 w0 w1 2 slices_S768x512_o0_256_S768x128 hw0 hw1 r l

/-- The fourth group of columns, by the general formula. -/
theorem grp3_eq
    (hw0 : ∀ l, w0 (ix2 (0 : Fin 1) l) = x3 (ix2 (0 : Fin 2) (col 3 l))) (hw1 : ∀ l, w1 (ix2 (0 : Fin 1) l) = x3 (ix2 (1 : Fin 2) (col 3 l)))
    (r : Fin 768) (l : Fin 128) : k1_pay1 (k1_pay45 v13 v15 w1) (k1_pay46 v9 v15 w0) (ix2 r l) = hAt x0 x1 x2 x3 r 3 l :=
  grp_eq x0 x1 x2 x3 v9 v13 v15 h9 h13 h15 w0 w1 3 slices_S768x512_o0_384_S768x128 hw0 hw1 r l

end Groups

/-- The first group, straight from the buffers. -/
theorem grp0_eq (x0 : S768x3584.Idx → BitVec 8) (x1 : FVec Ideal S768x128 .f32) (x2 : S2x3584x512.Idx → BitVec 8) (x3 : FVec Ideal S2x512 .f32)
    (v3 : Vec Ideal S768x3584 .i8) (v6 v10 : Vec Ideal S1x3584x512 .i8) (v14 : Vec Ideal S768x128 .f32) (w0 w1 : Vec Ideal S1x128 .f32)
    (h9 : ∀ r j, k1_pay36 v3 v6 (ix2 r j) = gd x0 x2 0 r j) (h13 : ∀ r j, k1_pay37 v3 v10 (ix2 r j) = gd x0 x2 1 r j)
    (h15 : ∀ r l, k1_pay38 v14 (ix2 r l) = x1 (ix2 r l))
    (hw0 : ∀ l, w0 (ix2 (0 : Fin 1) l) = x3 (ix2 (0 : Fin 2) (col 0 l))) (hw1 : ∀ l, w1 (ix2 (0 : Fin 1) l) = x3 (ix2 (1 : Fin 2) (col 0 l)))
    (r : Fin 768) (l : Fin 128) : k1_pay39 v3 v6 v10 v14 w0 w1 (ix2 r l) = hAt x0 x1 x2 x3 r 0 l :=
  grp_eq x0 x1 x2 x3 _ _ _ h9 h13 h15 w0 w1 0 slices_S768x512_o0_0_S768x128 hw0 hw1 r l

/-- The scales a lane block of row maxima gives: the same in every lane, from the largest of the row's lanes. -/
theorem pay5_apply (v87 : FVec Ideal S768x128 .f32) (r : Fin 768) (l : Fin 128) (f : Fin 128 → Ideal .f32)
    (hf : ∀ l, v87 (ix2 r l) = FloatOps.absf (f l)) :
    k1_pay5 v87 (ix2 r l) = scaleOf (amaxOf f) := by
  have hs : multiReduction .maximumf [1] S768 v87 0xFF800000#32 reduces_S768x128_S768 (.inl rfl) rfl (ix1 r) = amaxOf f :=
    kernelMax_amaxOf _ reduces_S768x128_S768 (.inl rfl) rfl (ix1 r) (n := 128) rfl _ (fun k => ix2 r k)
      (fun k => funext fun a => by match a with | ⟨0, _⟩ => rfl | ⟨1, _⟩ => rfl) (fun k => hf k)
  unfold k1_pay5
  show scaleOf (broadcastTo S768x128 (shapeCast S768x1 (shapeCast S768x1 _ shapeCasts_S768_S768x1) shapeCasts_S768x1_S768x1) broadcasts_S768x1_S768x128 (ix2 r l)) = _
  rw [spread_col, shapeCast_self, shapeCast_a_a1_apply, hs]

/-- A row of scales, cut from the replicated scales at row `o`: lane `s` holds the scale of row `o + s`. -/
theorem row_at (X : FVec Ideal S768x128 .f32) (o : ℕ) (ho : o + 32 ≤ 768) (hs : S768x128.Slices ![o, 0] S32x128) (s : Fin 32) :
    extractStridedSlice S1x32 ![0, 0] (shapeCast S1x128
        (multiReduction .add [0] S128 (select (cmpi .eq (iota .tc S32x128 32 [0] iota_S32x128_d0_w32) (iota .tc S32x128 32 [1] iota_S32x128_d1_w32))
            (extractStridedSlice S32x128 ![o, 0] X hs) (broadcast S32x128 (Scalar.ofBits .f32 0x00000000#32)))
          0x00000000#32 reduces_S32x128_S128 (.inl rfl) rfl) shapeCasts_S128_S1x128) slices_S1x128_o0_0_S1x32 (ix2 (0 : Fin 1) s)
      = X (ix2 (⟨o + s.val, by omega⟩ : Fin 768) (⟨s.val, by omega⟩ : Fin 128)) := by
  refine (diag_row _ _ _ (fun p q => ?_) (fun p q => ?_) _ _ _ _ _ s).trans ?_
  · exact iota_single_apply _ _ _ _ _ _
  · exact iota_single_apply _ _ _ _ _ _
  · exact slice2_axis0_apply o X hs s _ _ rfl

end Cert.KernelIdeal.K1

end
-- ==== Proof.Value.K1Out.lean ====
module

public import proofs.«01_k».proof.Proof.Value.K1Pay
public import proofs.«01_k».proof.Proof.K1.Body

@[expose] public section

/-! # What one grid point of the second call leaves, read at an index

The three cases of the grid (the first point, the points between, the last) leave the same block of the gated hidden layer
and take the running maximum one step further; the last one also leaves the scales. -/

set_option maxRecDepth 16384

noncomputable section

namespace Cert.KernelIdeal.K1

open Idealize.ShloMosaic Idealize.ShloMosaic.TcCoe Idealize.ShloMosaic.ValueIdx
open Cert.KernelIdeal.Gen Cert.Value

/-- A load of a rectangle of a buffer whose contents are known reads them at the rectangle's place. -/
theorem ld_apply {s : Shape} {e : EltTy} {arg : Memref sig .tc .vmem s e} (harg : arg.IsWhole) (x : Vec Ideal s e) {off size : Fin s.rank → ℕ}
    (inb : ∀ a, off a + size a ≤ s.size a) (i : (⟨s.rank, size⟩ : Shape).Idx) :
    View.readAt (Elt Ideal) arg.view (Rect.unit (s := s) off size inb).toLoadRect (harg.unread x) i = x ((Rect.unit (s := s) off size inb).emb i) :=
  congrFun (harg.read_unread x) _

/-- The block of the gated hidden layer, as one array over its columns. -/
def hBlk (x0 : S768x3584.Idx → BitVec 8) (x1 : FVec Ideal S768x128 .f32) (x2 : S2x3584x512.Idx → BitVec 8) (x3 : FVec Ideal S2x512 .f32) :
    FVec Ideal S768x512 .f32 := fun y =>
  hAt x0 x1 x2 x3 (y 0) ⟨(y 1).val / 128, by have : (y 1).val < 512 := (y 1).isLt; omega⟩ ⟨(y 1).val % 128, Nat.mod_lt _ (by omega)⟩

/-- The hidden block at a column of a group. -/
theorem hBlk_at (x0 : S768x3584.Idx → BitVec 8) (x1 : FVec Ideal S768x128 .f32) (x2 : S2x3584x512.Idx → BitVec 8) (x3 : FVec Ideal S2x512 .f32)
    (y : S768x512.Idx) (r : Fin 768) (g : Fin 4) (l : Fin 128) (h0 : (y 0).val = r.val) (h1 : (y 1).val = 128 * g.val + l.val) :
    hBlk x0 x1 x2 x3 y = hAt x0 x1 x2 x3 r g l := by
  have e0 : y 0 = r := Fin.ext h0
  have eg : (⟨(y 1).val / 128, by have : (y 1).val < 512 := (y 1).isLt; omega⟩ : Fin 4) = g := Fin.ext (by show (y 1).val / 128 = g.val; omega)
  have el : (⟨(y 1).val % 128, Nat.mod_lt _ (by omega)⟩ : Fin 128) = l := Fin.ext (by show (y 1).val % 128 = l.val; omega)
  unfold hBlk
  rw [eg, el]
  exact congrArg (fun r => hAt x0 x1 x2 x3 r g l) e0

section Loads

variable (x0 : Vec Ideal S768x3584 .i8) (x1 : Vec Ideal S768x128 .f32) (x2 : Vec Ideal S2x3584x512 .i8) (x3 : Vec Ideal S2x512 .f32)
  {arg1 : Memref sig .tc .vmem S768x3584 .i8} (harg1 : arg1.IsWhole) {arg2 : Memref sig .tc .vmem S768x128 .f32} (harg2 : arg2.IsWhole)
  {arg3 : Memref sig .tc .vmem S2x3584x512 .i8} (harg3 : arg3.IsWhole) {arg4 : Memref sig .tc .vmem S2x512 .f32} (harg4 : arg4.IsWhole)

/-- The gate's product, as the body loads its operands. -/
theorem gate_ld (r : Fin 768) (j : Fin 512) :
    k1_pay36 (View.readAt (Elt Ideal) arg1.view (Rect.unit (s := S768x3584) ![0, 0] S768x3584.size inb_S768x3584_S768x3584_0_0).toLoadRect (harg1.unread x0))
      (View.readAt (Elt Ideal) arg3.view (Rect.unit (s := S2x3584x512) ![0, 0, 0] S1x3584x512.size inb_S2x3584x512_S1x3584x512_0_0_0).toLoadRect (harg3.unread x2)) (ix2 r j)
      = gd x0 x2 0 r j := by
  refine (pay36_apply _ _ r j).trans ?_
  unfold gd
  congr 1
  · funext k
    refine (ld_apply harg1 x0 inb_S768x3584_S768x3584_0_0 (ix2 r k)).trans (congrArg x0 (funext fun a => Fin.ext ?_))
    match a with
    | ⟨0, _⟩ => show 0 + 1 * r.val = r.val; omega
    | ⟨1, _⟩ => show 0 + 1 * k.val = k.val; omega
  · funext k
    refine (ld_apply harg3 x2 inb_S2x3584x512_S1x3584x512_0_0_0 (ix3 (0 : Fin 1) k j)).trans (congrArg x2 (funext fun a => Fin.ext ?_))
    match a with
    | ⟨0, _⟩ => rfl
    | ⟨1, _⟩ => show 0 + 1 * k.val = k.val; omega
    | ⟨2, _⟩ => show 0 + 1 * j.val = j.val; omega

/-- The up-projection's product, as the body loads its operands. -/
theorem up_ld (r : Fin 768) (j : Fin 512) :
    k1_pay37 (View.readAt (Elt Ideal) arg1.view (Rect.unit (s := S768x3584) ![0, 0] S768x3584.size inb_S768x3584_S768x3584_0_0).toLoadRect (harg1.unread x0))
      (View.readAt (Elt Ideal) arg3.view (Rect.unit (s := S2x3584x512) ![1, 0, 0] S1x3584x512.size inb_S2x3584x512_S1x3584x512_1_0_0).toLoadRect (harg3.unread x2)) (ix2 r j)
      = gd x0 x2 1 r j := by
  refine (pay37_apply _ _ r j).trans ?_
  unfold gd
  congr 1
  · funext k
    refine (ld_apply harg1 x0 inb_S768x3584_S768x3584_0_0 (ix2 r k)).trans (congrArg x0 (funext fun a => Fin.ext ?_))
    match a with
    | ⟨0, _⟩ => show 0 + 1 * r.val = r.val; omega
    | ⟨1, _⟩ => show 0 + 1 * k.val = k.val; omega
  · funext k
    refine (ld_apply harg3 x2 inb_S2x3584x512_S1x3584x512_1_0_0 (ix3 (0 : Fin 1) k j)).trans (congrArg x2 (funext fun a => Fin.ext ?_))
    match a with
    | ⟨0, _⟩ => rfl
    | ⟨1, _⟩ => show 0 + 1 * k.val = k.val; omega
    | ⟨2, _⟩ => show 0 + 1 * j.val = j.val; omega

/-- The repeated scales, as the body loads them. -/
theorem srep_ld (r : Fin 768) (l : Fin 128) :
    k1_pay38 (View.readAt (Elt Ideal) arg2.view (Rect.unit (s := S768x128) ![0, 0] S768x128.size inb_S768x128_S768x128_0_0).toLoadRect (harg2.unread x1)) (ix2 r l)
      = x1 (ix2 r l) := by
  unfold k1_pay38
  show shapeCast S768x128 (View.readAt (Elt Ideal) arg2.view (Rect.unit (s := S768x128) ![0, 0] S768x128.size inb_S768x128_S768x128_0_0).toLoadRect (harg2.unread x1)) shapeCasts_S768x128_S768x128 (ix2 r l) = _
  refine (congrFun (shapeCast_self (α := Ideal .f32) (s := S768x128) _ _) (ix2 r l)).trans ?_
  refine (ld_apply harg2 x1 inb_S768x128_S768x128_0_0 (ix2 r l)).trans (congrArg x1 (funext fun a => Fin.ext ?_))
  match a with
  | ⟨0, _⟩ => show 0 + 1 * r.val = r.val; omega
  | ⟨1, _⟩ => show 0 + 1 * l.val = l.val; omega

/-- A row of weight scales, as the body loads it. -/
theorem ws_ld (u o : ℕ) (inb : ∀ a, (![u, o] : Fin 2 → ℕ) a + S1x128.size a ≤ S2x512.size a) (uu : Fin 2) (hu : uu.val = u) (g : Fin 4) (hg : o = 128 * g.val) (l : Fin 128) :
    View.readAt (Elt Ideal) arg4.view (Rect.unit (s := S2x512) ![u, o] S1x128.size inb).toLoadRect (harg4.unread x3) (ix2 (0 : Fin 1) l)
      = x3 (ix2 uu (col g l)) := by
  refine (ld_apply harg4 x3 inb (ix2 (0 : Fin 1) l)).trans (congrArg x3 (funext fun a => Fin.ext ?_))
  match a with
  | ⟨0, _⟩ => show u + 1 * 0 = uu.val; omega
  | ⟨1, _⟩ => show o + 1 * l.val = 128 * g.val + l.val; omega

/-- The running maximum, as the body loads it. -/
theorem max_ld {arg8 : Memref sig .tc .vmem S768x128 .f32} (harg8 : arg8.IsWhole) (xs : Vec Ideal S768x128 .f32) (r : Fin 768) (l : Fin 128) :
    View.readAt (Elt Ideal) arg8.view (Rect.unit (s := S768x128) ![0, 0] S768x128.size inb_S768x128_S768x128_0_0).toLoadRect (harg8.unread xs) (ix2 r l) = xs (ix2 r l) := by
  refine (ld_apply harg8 xs inb_S768x128_S768x128_0_0 (ix2 r l)).trans (congrArg xs (funext fun a => Fin.ext ?_))
  match a with
  | ⟨0, _⟩ => show 0 + 1 * r.val = r.val; omega
  | ⟨1, _⟩ => show 0 + 1 * l.val = l.val; omega

end Loads

/-- The running maximum's step, from the four groups and what it was. -/
theorem step_eq (x0 : S768x3584.Idx → BitVec 8) (x1 : FVec Ideal S768x128 .f32) (x2 : S2x3584x512.Idx → BitVec 8) (x3 : FVec Ideal S2x512 .f32)
    (v64 v74 v76 v48 v32 v16 h0 h1 h2 : FVec Ideal S768x128 .f32) (prev : Ideal .f32) (r : Fin 768) (l : Fin 128)
    (e64 : v64 = maximumf v48 (absf h2)) (e48 : v48 = maximumf v32 (absf h1)) (e32 : v32 = maximumf v16 (absf h0))
    (e0 : h0 (ix2 r l) = hAt x0 x1 x2 x3 r 0 l) (e1 : h1 (ix2 r l) = hAt x0 x1 x2 x3 r 1 l) (e2 : h2 (ix2 r l) = hAt x0 x1 x2 x3 r 2 l)
    (e3 : k1_pay1 v74 v76 (ix2 r l) = hAt x0 x1 x2 x3 r 3 l) (e16 : v16 (ix2 r l) = prev) :
    k1_pay2 v64 v74 v76 (ix2 r l) = stepMax x0 x1 x2 x3 prev r l := by
  subst e64 e48 e32
  unfold k1_pay2
  show shapeCast S768x128 (maximumf _ (absf (k1_pay1 v74 v76))) shapeCasts_S768x128_S768x128 (ix2 r l) = _
  rw [shapeCast_self]
  unfold stepMax
  rw [← e0, ← e1, ← e2, ← e3, ← e16]
  rfl

/-- The first point finds the running maximum it has just cleared. -/
theorem zero_ld (c : Dev nD) (arg8 : Memref sig .tc .vmem S768x128 .f32) (r : Fin 768) (l : Fin 128) :
    kernelRun1_A.sl.v16 (F := Ideal) c arg8 (ix2 r l) = FloatOps.ofBits (F := Ideal) .f32 0x00000000#32 := by
  have h : kernelRun1_A.sl.v16 (F := Ideal) c arg8 = k1_pay34 (F := Ideal) := by
    unfold kernelRun1_A.sl.v16 kernelRun1_A.sl.HS0_1
    exact View.readCov_unit_zero (Val := Elt Ideal) (e := .f32) arg8.view (S := S768x128) (by funext a; match a with | ⟨0, _⟩ => rfl | ⟨1, _⟩ => rfl) inb_S768x128_S768x128_0_0 (k1_pay34 (F := Ideal))
  refine (congrFun h (ix2 r l)).trans ?_
  unfold k1_pay34
  exact congrFun (shapeCast_self (α := Ideal .f32) (s := S768x128) _ _) (ix2 r l)

/-- The block of the gated hidden layer at the first point. -/
theorem out_A_4 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : cond1_0 i) (hc1 : ¬cond1_1 i)
    (x0 : Vec Ideal S768x3584 .i8) (x1 : Vec Ideal S768x128 .f32) (x2 : Vec Ideal S2x3584x512 .i8) (x3 : Vec Ideal S2x512 .f32) :
    out1_A_4 c i arg1 harg1 arg2 harg2 arg3 harg3 arg4 harg4 arg5 harg5 arg6 harg6 arg7 harg7 arg8 harg8 hc0 hc1 x0 x1 x2 x3 = hBlk x0 x1 x2 x3 := by
  funext y
  unfold out1_A_4
  refine View.read_writes_apply_of_pieces _ _ (hBlk x0 x1 x2 x3) _ ?_ y (cover1_A_4 c i arg1 harg1 arg2 harg2 arg3 harg3 arg4 harg4 arg5 harg5 arg6 harg6 arg7 harg7 arg8 harg8 hc0 hc1 x0 x1 x2 x3 y)
  refine List.forall_mem_cons.2 ⟨fun x => ?_, List.forall_mem_cons.2 ⟨fun x => ?_, List.forall_mem_cons.2 ⟨fun x => ?_, List.forall_mem_cons.2 ⟨fun x => ?_, fun p hp => absurd hp List.not_mem_nil⟩⟩⟩⟩
  · obtain ⟨r, l, hx⟩ : ∃ (r : Fin 768) (l : Fin 128), x = (ix2 r l : S768x128.Idx) := ⟨x 0, x 1, eq_ix2 (n0 := 768) (n1 := 128) x⟩
    subst hx
    refine Eq.trans ?_ (hBlk_at x0 x1 x2 x3 _ r 3 l ?_ ?_).symm
    · exact grp3_eq x0 x1 x2 x3 (kernelRun1_A.sl.r c arg1 harg1 arg3 harg3 x0 x2) (kernelRun1_A.sl.r_1 c arg1 harg1 arg3 harg3 x0 x2) (kernelRun1_A.sl.r_2 c arg2 harg2 x1) (gate_ld x0 x2 harg1 harg3) (up_ld x0 x2 harg1 harg3) (srep_ld x1 harg2) _ _ (fun l => ws_ld x3 harg4 0 384 _ 0 rfl 3 rfl l) (fun l => ws_ld x3 harg4 1 384 _ 1 rfl 3 rfl l) r l
    · show 0 + 1 * r.val = r.val; omega
    · show 384 + 1 * l.val = 128 * 3 + l.val; omega
  · obtain ⟨r, l, hx⟩ : ∃ (r : Fin 768) (l : Fin 128), x = (ix2 r l : S768x128.Idx) := ⟨x 0, x 1, eq_ix2 (n0 := 768) (n1 := 128) x⟩
    subst hx
    refine Eq.trans ?_ (hBlk_at x0 x1 x2 x3 _ r 2 l ?_ ?_).symm
    · exact grp2_eq x0 x1 x2 x3 (kernelRun1_A.sl.r c arg1 harg1 arg3 harg3 x0 x2) (kernelRun1_A.sl.r_1 c arg1 harg1 arg3 harg3 x0 x2) (kernelRun1_A.sl.r_2 c arg2 harg2 x1) (gate_ld x0 x2 harg1 harg3) (up_ld x0 x2 harg1 harg3) (srep_ld x1 harg2) _ _ (fun l => ws_ld x3 harg4 0 256 _ 0 rfl 2 rfl l) (fun l => ws_ld x3 harg4 1 256 _ 1 rfl 2 rfl l) r l
    · show 0 + 1 * r.val = r.val; omega
    · show 256 + 1 * l.val = 128 * 2 + l.val; omega
  · obtain ⟨r, l, hx⟩ : ∃ (r : Fin 768) (l : Fin 128), x = (ix2 r l : S768x128.Idx) := ⟨x 0, x 1, eq_ix2 (n0 := 768) (n1 := 128) x⟩
    subst hx
    refine Eq.trans ?_ (hBlk_at x0 x1 x2 x3 _ r 1 l ?_ ?_).symm
    · exact grp1_eq x0 x1 x2 x3 (kernelRun1_A.sl.r c arg1 harg1 arg3 harg3 x0 x2) (kernelRun1_A.sl.r_1 c arg1 harg1 arg3 harg3 x0 x2) (kernelRun1_A.sl.r_2 c arg2 harg2 x1) (gate_ld x0 x2 harg1 harg3) (up_ld x0 x2 harg1 harg3) (srep_ld x1 harg2) _ _ _ rfl (fun l => ws_ld x3 harg4 0 128 _ 0 rfl 1 rfl l) (fun l => ws_ld x3 harg4 1 128 _ 1 rfl 1 rfl l) r l
    · show 0 + 1 * r.val = r.val; omega
    · show 128 + 1 * l.val = 128 * 1 + l.val; omega
  · obtain ⟨r, l, hx⟩ : ∃ (r : Fin 768) (l : Fin 128), x = (ix2 r l : S768x128.Idx) := ⟨x 0, x 1, eq_ix2 (n0 := 768) (n1 := 128) x⟩
    subst hx
    refine Eq.trans ?_ (hBlk_at x0 x1 x2 x3 _ r 0 l ?_ ?_).symm
    · exact grp0_eq x0 x1 x2 x3 _ _ _ _ _ _ (gate_ld x0 x2 harg1 harg3) (up_ld x0 x2 harg1 harg3) (srep_ld x1 harg2) (fun l => ws_ld x3 harg4 0 0 _ 0 rfl 0 rfl l) (fun l => ws_ld x3 harg4 1 0 _ 1 rfl 0 rfl l) r l
    · show 0 + 1 * r.val = r.val; omega
    · show 0 + 1 * l.val = 128 * 0 + l.val; omega

set_option maxHeartbeats 200000 in
/-- The running maximum at the first point. -/
theorem sout_A (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : cond1_0 i) (hc1 : ¬cond1_1 i)
    (x0 : Vec Ideal S768x3584 .i8) (x1 : Vec Ideal S768x128 .f32) (x2 : Vec Ideal S2x3584x512 .i8) (x3 : Vec Ideal S2x512 .f32) (r : Fin 768) (l : Fin 128) :
    sout1_A_0 c i arg1 harg1 arg2 harg2 arg3 harg3 arg4 harg4 arg5 harg5 arg6 harg6 arg7 harg7 arg8 harg8 hc0 hc1 x0 x1 x2 x3 (ix2 r l) = stepMax x0 x1 x2 x3 (FloatOps.ofBits .f32 0x00000000#32) r l := by
  unfold sout1_A_0
  have he : (Rect.unit (s := S768x128) ![0, 0] S768x128.size inb_S768x128_S768x128_0_0).emb (ix2 r l) = (ix2 r l : S768x128.Idx) := by
    funext a; apply Fin.ext
    match a with
    | ⟨0, _⟩ => show 0 + 1 * r.val = r.val; omega
    | ⟨1, _⟩ => show 0 + 1 * l.val = l.val; omega
  have hw : k1_pay2 (kernelRun1_A.sl.r_5 c arg1 harg1 arg2 harg2 arg3 harg3 arg4 harg4 arg8 x0 x1 x2 x3)
      (kernelRun1_A.sl.r_6 c arg1 harg1 arg2 harg2 arg3 harg3 arg4 harg4 x0 x1 x2 x3) (kernelRun1_A.sl.r_7 c arg1 harg1 arg2 harg2 arg3 harg3 arg4 harg4 x0 x1 x2 x3) (ix2 r l)
        = stepMax x0 x1 x2 x3 (FloatOps.ofBits .f32 0x00000000#32) r l :=
    step_eq x0 x1 x2 x3 _ _ _ _ _ (kernelRun1_A.sl.v16 (F := Ideal) c arg8) _ _ _ _ r l rfl rfl rfl
        (grp0_eq x0 x1 x2 x3 _ _ _ _ _ _ (gate_ld x0 x2 harg1 harg3) (up_ld x0 x2 harg1 harg3) (srep_ld x1 harg2) (fun l => ws_ld x3 harg4 0 0 _ 0 rfl 0 rfl l) (fun l => ws_ld x3 harg4 1 0 _ 1 rfl 0 rfl l) r l)
        (grp1_eq x0 x1 x2 x3 (kernelRun1_A.sl.r c arg1 harg1 arg3 harg3 x0 x2) (kernelRun1_A.sl.r_1 c arg1 harg1 arg3 harg3 x0 x2) (kernelRun1_A.sl.r_2 c arg2 harg2 x1) (gate_ld x0 x2 harg1 harg3) (up_ld x0 x2 harg1 harg3) (srep_ld x1 harg2) _ _ _ rfl (fun l => ws_ld x3 harg4 0 128 _ 0 rfl 1 rfl l) (fun l => ws_ld x3 harg4 1 128 _ 1 rfl 1 rfl l) r l)
        (grp2_eq x0 x1 x2 x3 (kernelRun1_A.sl.r c arg1 harg1 arg3 harg3 x0 x2) (kernelRun1_A.sl.r_1 c arg1 harg1 arg3 harg3 x0 x2) (kernelRun1_A.sl.r_2 c arg2 harg2 x1) (gate_ld x0 x2 harg1 harg3) (up_ld x0 x2 harg1 harg3) (srep_ld x1 harg2) _ _ (fun l => ws_ld x3 harg4 0 256 _ 0 rfl 2 rfl l) (fun l => ws_ld x3 harg4 1 256 _ 1 rfl 2 rfl l) r l)
        (grp3_eq x0 x1 x2 x3 (kernelRun1_A.sl.r c arg1 harg1 arg3 harg3 x0 x2) (kernelRun1_A.sl.r_1 c arg1 harg1 arg3 harg3 x0 x2) (kernelRun1_A.sl.r_2 c arg2 harg2 x1) (gate_ld x0 x2 harg1 harg3) (up_ld x0 x2 harg1 harg3) (srep_ld x1 harg2) _ _ (fun l => ws_ld x3 harg4 0 384 _ 0 rfl 3 rfl l) (fun l => ws_ld x3 harg4 1 384 _ 1 rfl 3 rfl l) r l)
        (zero_ld c arg8 r l)
  generalize hp : k1_pay2 (kernelRun1_A.sl.r_5 c arg1 harg1 arg2 harg2 arg3 harg3 arg4 harg4 arg8 x0 x1 x2 x3)
      (kernelRun1_A.sl.r_6 c arg1 harg1 arg2 harg2 arg3 harg3 arg4 harg4 x0 x1 x2 x3) (kernelRun1_A.sl.r_7 c arg1 harg1 arg2 harg2 arg3 harg3 arg4 harg4 x0 x1 x2 x3) = w at hw
  have hl : (kernelRun1_A c i arg1 harg1 arg2 harg2 arg3 harg3 arg4 harg4 arg5 harg5 arg6 harg6 arg7 harg7 arg8 harg8 hc0 hc1 x0 x1 x2 x3).2.2.2.1 = [(⟨Rect.unit (s := S768x128) ![0, 0] S768x128.size inb_S768x128_S768x128_0_0, w⟩ : View.Piece (Elt Ideal) S768x128 .f32),
      ⟨Rect.unit (s := S768x128) ![0, 0] S768x128.size inb_S768x128_S768x128_0_0, k1_pay34 (F := Ideal)⟩] := by rw [← hp]; rfl
  rw [hl, ← hw]
  have := View.read_writes_cons_emb (Val := Elt Ideal) VS1_0 VS1_0.junk (Rect.unit (s := S768x128) ![0, 0] S768x128.size inb_S768x128_S768x128_0_0) w
    [(⟨Rect.unit (s := S768x128) ![0, 0] S768x128.size inb_S768x128_S768x128_0_0, k1_pay34 (F := Ideal)⟩ : View.Piece (Elt Ideal) S768x128 .f32)] (ix2 r l)
  rw [he] at this
  exact this

/-- The block of the gated hidden layer at a point between. -/
theorem out_B_4 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : ¬cond1_1 i)
    (x0 : Vec Ideal S768x3584 .i8) (x1 : Vec Ideal S768x128 .f32) (x2 : Vec Ideal S2x3584x512 .i8) (x3 : Vec Ideal S2x512 .f32) (xs0 : Vec Ideal S768x128 .f32) :
    out1_B_4 c i arg1 harg1 arg2 harg2 arg3 harg3 arg4 harg4 arg5 harg5 arg6 harg6 arg7 harg7 arg8 harg8 hc0 hc1 x0 x1 x2 x3 xs0 = hBlk x0 x1 x2 x3 := by
  funext y
  unfold out1_B_4
  refine View.read_writes_apply_of_pieces _ _ (hBlk x0 x1 x2 x3) _ ?_ y (cover1_B_4 c i arg1 harg1 arg2 harg2 arg3 harg3 arg4 harg4 arg5 harg5 arg6 harg6 arg7 harg7 arg8 harg8 hc0 hc1 x0 x1 x2 x3 xs0 y)
  refine List.forall_mem_cons.2 ⟨fun x => ?_, List.forall_mem_cons.2 ⟨fun x => ?_, List.forall_mem_cons.2 ⟨fun x => ?_, List.forall_mem_cons.2 ⟨fun x => ?_, fun p hp => absurd hp List.not_mem_nil⟩⟩⟩⟩
  · obtain ⟨r, l, hx⟩ : ∃ (r : Fin 768) (l : Fin 128), x = (ix2 r l : S768x128.Idx) := ⟨x 0, x 1, eq_ix2 (n0 := 768) (n1 := 128) x⟩
    subst hx
    refine Eq.trans ?_ (hBlk_at x0 x1 x2 x3 _ r 3 l ?_ ?_).symm
    · exact grp3_eq x0 x1 x2 x3 (kernelRun1_B.sl.r c arg1 harg1 arg3 harg3 x0 x2) (kernelRun1_B.sl.r_1 c arg1 harg1 arg3 harg3 x0 x2) (kernelRun1_B.sl.r_2 c arg2 harg2 x1) (gate_ld x0 x2 harg1 harg3) (up_ld x0 x2 harg1 harg3) (srep_ld x1 harg2) _ _ (fun l => ws_ld x3 harg4 0 384 _ 0 rfl 3 rfl l) (fun l => ws_ld x3 harg4 1 384 _ 1 rfl 3 rfl l) r l
    · show 0 + 1 * r.val = r.val; omega
    · show 384 + 1 * l.val = 128 * 3 + l.val; omega
  · obtain ⟨r, l, hx⟩ : ∃ (r : Fin 768) (l : Fin 128), x = (ix2 r l : S768x128.Idx) := ⟨x 0, x 1, eq_ix2 (n0 := 768) (n1 := 128) x⟩
    subst hx
    refine Eq.trans ?_ (hBlk_at x0 x1 x2 x3 _ r 2 l ?_ ?_).symm
    · exact grp2_eq x0 x1 x2 x3 (kernelRun1_B.sl.r c arg1 harg1 arg3 harg3 x0 x2) (kernelRun1_B.sl.r_1 c arg1 harg1 arg3 harg3 x0 x2) (kernelRun1_B.sl.r_2 c arg2 harg2 x1) (gate_ld x0 x2 harg1 harg3) (up_ld x0 x2 harg1 harg3) (srep_ld x1 harg2) _ _ (fun l => ws_ld x3 harg4 0 256 _ 0 rfl 2 rfl l) (fun l => ws_ld x3 harg4 1 256 _ 1 rfl 2 rfl l) r l
    · show 0 + 1 * r.val = r.val; omega
    · show 256 + 1 * l.val = 128 * 2 + l.val; omega
  · obtain ⟨r, l, hx⟩ : ∃ (r : Fin 768) (l : Fin 128), x = (ix2 r l : S768x128.Idx) := ⟨x 0, x 1, eq_ix2 (n0 := 768) (n1 := 128) x⟩
    subst hx
    refine Eq.trans ?_ (hBlk_at x0 x1 x2 x3 _ r 1 l ?_ ?_).symm
    · exact grp1_eq x0 x1 x2 x3 (kernelRun1_B.sl.r c arg1 harg1 arg3 harg3 x0 x2) (kernelRun1_B.sl.r_1 c arg1 harg1 arg3 harg3 x0 x2) (kernelRun1_B.sl.r_2 c arg2 harg2 x1) (gate_ld x0 x2 harg1 harg3) (up_ld x0 x2 harg1 harg3) (srep_ld x1 harg2) _ _ _ rfl (fun l => ws_ld x3 harg4 0 128 _ 0 rfl 1 rfl l) (fun l => ws_ld x3 harg4 1 128 _ 1 rfl 1 rfl l) r l
    · show 0 + 1 * r.val = r.val; omega
    · show 128 + 1 * l.val = 128 * 1 + l.val; omega
  · obtain ⟨r, l, hx⟩ : ∃ (r : Fin 768) (l : Fin 128), x = (ix2 r l : S768x128.Idx) := ⟨x 0, x 1, eq_ix2 (n0 := 768) (n1 := 128) x⟩
    subst hx
    refine Eq.trans ?_ (hBlk_at x0 x1 x2 x3 _ r 0 l ?_ ?_).symm
    · exact grp0_eq x0 x1 x2 x3 _ _ _ _ _ _ (gate_ld x0 x2 harg1 harg3) (up_ld x0 x2 harg1 harg3) (srep_ld x1 harg2) (fun l => ws_ld x3 harg4 0 0 _ 0 rfl 0 rfl l) (fun l => ws_ld x3 harg4 1 0 _ 1 rfl 0 rfl l) r l
    · show 0 + 1 * r.val = r.val; omega
    · show 0 + 1 * l.val = 128 * 0 + l.val; omega

set_option maxHeartbeats 200000 in
/-- The running maximum at a point between. -/
theorem sout_B (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : ¬cond1_1 i)
    (x0 : Vec Ideal S768x3584 .i8) (x1 : Vec Ideal S768x128 .f32) (x2 : Vec Ideal S2x3584x512 .i8) (x3 : Vec Ideal S2x512 .f32) (xs0 : Vec Ideal S768x128 .f32) (r : Fin 768) (l : Fin 128) :
    sout1_B_0 c i arg1 harg1 arg2 harg2 arg3 harg3 arg4 harg4 arg5 harg5 arg6 harg6 arg7 harg7 arg8 harg8 hc0 hc1 x0 x1 x2 x3 xs0 (ix2 r l) = stepMax x0 x1 x2 x3 (xs0 (ix2 r l)) r l := by
  unfold sout1_B_0
  refine View.read_writes_apply_of_pieces _ _ (fun y => stepMax x0 x1 x2 x3 (xs0 y) (y 0) (y 1)) _ ?_ (ix2 r l) (scover1_B_0 c i arg1 harg1 arg2 harg2 arg3 harg3 arg4 harg4 arg5 harg5 arg6 harg6 arg7 harg7 arg8 harg8 hc0 hc1 x0 x1 x2 x3 xs0 (ix2 r l))
  refine List.forall_mem_cons.2 ⟨fun x => ?_, fun p hp => absurd hp List.not_mem_nil⟩
  obtain ⟨r, l, hx⟩ : ∃ (r : Fin 768) (l : Fin 128), x = (ix2 r l : S768x128.Idx) := ⟨x 0, x 1, eq_ix2 (n0 := 768) (n1 := 128) x⟩
  subst hx
  have he : (Rect.unit (s := S768x128) ![0, 0] S768x128.size inb_S768x128_S768x128_0_0).emb (ix2 r l) = (ix2 r l : S768x128.Idx) := by
    funext a; apply Fin.ext
    match a with
    | ⟨0, _⟩ => show 0 + 1 * r.val = r.val; omega
    | ⟨1, _⟩ => show 0 + 1 * l.val = l.val; omega
  refine Eq.trans ?_ (congrArg (fun y : S768x128.Idx => stepMax x0 x1 x2 x3 (xs0 y) (y 0) (y 1)) he).symm
  exact step_eq x0 x1 x2 x3 _ _ _ _ _ _ _ _ _ (xs0 (ix2 r l)) r l rfl rfl rfl
    (grp0_eq x0 x1 x2 x3 _ _ _ _ _ _ (gate_ld x0 x2 harg1 harg3) (up_ld x0 x2 harg1 harg3) (srep_ld x1 harg2) (fun l => ws_ld x3 harg4 0 0 _ 0 rfl 0 rfl l) (fun l => ws_ld x3 harg4 1 0 _ 1 rfl 0 rfl l) r l)
    (grp1_eq x0 x1 x2 x3 (kernelRun1_B.sl.r c arg1 harg1 arg3 harg3 x0 x2) (kernelRun1_B.sl.r_1 c arg1 harg1 arg3 harg3 x0 x2) (kernelRun1_B.sl.r_2 c arg2 harg2 x1) (gate_ld x0 x2 harg1 harg3) (up_ld x0 x2 harg1 harg3) (srep_ld x1 harg2) _ _ _ rfl (fun l => ws_ld x3 harg4 0 128 _ 0 rfl 1 rfl l) (fun l => ws_ld x3 harg4 1 128 _ 1 rfl 1 rfl l) r l)
    (grp2_eq x0 x1 x2 x3 (kernelRun1_B.sl.r c arg1 harg1 arg3 harg3 x0 x2) (kernelRun1_B.sl.r_1 c arg1 harg1 arg3 harg3 x0 x2) (kernelRun1_B.sl.r_2 c arg2 harg2 x1) (gate_ld x0 x2 harg1 harg3) (up_ld x0 x2 harg1 harg3) (srep_ld x1 harg2) _ _ (fun l => ws_ld x3 harg4 0 256 _ 0 rfl 2 rfl l) (fun l => ws_ld x3 harg4 1 256 _ 1 rfl 2 rfl l) r l)
    (grp3_eq x0 x1 x2 x3 (kernelRun1_B.sl.r c arg1 harg1 arg3 harg3 x0 x2) (kernelRun1_B.sl.r_1 c arg1 harg1 arg3 harg3 x0 x2) (kernelRun1_B.sl.r_2 c arg2 harg2 x1) (gate_ld x0 x2 harg1 harg3) (up_ld x0 x2 harg1 harg3) (srep_ld x1 harg2) _ _ (fun l => ws_ld x3 harg4 0 384 _ 0 rfl 3 rfl l) (fun l => ws_ld x3 harg4 1 384 _ 1 rfl 3 rfl l) r l)
    (max_ld harg8 xs0 r l)

/-- The block of the gated hidden layer at the last point. -/
theorem out_C_4 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : cond1_1 i)
    (x0 : Vec Ideal S768x3584 .i8) (x1 : Vec Ideal S768x128 .f32) (x2 : Vec Ideal S2x3584x512 .i8) (x3 : Vec Ideal S2x512 .f32) (xs0 : Vec Ideal S768x128 .f32) :
    out1_C_4 c i arg1 harg1 arg2 harg2 arg3 harg3 arg4 harg4 arg5 harg5 arg6 harg6 arg7 harg7 arg8 harg8 hc0 hc1 x0 x1 x2 x3 xs0 = hBlk x0 x1 x2 x3 := by
  funext y
  unfold out1_C_4
  refine View.read_writes_apply_of_pieces _ _ (hBlk x0 x1 x2 x3) _ ?_ y (cover1_C_4 c i arg1 harg1 arg2 harg2 arg3 harg3 arg4 harg4 arg5 harg5 arg6 harg6 arg7 harg7 arg8 harg8 hc0 hc1 x0 x1 x2 x3 xs0 y)
  refine List.forall_mem_cons.2 ⟨fun x => ?_, List.forall_mem_cons.2 ⟨fun x => ?_, List.forall_mem_cons.2 ⟨fun x => ?_, List.forall_mem_cons.2 ⟨fun x => ?_, fun p hp => absurd hp List.not_mem_nil⟩⟩⟩⟩
  · obtain ⟨r, l, hx⟩ : ∃ (r : Fin 768) (l : Fin 128), x = (ix2 r l : S768x128.Idx) := ⟨x 0, x 1, eq_ix2 (n0 := 768) (n1 := 128) x⟩
    subst hx
    refine Eq.trans ?_ (hBlk_at x0 x1 x2 x3 _ r 3 l ?_ ?_).symm
    · exact grp3_eq x0 x1 x2 x3 (kernelRun1_C.sl.r c arg1 harg1 arg3 harg3 x0 x2) (kernelRun1_C.sl.r_1 c arg1 harg1 arg3 harg3 x0 x2) (kernelRun1_C.sl.r_2 c arg2 harg2 x1) (gate_ld x0 x2 harg1 harg3) (up_ld x0 x2 harg1 harg3) (srep_ld x1 harg2) _ _ (fun l => ws_ld x3 harg4 0 384 _ 0 rfl 3 rfl l) (fun l => ws_ld x3 harg4 1 384 _ 1 rfl 3 rfl l) r l
    · show 0 + 1 * r.val = r.val; omega
    · show 384 + 1 * l.val = 128 * 3 + l.val; omega
  · obtain ⟨r, l, hx⟩ : ∃ (r : Fin 768) (l : Fin 128), x = (ix2 r l : S768x128.Idx) := ⟨x 0, x 1, eq_ix2 (n0 := 768) (n1 := 128) x⟩
    subst hx
    refine Eq.trans ?_ (hBlk_at x0 x1 x2 x3 _ r 2 l ?_ ?_).symm
    · exact grp2_eq x0 x1 x2 x3 (kernelRun1_C.sl.r c arg1 harg1 arg3 harg3 x0 x2) (kernelRun1_C.sl.r_1 c arg1 harg1 arg3 harg3 x0 x2) (kernelRun1_C.sl.r_2 c arg2 harg2 x1) (gate_ld x0 x2 harg1 harg3) (up_ld x0 x2 harg1 harg3) (srep_ld x1 harg2) _ _ (fun l => ws_ld x3 harg4 0 256 _ 0 rfl 2 rfl l) (fun l => ws_ld x3 harg4 1 256 _ 1 rfl 2 rfl l) r l
    · show 0 + 1 * r.val = r.val; omega
    · show 256 + 1 * l.val = 128 * 2 + l.val; omega
  · obtain ⟨r, l, hx⟩ : ∃ (r : Fin 768) (l : Fin 128), x = (ix2 r l : S768x128.Idx) := ⟨x 0, x 1, eq_ix2 (n0 := 768) (n1 := 128) x⟩
    subst hx
    refine Eq.trans ?_ (hBlk_at x0 x1 x2 x3 _ r 1 l ?_ ?_).symm
    · exact grp1_eq x0 x1 x2 x3 (kernelRun1_C.sl.r c arg1 harg1 arg3 harg3 x0 x2) (kernelRun1_C.sl.r_1 c arg1 harg1 arg3 harg3 x0 x2) (kernelRun1_C.sl.r_2 c arg2 harg2 x1) (gate_ld x0 x2 harg1 harg3) (up_ld x0 x2 harg1 harg3) (srep_ld x1 harg2) _ _ _ rfl (fun l => ws_ld x3 harg4 0 128 _ 0 rfl 1 rfl l) (fun l => ws_ld x3 harg4 1 128 _ 1 rfl 1 rfl l) r l
    · show 0 + 1 * r.val = r.val; omega
    · show 128 + 1 * l.val = 128 * 1 + l.val; omega
  · obtain ⟨r, l, hx⟩ : ∃ (r : Fin 768) (l : Fin 128), x = (ix2 r l : S768x128.Idx) := ⟨x 0, x 1, eq_ix2 (n0 := 768) (n1 := 128) x⟩
    subst hx
    refine Eq.trans ?_ (hBlk_at x0 x1 x2 x3 _ r 0 l ?_ ?_).symm
    · exact grp0_eq x0 x1 x2 x3 _ _ _ _ _ _ (gate_ld x0 x2 harg1 harg3) (up_ld x0 x2 harg1 harg3) (srep_ld x1 harg2) (fun l => ws_ld x3 harg4 0 0 _ 0 rfl 0 rfl l) (fun l => ws_ld x3 harg4 1 0 _ 1 rfl 0 rfl l) r l
    · show 0 + 1 * r.val = r.val; omega
    · show 0 + 1 * l.val = 128 * 0 + l.val; omega

set_option maxHeartbeats 200000 in
/-- The running maximum at the last point. -/
theorem sout_C (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : cond1_1 i)
    (x0 : Vec Ideal S768x3584 .i8) (x1 : Vec Ideal S768x128 .f32) (x2 : Vec Ideal S2x3584x512 .i8) (x3 : Vec Ideal S2x512 .f32) (xs0 : Vec Ideal S768x128 .f32) (r : Fin 768) (l : Fin 128) :
    sout1_C_0 c i arg1 harg1 arg2 harg2 arg3 harg3 arg4 harg4 arg5 harg5 arg6 harg6 arg7 harg7 arg8 harg8 hc0 hc1 x0 x1 x2 x3 xs0 (ix2 r l) = stepMax x0 x1 x2 x3 (xs0 (ix2 r l)) r l := by
  unfold sout1_C_0
  refine View.read_writes_apply_of_pieces _ _ (fun y => stepMax x0 x1 x2 x3 (xs0 y) (y 0) (y 1)) _ ?_ (ix2 r l) (scover1_C_0 c i arg1 harg1 arg2 harg2 arg3 harg3 arg4 harg4 arg5 harg5 arg6 harg6 arg7 harg7 arg8 harg8 hc0 hc1 x0 x1 x2 x3 xs0 (ix2 r l))
  refine List.forall_mem_cons.2 ⟨fun x => ?_, fun p hp => absurd hp List.not_mem_nil⟩
  obtain ⟨r, l, hx⟩ : ∃ (r : Fin 768) (l : Fin 128), x = (ix2 r l : S768x128.Idx) := ⟨x 0, x 1, eq_ix2 (n0 := 768) (n1 := 128) x⟩
  subst hx
  have he : (Rect.unit (s := S768x128) ![0, 0] S768x128.size inb_S768x128_S768x128_0_0).emb (ix2 r l) = (ix2 r l : S768x128.Idx) := by
    funext a; apply Fin.ext
    match a with
    | ⟨0, _⟩ => show 0 + 1 * r.val = r.val; omega
    | ⟨1, _⟩ => show 0 + 1 * l.val = l.val; omega
  refine Eq.trans ?_ (congrArg (fun y : S768x128.Idx => stepMax x0 x1 x2 x3 (xs0 y) (y 0) (y 1)) he).symm
  exact step_eq x0 x1 x2 x3 _ _ _ _ _ _ _ _ _ (xs0 (ix2 r l)) r l rfl rfl rfl
    (grp0_eq x0 x1 x2 x3 _ _ _ _ _ _ (gate_ld x0 x2 harg1 harg3) (up_ld x0 x2 harg1 harg3) (srep_ld x1 harg2) (fun l => ws_ld x3 harg4 0 0 _ 0 rfl 0 rfl l) (fun l => ws_ld x3 harg4 1 0 _ 1 rfl 0 rfl l) r l)
    (grp1_eq x0 x1 x2 x3 (kernelRun1_C.sl.r c arg1 harg1 arg3 harg3 x0 x2) (kernelRun1_C.sl.r_1 c arg1 harg1 arg3 harg3 x0 x2) (kernelRun1_C.sl.r_2 c arg2 harg2 x1) (gate_ld x0 x2 harg1 harg3) (up_ld x0 x2 harg1 harg3) (srep_ld x1 harg2) _ _ _ rfl (fun l => ws_ld x3 harg4 0 128 _ 0 rfl 1 rfl l) (fun l => ws_ld x3 harg4 1 128 _ 1 rfl 1 rfl l) r l)
    (grp2_eq x0 x1 x2 x3 (kernelRun1_C.sl.r c arg1 harg1 arg3 harg3 x0 x2) (kernelRun1_C.sl.r_1 c arg1 harg1 arg3 harg3 x0 x2) (kernelRun1_C.sl.r_2 c arg2 harg2 x1) (gate_ld x0 x2 harg1 harg3) (up_ld x0 x2 harg1 harg3) (srep_ld x1 harg2) _ _ (fun l => ws_ld x3 harg4 0 256 _ 0 rfl 2 rfl l) (fun l => ws_ld x3 harg4 1 256 _ 1 rfl 2 rfl l) r l)
    (grp3_eq x0 x1 x2 x3 (kernelRun1_C.sl.r c arg1 harg1 arg3 harg3 x0 x2) (kernelRun1_C.sl.r_1 c arg1 harg1 arg3 harg3 x0 x2) (kernelRun1_C.sl.r_2 c arg2 harg2 x1) (gate_ld x0 x2 harg1 harg3) (up_ld x0 x2 harg1 harg3) (srep_ld x1 harg2) _ _ (fun l => ws_ld x3 harg4 0 384 _ 0 rfl 3 rfl l) (fun l => ws_ld x3 harg4 1 384 _ 1 rfl 3 rfl l) r l)
    (max_ld harg8 xs0 r l)

/-- The running maximum after the last point, as one array. -/
def newMax (x0 : S768x3584.Idx → BitVec 8) (x1 : FVec Ideal S768x128 .f32) (x2 : S2x3584x512.Idx → BitVec 8) (x3 : FVec Ideal S2x512 .f32)
    (xs0 : FVec Ideal S768x128 .f32) : FVec Ideal S768x128 .f32 := fun y => stepMax x0 x1 x2 x3 (xs0 y) (y 0) (y 1)

/-- The last point reads back the running maximum it has just stored. -/
theorem v87_eq (c : Dev nD) (arg1 : Memref sig .tc .vmem S768x3584 .i8) (harg1 : arg1.IsWhole) (arg2 : Memref sig .tc .vmem S768x128 .f32) (harg2 : arg2.IsWhole)
    (arg3 : Memref sig .tc .vmem S2x3584x512 .i8) (harg3 : arg3.IsWhole) (arg4 : Memref sig .tc .vmem S2x512 .f32) (harg4 : arg4.IsWhole)
    (arg8 : Memref sig .tc .vmem S768x128 .f32) (harg8 : arg8.IsWhole)
    (x0 : Vec Ideal S768x3584 .i8) (x1 : Vec Ideal S768x128 .f32) (x2 : Vec Ideal S2x3584x512 .i8) (x3 : Vec Ideal S2x512 .f32) (xs0 : Vec Ideal S768x128 .f32) :
    kernelRun1_C.sl.v87 c arg1 harg1 arg2 harg2 arg3 harg3 arg4 harg4 arg8 harg8 x0 x1 x2 x3 xs0 = newMax x0 x1 x2 x3 xs0 := by
  unfold kernelRun1_C.sl.v87 kernelRun1_C.sl.HS0_1
  refine (View.readCov_unit_zero (Val := Elt Ideal) (e := .f32) arg8.view (S := S768x128) (by funext a; match a with | ⟨0, _⟩ => rfl | ⟨1, _⟩ => rfl) inb_S768x128_S768x128_0_0 _).trans ?_
  funext x
  obtain ⟨r, l, hx⟩ : ∃ (r : Fin 768) (l : Fin 128), x = (ix2 r l : S768x128.Idx) := ⟨x 0, x 1, eq_ix2 (n0 := 768) (n1 := 128) x⟩
  subst hx
  exact step_eq x0 x1 x2 x3 _ _ _ _ _ _ _ _ _ (xs0 (ix2 r l)) r l rfl rfl rfl
    (grp0_eq x0 x1 x2 x3 _ _ _ _ _ _ (gate_ld x0 x2 harg1 harg3) (up_ld x0 x2 harg1 harg3) (srep_ld x1 harg2) (fun l => ws_ld x3 harg4 0 0 _ 0 rfl 0 rfl l) (fun l => ws_ld x3 harg4 1 0 _ 1 rfl 0 rfl l) r l)
    (grp1_eq x0 x1 x2 x3 (kernelRun1_C.sl.r c arg1 harg1 arg3 harg3 x0 x2) (kernelRun1_C.sl.r_1 c arg1 harg1 arg3 harg3 x0 x2) (kernelRun1_C.sl.r_2 c arg2 harg2 x1) (gate_ld x0 x2 harg1 harg3) (up_ld x0 x2 harg1 harg3) (srep_ld x1 harg2) _ _ _ rfl (fun l => ws_ld x3 harg4 0 128 _ 0 rfl 1 rfl l) (fun l => ws_ld x3 harg4 1 128 _ 1 rfl 1 rfl l) r l)
    (grp2_eq x0 x1 x2 x3 (kernelRun1_C.sl.r c arg1 harg1 arg3 harg3 x0 x2) (kernelRun1_C.sl.r_1 c arg1 harg1 arg3 harg3 x0 x2) (kernelRun1_C.sl.r_2 c arg2 harg2 x1) (gate_ld x0 x2 harg1 harg3) (up_ld x0 x2 harg1 harg3) (srep_ld x1 harg2) _ _ (fun l => ws_ld x3 harg4 0 256 _ 0 rfl 2 rfl l) (fun l => ws_ld x3 harg4 1 256 _ 1 rfl 2 rfl l) r l)
    (grp3_eq x0 x1 x2 x3 (kernelRun1_C.sl.r c arg1 harg1 arg3 harg3 x0 x2) (kernelRun1_C.sl.r_1 c arg1 harg1 arg3 harg3 x0 x2) (kernelRun1_C.sl.r_2 c arg2 harg2 x1) (gate_ld x0 x2 harg1 harg3) (up_ld x0 x2 harg1 harg3) (srep_ld x1 harg2) _ _ (fun l => ws_ld x3 harg4 0 384 _ 0 rfl 3 rfl l) (fun l => ws_ld x3 harg4 1 384 _ 1 rfl 3 rfl l) r l)
    (max_ld harg8 xs0 r l)

/-- A whole array written from one piece. -/
theorem whole_piece (X X' : FVec Ideal S768x128 .f32) (hX : X' = X) (x : S768x128.Idx) :
    X' x = X ((Rect.unit (s := S768x128) ![0, 0] S768x128.size inb_S768x128_S768x128_0_0).emb x) := by
  subst hX
  refine congrArg X' (funext fun a => Fin.ext ?_)
  match a with
  | ⟨0, _⟩ => show (x 0).val = 0 + 1 * (x 0).val; omega
  | ⟨1, _⟩ => show (x 1).val = 0 + 1 * (x 1).val; omega

/-- The replicated scales the last point leaves. -/
theorem out_C_5 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : cond1_1 i)
    (x0 : Vec Ideal S768x3584 .i8) (x1 : Vec Ideal S768x128 .f32) (x2 : Vec Ideal S2x3584x512 .i8) (x3 : Vec Ideal S2x512 .f32) (xs0 : Vec Ideal S768x128 .f32) :
    out1_C_5 c i arg1 harg1 arg2 harg2 arg3 harg3 arg4 harg4 arg5 harg5 arg6 harg6 arg7 harg7 arg8 harg8 hc0 hc1 x0 x1 x2 x3 xs0 = k1_pay5 (F := Ideal) (newMax x0 x1 x2 x3 xs0) := by
  funext y
  unfold out1_C_5
  refine View.read_writes_apply_of_pieces _ _ (k1_pay5 (F := Ideal) (newMax x0 x1 x2 x3 xs0)) _ ?_ y (cover1_C_5 c i arg1 harg1 arg2 harg2 arg3 harg3 arg4 harg4 arg5 harg5 arg6 harg6 arg7 harg7 arg8 harg8 hc0 hc1 x0 x1 x2 x3 xs0 y)
  have h5 : k1_pay5 (kernelRun1_C.sl.v87 c arg1 harg1 arg2 harg2 arg3 harg3 arg4 harg4 arg8 harg8 x0 x1 x2 x3 xs0) = k1_pay5 (F := Ideal) (newMax x0 x1 x2 x3 xs0) :=
    congrArg k1_pay5 (v87_eq c arg1 harg1 arg2 harg2 arg3 harg3 arg4 harg4 arg8 harg8 x0 x1 x2 x3 xs0)
  refine List.forall_mem_cons.2 ⟨?_, fun p hp => absurd hp List.not_mem_nil⟩
  refine whole_piece _ _ ?_
  dsimp only
  exact h5

/-- The rows of scales of a block of replicated scales: row `b` lists the scales of the rows of sequence `b`. -/
def rowsOf (X : FVec Ideal S768x128 .f32) : FVec Ideal S24x32 .f32 := fun y =>
  X (ix2 (⟨32 * (y 0).val + (y 1).val, by have h0 : (y 0).val < 24 := (y 0).isLt; have h1 : (y 1).val < 32 := (y 1).isLt; omega⟩ : Fin 768)
    (⟨(y 1).val, by have h1 : (y 1).val < 32 := (y 1).isLt; omega⟩ : Fin 128))

/-- A row of the scale array written from one piece. -/
theorem row_piece (X X' : FVec Ideal S768x128 .f32) (hX : X' = X) (b : ℕ) (hb : b < 24) (inb : ∀ a, (![b, 0] : Fin 2 → ℕ) a + S1x32.size a ≤ S24x32.size a)
    (w : S1x32.Idx → Elt Ideal .f32)
    (hw : ∀ s : Fin 32, w (ix2 (0 : Fin 1) s) = X' (ix2 (⟨32 * b + s.val, by omega⟩ : Fin 768) (⟨s.val, by omega⟩ : Fin 128))) (x : S1x32.Idx) :
    w x = rowsOf X ((Rect.unit (s := S24x32) ![b, 0] S1x32.size inb).emb x) := by
  subst hX
  obtain ⟨z, s, rfl⟩ : ∃ (z : Fin 1) (s : Fin 32), x = (ix2 z s : S1x32.Idx) := ⟨x 0, x 1, eq_ix2 (n0 := 1) (n1 := 32) x⟩
  obtain rfl : z = 0 := Subsingleton.elim _ _
  rw [hw]
  unfold rowsOf
  congr 1
  funext a; apply Fin.ext
  match a with
  | ⟨0, _⟩ => show 32 * b + s.val = 32 * (b + 1 * 0) + (0 + 1 * s.val); omega
  | ⟨1, _⟩ => show s.val = 0 + 1 * s.val; omega

/-- The rows of scales the last point leaves. -/
theorem out_C_6 (c : Dev nD) (i : grid1.Coords) (arg1 : Memref sig .tc .vmem S768x3584 .i8) (harg1 : arg1.IsWhole) (arg2 : Memref sig .tc .vmem S768x128 .f32) (harg2 : arg2.IsWhole) (arg3 : Memref sig .tc .vmem S2x3584x512 .i8) (harg3 : arg3.IsWhole) (arg4 : Memref sig .tc .vmem S2x512 .f32) (harg4 : arg4.IsWhole) (arg5 : Memref sig .tc .vmem S768x512 .f32) (harg5 : arg5.IsWhole) (arg6 : Memref sig .tc .vmem S768x128 .f32) (harg6 : arg6.IsWhole) (arg7 : Memref sig .tc .vmem S24x32 .f32) (harg7 : arg7.IsWhole) (arg8 : Memref sig .tc .vmem S768x128 .f32) (harg8 : arg8.IsWhole) (hc0 : ¬cond1_0 i) (hc1 : cond1_1 i)
    (x0 : Vec Ideal S768x3584 .i8) (x1 : Vec Ideal S768x128 .f32) (x2 : Vec Ideal S2x3584x512 .i8) (x3 : Vec Ideal S2x512 .f32) (xs0 : Vec Ideal S768x128 .f32) :
    out1_C_6 c i arg1 harg1 arg2 harg2 arg3 harg3 arg4 harg4 arg5 harg5 arg6 harg6 arg7 harg7 arg8 harg8 hc0 hc1 x0 x1 x2 x3 xs0 = rowsOf (k1_pay5 (F := Ideal) (newMax x0 x1 x2 x3 xs0)) := by
  funext y
  unfold out1_C_6
  have h5 : k1_pay5 (kernelRun1_C.sl.v87 c arg1 harg1 arg2 harg2 arg3 harg3 arg4 harg4 arg8 harg8 x0 x1 x2 x3 xs0) = k1_pay5 (F := Ideal) (newMax x0 x1 x2 x3 xs0) :=
    congrArg k1_pay5 (v87_eq c arg1 harg1 arg2 harg2 arg3 harg3 arg4 harg4 arg8 harg8 x0 x1 x2 x3 xs0)
  refine View.read_writes_apply_of_pieces _ _ (rowsOf (k1_pay5 (F := Ideal) (newMax x0 x1 x2 x3 xs0))) _ ?_ y (cover1_C_6 c i arg1 harg1 arg2 harg2 arg3 harg3 arg4 harg4 arg5 harg5 arg6 harg6 arg7 harg7 arg8 harg8 hc0 hc1 x0 x1 x2 x3 xs0 y)
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun p hp => absurd hp List.not_mem_nil⟩⟩⟩⟩⟩⟩⟩⟩⟩⟩⟩⟩⟩⟩⟩⟩⟩⟩⟩⟩⟩⟩⟩⟩
  · exact row_piece _ _ h5 23 (by omega) inb_S24x32_S1x32_23_0 _ fun s => row_at _ 736 (by omega) slices_S768x128_o736_0_S32x128 s
  · exact row_piece _ _ h5 22 (by omega) inb_S24x32_S1x32_22_0 _ fun s => row_at _ 704 (by omega) slices_S768x128_o704_0_S32x128 s
  · exact row_piece _ _ h5 21 (by omega) inb_S24x32_S1x32_21_0 _ fun s => row_at _ 672 (by omega) slices_S768x128_o672_0_S32x128 s
  · exact row_piece _ _ h5 20 (by omega) inb_S24x32_S1x32_20_0 _ fun s => row_at _ 640 (by omega) slices_S768x128_o640_0_S32x128 s
  · exact row_piece _ _ h5 19 (by omega) inb_S24x32_S1x32_19_0 _ fun s => row_at _ 608 (by omega) slices_S768x128_o608_0_S32x128 s
  · exact row_piece _ _ h5 18 (by omega) inb_S24x32_S1x32_18_0 _ fun s => row_at _ 576 (by omega) slices_S768x128_o576_0_S32x128 s
  · exact row_piece _ _ h5 17 (by omega) inb_S24x32_S1x32_17_0 _ fun s => row_at _ 544 (by omega) slices_S768x128_o544_0_S32x128 s
  · exact row_piece _ _ h5 16 (by omega) inb_S24x32_S1x32_16_0 _ fun s => row_at _ 512 (by omega) slices_S768x128_o512_0_S32x128 s
  · exact row_piece _ _ h5 15 (by omega) inb_S24x32_S1x32_15_0 _ fun s => row_at _ 480 (by omega) slices_S768x128_o480_0_S32x128 s
  · exact row_piece _ _ h5 14 (by omega) inb_S24x32_S1x32_14_0 _ fun s => row_at _ 448 (by omega) slices_S768x128_o448_0_S32x128 s
  · exact row_piece _ _ h5 13 (by omega) inb_S24x32_S1x32_13_0 _ fun s => row_at _ 416 (by omega) slices_S768x128_o416_0_S32x128 s
  · exact row_piece _ _ h5 12 (by omega) inb_S24x32_S1x32_12_0 _ fun s => row_at _ 384 (by omega) slices_S768x128_o384_0_S32x128 s
  · exact row_piece _ _ h5 11 (by omega) inb_S24x32_S1x32_11_0 _ fun s => row_at _ 352 (by omega) slices_S768x128_o352_0_S32x128 s
  · exact row_piece _ _ h5 10 (by omega) inb_S24x32_S1x32_10_0 _ fun s => row_at _ 320 (by omega) slices_S768x128_o320_0_S32x128 s
  · exact row_piece _ _ h5 9 (by omega) inb_S24x32_S1x32_9_0 _ fun s => row_at _ 288 (by omega) slices_S768x128_o288_0_S32x128 s
  · exact row_piece _ _ h5 8 (by omega) inb_S24x32_S1x32_8_0 _ fun s => row_at _ 256 (by omega) slices_S768x128_o256_0_S32x128 s
  · exact row_piece _ _ h5 7 (by omega) inb_S24x32_S1x32_7_0 _ fun s => row_at _ 224 (by omega) slices_S768x128_o224_0_S32x128 s
  · exact row_piece _ _ h5 6 (by omega) inb_S24x32_S1x32_6_0 _ fun s => row_at _ 192 (by omega) slices_S768x128_o192_0_S32x128 s
  · exact row_piece _ _ h5 5 (by omega) inb_S24x32_S1x32_5_0 _ fun s => row_at _ 160 (by omega) slices_S768x128_o160_0_S32x128 s
  · exact row_piece _ _ h5 4 (by omega) inb_S24x32_S1x32_4_0 _ fun s => row_at _ 128 (by omega) slices_S768x128_o128_0_S32x128 s
  · exact row_piece _ _ h5 3 (by omega) inb_S24x32_S1x32_3_0 _ fun s => row_at _ 96 (by omega) slices_S768x128_o96_0_S32x128 s
  · exact row_piece _ _ h5 2 (by omega) inb_S24x32_S1x32_2_0 _ fun s => row_at _ 64 (by omega) slices_S768x128_o64_0_S32x128 s
  · exact row_piece _ _ h5 1 (by omega) inb_S24x32_S1x32_1_0 _ fun s => row_at _ 32 (by omega) slices_S768x128_o32_0_S32x128 s
  · exact row_piece _ _ h5 0 (by omega) inb_S24x32_S1x32_0_0 _ fun s => row_at _ 0 (by omega) slices_S768x128_o0_0_S32x128 s

end Cert.KernelIdeal.K1

end
-- ==== Proof.Value.RefRead.lean ====
module

public import proofs.«01_k».proof.Proof.Gen.ReferenceIdeal.Read
public import proofs.«01_k».proof.Proof.Value.Scalars

@[expose] public section

/-! # The reference, element by element

Each stage of the reference read at an index, in the scalar formulas of `Scalars`: the normed row, the scales and codes of
the first quantisation, the gated product, the scales and codes of the second, the result. -/

set_option maxRecDepth 16384

noncomputable section

namespace Cert.Value

open Idealize.ShloMosaic Idealize.ShloMosaic.ValueIdx
open Cert.ReferenceIdeal Cert.ReferenceIdeal.Gen Cert.ReferenceIdeal.Read

/-- The row of the flat activations that position `s` of batch `b` has. -/
def rowAt (b : Fin 24) (s : Fin 32) : Fin 768 := ⟨32 * b.val + s.val, by omega⟩

variable (x0 : (⟨S768x3584, .f32⟩ : BufTy).Contents (Elt Ideal)) (x1 : (⟨S3584, .f32⟩ : BufTy).Contents (Elt Ideal))
  (x2 : (⟨S3584x2x18944, .i8⟩ : BufTy).Contents (Elt Ideal)) (x3 : (⟨S2x18944, .f32⟩ : BufTy).Contents (Elt Ideal))
  (x4 : (⟨S18944x3584, .i8⟩ : BufTy).Contents (Elt Ideal)) (x5 : (⟨S3584, .f32⟩ : BufTy).Contents (Elt Ideal))

/-- The activations, reshaped. -/
theorem ref_x (b : Fin 24) (s : Fin 32) (d : Fin 3584) :
    val_main_v0 (F := Ideal) x0 (ix3 b s d) = x0 (ix2 (rowAt b s) d) := by
  rw [val_main_v0_apply]
  refine congrArg x0 (funext fun a => Fin.ext ?_)
  match a with
  | ⟨0, _⟩ => show ((b.val * 32 + s.val) * 3584 + d.val) / 3584 = 32 * b.val + s.val; omega
  | ⟨1, _⟩ => show ((b.val * 32 + s.val) * 3584 + d.val) % 3584 = d.val; omega

/-- The sum of squares of a row. -/
theorem ref_sum (b : Fin 24) (s : Fin 32) :
    val_main_v2 (F := Ideal) x0 (ix2 b s) = sqSum fun k => x0 (ix2 (rowAt b s) k) := by
  rw [val_main_v2_apply, val_main_cst_apply]
  have h0 : (FloatOps.ofBits .f32 0x00000000#32 : Ideal .f32) = (0 : EReal) := by show Ideal.ofBits .f32 0x00000000#32 = 0; simp [Ideal.ofBits, Ideal.ieee]
  rw [h0]
  refine (zero_add _).trans (Finset.sum_congr rfl fun k _ => ?_)
  have e : idx_main_v2 (ix2 b s) k = ix3 b s k := funext fun a => by match a with | ⟨0, _⟩ => rfl | ⟨1, _⟩ => rfl | ⟨2, _⟩ => rfl
  rw [e, val_main_v1_apply, ref_x]
  rfl

/-- The normed value. -/
theorem ref_norm (b : Fin 24) (s : Fin 32) (d : Fin 3584) :
    val_main_v13 (F := Ideal) x0 x1 (ix3 b s d)
      = normAt (fun k => x0 (ix2 (rowAt b s) k)) (fun k => x1 (ix1 k)) d := by
  rw [val_main_v13_apply, val_main_v10_apply, ref_x, val_main_v9_apply, val_main_v8_apply, val_main_v7_apply, val_main_v6_apply,
    val_main_v5_apply, val_main_v4_apply, val_main_v3_apply, val_main_v12_apply, val_main_v11_apply]
  have e : idx_main_v3 (idx_main_v9 (ix3 b s d)) = ix2 b s := funext fun a => by match a with | ⟨0, _⟩ => rfl | ⟨1, _⟩ => rfl
  have e' : idx_main_v11 (idx_main_v12 (ix3 b s d)) = ix1 d := funext fun a => by match a with | ⟨0, _⟩ => rfl
  rw [e, e', ref_sum]
  rfl

/-- The largest magnitude of a normed row. -/
theorem ref_amax1 (b : Fin 24) (s : Fin 32) :
    val_main_v15 (F := Ideal) x0 x1 (ix2 b s) = amaxOf fun d => val_main_v13 (F := Ideal) x0 x1 (ix3 b s d) := by
  unfold val_main_v15 val_main_cst_2
  have hr : S24x32x3584.Reduces [2] S24x32 := by decide
  exact hostMax_amaxOf (val_main_v14 (F := Ideal) x0 x1) reducesTo_S24x32x3584_S24x32_d2 h_S_ hr (ix2 b s) (n := 3584) rfl _ (fun d => ix3 b s d)
    (fun d => funext fun a => by match a with | ⟨0, _⟩ => rfl | ⟨1, _⟩ => rfl | ⟨2, _⟩ => rfl)
    (fun d => val_main_v14_apply x0 x1 (ix3 b s d))

/-- The scale of a normed row. -/
theorem ref_scale1 (b : Fin 24) (s : Fin 32) :
    val_main_v20 (F := Ideal) x0 x1 (ix2 b s) = scaleOf (amaxOf fun d => val_main_v13 (F := Ideal) x0 x1 (ix3 b s d)) := by
  rw [val_main_v20_apply, val_main_v17_apply, val_main_v19_apply, val_main_v16_apply, val_main_v18_apply, val_main_call0_v1_apply, ref_amax1]
  rfl

/-- The code of a normed value. -/
theorem ref_code1 (b : Fin 24) (s : Fin 32) (d : Fin 3584) :
    val_main_v27 (F := Ideal) x0 x1 (ix3 b s d)
      = codeOf (val_main_v13 (F := Ideal) x0 x1 (ix3 b s d)) (val_main_v20 (F := Ideal) x0 x1 (ix2 b s)) := by
  rw [val_main_v27_apply, val_main_v26_apply, ← codeOf_wide]
  rw [val_main_v25_apply, val_main_call2_v4_apply, val_main_call2_v2_apply, val_main_call2_v1_apply, val_main_v24_apply, val_main_v23_apply,
    val_main_v22_apply, val_main_v21_apply]
  have e : idx_main_v21 (idx_main_v22 (ix3 b s d)) = ix2 b s := funext fun a => by match a with | ⟨0, _⟩ => rfl | ⟨1, _⟩ => rfl
  rw [e]
  rfl

/-- A gate (`u = 0`) or up (`u = 1`) value. -/
theorem ref_gu (b : Fin 24) (s : Fin 32) (u : Fin 2) (j : Fin 18944) :
    val_main_v38 (F := Ideal) x0 x1 x2 x3 (ix4 b s u j)
      = scaledAt (dotAt (fun k : Fin 3584 => val_main_v27 (F := Ideal) x0 x1 (ix3 b s k)) fun k => x2 (ix3 k u j))
          (val_main_v20 (F := Ideal) x0 x1 (ix2 b s)) (x3 (ix2 u j)) := by
  rw [val_main_v38_apply, val_main_v35_apply, val_main_v34_apply, val_main_v33_apply, val_main_v37_apply, val_main_v36_apply, val_main_v32_apply]
  have e1 : idx_main_v33 (idx_main_v34 (ix4 b s u j)) = ix2 b s := funext fun a => Fin.ext (by
    match a with
    | ⟨0, _⟩ => show (((b.val * 32 + s.val) * 1 + 0) * 1 + 0) / 32 = b.val; omega
    | ⟨1, _⟩ => show (((b.val * 32 + s.val) * 1 + 0) * 1 + 0) % 32 = s.val; omega)
  have e2 : idx_main_v36 (idx_main_v37 (ix4 b s u j)) = ix2 u j := funext fun a => Fin.ext (by
    match a with
    | ⟨0, _⟩ => rfl
    | ⟨1, _⟩ => rfl)
  rw [e1, e2]
  have hs : (∑ k : Fin 3584, (val_main_v29 (F := Ideal) x0 x1) (lidx_main_v32 (ix4 b s u j) k) * (val_main_v31 (F := Ideal) x2) (ridx_main_v32 (ix4 b s u j) k))
      = dotAt (fun k : Fin 3584 => val_main_v27 (F := Ideal) x0 x1 (ix3 b s k)) fun k => x2 (ix3 k u j) := by
    refine Finset.sum_congr rfl fun k _ => ?_
    have e3 : lidx_main_v32 (ix4 b s u j) k = ix3 b s k := funext fun a => by match a with | ⟨0, _⟩ => rfl | ⟨1, _⟩ => rfl | ⟨2, _⟩ => rfl
    have e4 : ridx_main_v32 (ix4 b s u j) k = ix3 k u j := funext fun a => by match a with | ⟨0, _⟩ => rfl | ⟨1, _⟩ => rfl | ⟨2, _⟩ => rfl
    rw [e3, e4, val_main_v29_apply, val_main_v28_apply, val_main_v31_apply, val_main_v30_apply]
    show ((((_ : BitVec 8).signExtend 32).toInt : ℝ) : EReal) * ((((_ : BitVec 8).signExtend 32).toInt : ℝ) : EReal) = _
    rw [toInt_wide, toInt_wide]
  rw [hs]
  rfl

/-- The gated product. -/
theorem ref_h (b : Fin 24) (s : Fin 32) (j : Fin 18944) :
    val_main_v44 (F := Ideal) x0 x1 x2 x3 (ix3 b s j)
      = FloatOps.mulf (siluOf (val_main_v38 (F := Ideal) x0 x1 x2 x3 (ix4 b s 0 j))) (val_main_v38 (F := Ideal) x0 x1 x2 x3 (ix4 b s 1 j)) := by
  have e1 : idx_main_v39 (idx_main_v40 (ix3 b s j)) = ix4 b s 0 j := funext fun a => Fin.ext (by
    match a with
    | ⟨0, _⟩ => show ((b.val * 32 + s.val) * 18944 + j.val) / 606208 = b.val; omega
    | ⟨1, _⟩ => show ((b.val * 32 + s.val) * 18944 + j.val) / 18944 % 32 = s.val; omega
    | ⟨2, _⟩ => rfl
    | ⟨3, _⟩ => show ((b.val * 32 + s.val) * 18944 + j.val) % 18944 = j.val; omega)
  have e2 : idx_main_v42 (idx_main_v43 (ix3 b s j)) = ix4 b s 1 j := funext fun a => Fin.ext (by
    match a with
    | ⟨0, _⟩ => show ((b.val * 32 + s.val) * 18944 + j.val) / 606208 = b.val; omega
    | ⟨1, _⟩ => show ((b.val * 32 + s.val) * 18944 + j.val) / 18944 % 32 = s.val; omega
    | ⟨2, _⟩ => rfl
    | ⟨3, _⟩ => show ((b.val * 32 + s.val) * 18944 + j.val) % 18944 = j.val; omega)
  rw [val_main_v44_apply, val_main_v41_apply, val_main_v43_apply, val_main_v42_apply, e2, val_main_call3_v5_apply, val_main_call3_v4_apply,
    val_main_call3_v3_apply, val_main_call3_v2_apply, val_main_call3_v1_apply, val_main_call3_v0_apply, val_main_v40_apply, val_main_v39_apply, e1]
  have h1 : (FloatOps.ofBits .f32 0x3F800000#32 : Ideal .f32) = (1 : EReal) := one_f32
  rw [val_main_call3_cst_apply, val_main_call3_cst_0_apply, h1]
  generalize val_main_v38 (F := Ideal) x0 x1 x2 x3 (ix4 b s 0 j) = p
  generalize val_main_v38 (F := Ideal) x0 x1 x2 x3 (ix4 b s 1 j) = q
  rfl

/-- The largest magnitude of a gated row. -/
theorem ref_amax2 (b : Fin 24) (s : Fin 32) :
    val_main_v46 (F := Ideal) x0 x1 x2 x3 (ix2 b s) = amaxOf fun j => val_main_v44 (F := Ideal) x0 x1 x2 x3 (ix3 b s j) := by
  unfold val_main_v46 val_main_cst_7
  have hr : S24x32x18944.Reduces [2] S24x32 := by decide
  exact hostMax_amaxOf (val_main_v45 (F := Ideal) x0 x1 x2 x3) reducesTo_S24x32x18944_S24x32_d2 h_S_ hr (ix2 b s) (n := 18944) rfl _ (fun d => ix3 b s d)
    (fun d => funext fun a => by match a with | ⟨0, _⟩ => rfl | ⟨1, _⟩ => rfl | ⟨2, _⟩ => rfl)
    (fun d => val_main_v45_apply x0 x1 x2 x3 (ix3 b s d))

/-- The scale of a gated row. -/
theorem ref_scale2 (b : Fin 24) (s : Fin 32) :
    val_main_v51 (F := Ideal) x0 x1 x2 x3 (ix2 b s) = scaleOf (amaxOf fun j => val_main_v44 (F := Ideal) x0 x1 x2 x3 (ix3 b s j)) := by
  rw [val_main_v51_apply, val_main_v48_apply, val_main_v50_apply, val_main_v47_apply, val_main_v49_apply, val_main_call4_v1_apply, ref_amax2]
  rfl

/-- The code of a gated value. -/
theorem ref_code2 (b : Fin 24) (s : Fin 32) (j : Fin 18944) :
    val_main_v58 (F := Ideal) x0 x1 x2 x3 (ix3 b s j)
      = codeOf (val_main_v44 (F := Ideal) x0 x1 x2 x3 (ix3 b s j)) (val_main_v51 (F := Ideal) x0 x1 x2 x3 (ix2 b s)) := by
  rw [val_main_v58_apply, val_main_v57_apply, ← codeOf_wide]
  rw [val_main_v56_apply, val_main_call6_v4_apply, val_main_call6_v2_apply, val_main_call6_v1_apply, val_main_v55_apply, val_main_v54_apply,
    val_main_v53_apply, val_main_v52_apply]
  have e : idx_main_v52 (idx_main_v53 (ix3 b s j)) = ix2 b s := funext fun a => by match a with | ⟨0, _⟩ => rfl | ⟨1, _⟩ => rfl
  rw [e]
  rfl

/-- The result: the activation plus the scaled product of the codes with the down weights. -/
theorem ref_y (b : Fin 24) (s : Fin 32) (d : Fin 3584) :
    val_main_v71 (F := Ideal) x0 x1 x2 x3 x4 x5 (ix3 b s d)
      = (FloatOps.addf (x0 (ix2 (rowAt b s) d))
          (scaledAt
            (∑ j : Fin 18944, clipOf (val_main_v44 (F := Ideal) x0 x1 x2 x3 (ix3 b s j)) (val_main_v51 (F := Ideal) x0 x1 x2 x3 (ix2 b s))
                * (((x4 (ix2 j d) : BitVec 8).toInt : ℝ) : EReal))
            (val_main_v51 (F := Ideal) x0 x1 x2 x3 (ix2 b s)) (x5 (ix1 d))) : Ideal .f32) := by
  rw [val_main_v71_apply, val_main_v70_apply, ref_x, val_main_v69_apply, val_main_v66_apply, val_main_v65_apply, val_main_v64_apply,
    val_main_v68_apply, val_main_v67_apply, val_main_v63_apply]
  have e1 : idx_main_v64 (idx_main_v65 (ix3 b s d)) = ix2 b s := funext fun a => Fin.ext (by
    match a with
    | ⟨0, _⟩ => first | rfl | (show ((b.val * 32 + s.val) * 1 + 0) / 32 = b.val; omega)
    | ⟨1, _⟩ => first | rfl | (show ((b.val * 32 + s.val) * 1 + 0) % 32 = s.val; omega))
  have e2 : idx_main_v67 (idx_main_v68 (ix3 b s d)) = ix1 d := funext fun a => by match a with | ⟨0, _⟩ => rfl
  rw [e1, e2]
  have hs : (∑ k : Fin 18944, (val_main_v60 (F := Ideal) x0 x1 x2 x3) (lidx_main_v63 (ix3 b s d) k) * (val_main_v62 (F := Ideal) x4) (ridx_main_v63 (ix3 b s d) k))
      = ∑ j : Fin 18944, clipOf (val_main_v44 (F := Ideal) x0 x1 x2 x3 (ix3 b s j)) (val_main_v51 (F := Ideal) x0 x1 x2 x3 (ix2 b s))
                * (((x4 (ix2 j d) : BitVec 8).toInt : ℝ) : EReal) := by
    refine Finset.sum_congr rfl fun k _ => ?_
    have e3 : lidx_main_v63 (ix3 b s d) k = ix3 b s k := funext fun a => by match a with | ⟨0, _⟩ => rfl | ⟨1, _⟩ => rfl | ⟨2, _⟩ => rfl
    have e4 : ridx_main_v63 (ix3 b s d) k = ix2 k d := funext fun a => by match a with | ⟨0, _⟩ => rfl | ⟨1, _⟩ => rfl
    rw [e3, e4, val_main_v60_apply, val_main_v59_apply, val_main_v62_apply, val_main_v61_apply]
    show ((((_ : BitVec 8).signExtend 32).toInt : ℝ) : EReal) * ((((_ : BitVec 8).signExtend 32).toInt : ℝ) : EReal) = _
    rw [toInt_wide, toInt_wide, ref_code2, codeOf_toInt]
  rw [hs]
  rfl

end Cert.Value

end
-- ==== Proof.Value.K0Val.lean ====
module

public import proofs.«01_k».proof.Proof.Value.Layout
public import proofs.«01_k».proof.Proof.Value.RefRead
public import proofs.«01_k».proof.Proof.Chain.Run

@[expose] public section

/-! # The first call's results: normed rows, their scales and codes -/

set_option maxRecDepth 16384

noncomputable section

namespace Cert.KernelIdeal.K0

open Idealize.ShloMosaic Idealize.ShloMosaic.TcCoe Idealize.ShloMosaic.ValueIdx
open Cert.KernelIdeal.Gen Cert.Value
open Idealize.ShloMosaic.Pipeline (Dat RDat Cfg Window)

/-- The normed value of row `s` of a block at column `d`. -/
theorem pay2_apply (v0 : Vec Ideal S32x3584 .f32) (v11 : Vec Ideal S1x3584 .f32) (s : Fin 32) (d : Fin 3584) :
    k0_pay2 v0 v11 (ix2 s d) = normAt (fun k => v0 (ix2 s k)) (fun k => v11 (ix2 (0 : Fin 1) k)) d := by
  have hs : multiReduction .add [1] S32 (mulf v0 v0) 0x00000000#32 reduces_S32x3584_S32 (.inl rfl) rfl (ix1 s)
      = sqSum fun k => v0 (ix2 s k) :=
    kernelSum _ reduces_S32x3584_S32 (.inl rfl) rfl (ix1 s) (n := 3584) rfl _ (fun k => ix2 s k)
      (fun k => funext fun a => by match a with | ⟨0, _⟩ => rfl | ⟨1, _⟩ => rfl) (fun k => rfl)
  unfold k0_pay2
  show FloatOps.mulf (F := Ideal) (φ := .f32) (FloatOps.divf (F := Ideal) (φ := .f32) (v0 (ix2 s d)) (broadcastTo S32x3584 _ broadcasts_S32x1_S32x3584 (ix2 s d)))
    (broadcastTo S32x3584 (shapeCast S1x3584 (α := Ideal .f32) v11 shapeCasts_S1x3584_S1x3584) broadcasts_S1x3584_S32x3584 (ix2 s d)) = _
  rw [spread_col, broadcastTo_1b_ab_apply, shapeCast_self]
  show FloatOps.mulf (F := Ideal) (φ := .f32) (FloatOps.divf (F := Ideal) (φ := .f32) (v0 (ix2 s d)) (FloatOps.sqrt (F := Ideal) (φ := .f32) (FloatOps.addf (F := Ideal) (φ := .f32) (FloatOps.divf (F := Ideal) (φ := .f32)
    (shapeCast S32x1 _ shapeCasts_S32_S32x1 (ix2 s (0 : Fin 1))) (FloatOps.ofBits .f32 0x45600000#32)) (FloatOps.ofBits .f32 0x3727C5AC#32))))
    (v11 (ix2 (0 : Fin 1) d)) = _
  rw [shapeCast_a_a1_apply, hs]
  rfl

/-- The scale of row `s` of a block. -/
theorem pay3_apply (v0 : Vec Ideal S32x3584 .f32) (v11 : Vec Ideal S1x3584 .f32) (s : Fin 32) :
    k0_pay3 v0 v11 (ix2 s (0 : Fin 1)) = scaleOf (amaxOf fun d : Fin 3584 => k0_pay2 v0 v11 (ix2 s d)) := by
  have hs : multiReduction .maximumf [1] S32 (absf (k0_pay2 v0 v11)) 0xFF800000#32 reduces_S32x3584_S32 (.inl rfl) rfl (ix1 s)
      = amaxOf fun d : Fin 3584 => k0_pay2 v0 v11 (ix2 s d) :=
    kernelMax_amaxOf _ reduces_S32x3584_S32 (.inl rfl) rfl (ix1 s) (n := 3584) rfl _ (fun k => ix2 s k)
      (fun k => funext fun a => by match a with | ⟨0, _⟩ => rfl | ⟨1, _⟩ => rfl) (fun k => rfl)
  unfold k0_pay3
  show scaleOf (shapeCast S32x1 _ shapeCasts_S32_S32x1 (ix2 s (0 : Fin 1))) = _
  rw [shapeCast_a_a1_apply, hs]

/-- The code of row `s` of a block at column `d`. -/
theorem pay4_apply (v0 : Vec Ideal S32x3584 .f32) (v11 : Vec Ideal S1x3584 .f32) (s : Fin 32) (d : Fin 3584) :
    k0_pay4 v0 v11 (ix2 s d) = codeOf (k0_pay2 v0 v11 (ix2 s d)) (k0_pay3 v0 v11 (ix2 s (0 : Fin 1))) := by
  unfold k0_pay4
  show codeOf (k0_pay2 v0 v11 (ix2 s d)) (broadcastTo S32x3584 (k0_pay3 v0 v11) broadcasts_S32x1_S32x3584 (ix2 s d)) = _
  rw [spread_col]

/-- The replicated scale of row `s` of a block: the same in every lane. -/
theorem pay5_apply (v0 : Vec Ideal S32x3584 .f32) (v11 : Vec Ideal S1x3584 .f32) (s : Fin 32) (l : Fin 128) :
    k0_pay5 v0 v11 (ix2 s l) = k0_pay3 v0 v11 (ix2 s (0 : Fin 1)) := by
  unfold k0_pay5
  show broadcastTo S32x128 (shapeCast S32x1 (k0_pay3 v0 v11) _) broadcasts_S32x1_S32x128 (ix2 s l) = _
  rw [spread_col, shapeCast_self]

/-- The row of scales of a block: its element `s` is row `s`'s scale. -/
theorem rowOf_apply (v0 : Vec Ideal S32x3584 .f32) (v11 : Vec Ideal S1x3584 .f32) (s : Fin 32) :
    rowOf v0 v11 (ix2 (0 : Fin 1) s) = k0_pay3 v0 v11 (ix2 s (0 : Fin 1)) := by
  unfold rowOf k0_pay1
  refine (diag_row (k0_pay5 v0 v11) _ _ (fun p q => ?_) (fun p q => ?_) _ _ _ _ _ s).trans (pay5_apply v0 v11 s _)
  · exact iota_single_apply _ _ _ _ _ _
  · exact iota_single_apply _ _ _ _ _ _

variable (V : Dev nD → Valuation τ sig (Elt Ideal)) (c : Dev nD)

/-- The normed value at row `r` and column `d` of the array the first call finds. -/
def nv (r : Fin 768) (d : Fin 3584) : Ideal .f32 :=
  normAt (fun k => V c main_arg0 (ix2 r k)) (fun k => V c main_v0 (ix2 (0 : Fin 1) k)) d

/-- The scale of row `r`. -/
def sc (r : Fin 768) : Ideal .f32 := scaleOf (amaxOf (nv V c r))

/-- The grid point that handles sequence `b`. -/
def pt (b : Fin 24) : Fin cfg0.N := ⟨b.val, lt_of_lt_of_eq b.isLt N_0.symm⟩

/-- Which block each window holds at a point, and which windows are written back there. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ (cfg0.win 2).flush t = true ∧ (cfg0.win 3).flush t = true :=
  (by decide +kernel : ∀ t : Fin grid0.N, _)

/-- The block of this window at a point, read in the whole array. -/
theorem iblk0_apply (b : Fin 24) (s : Fin 32) (d : Fin 3584) :
    (iblk V c 0 (pt b) : Vec Ideal S32x3584 .f32) (ix2 s d) = V c main_arg0 (ix2 (rowAt b s) d) := by
  obtain ⟨e0, e1, -⟩ := idx_facts (pt b)
  show V c main_arg0 (((cfg0.win 0).blk (pt b)).view.emb (ix2 s d)) = _
  congr 1
  funext a; apply Fin.ext
  match a with
  | ⟨0, _⟩ => show win0_0.index (pt b) (0 : Fin 2) * 32 + 1 * s.val = 32 * b.val + s.val; rw [e0]; show b.val * 32 + _ = _; omega
  | ⟨1, _⟩ => show win0_0.index (pt b) (1 : Fin 2) * 3584 + 1 * d.val = d.val; rw [e1]; omega

/-- The block of this window at a point, read in the whole array. -/
theorem iblk1_apply (b : Fin 24) (d : Fin 3584) :
    (iblk V c 1 (pt b) : Vec Ideal S1x3584 .f32) (ix2 (0 : Fin 1) d) = V c main_v0 (ix2 (0 : Fin 1) d) := by
  obtain ⟨-, -, e0, e1, -⟩ := idx_facts (pt b)
  show V c main_v0 (((cfg0.win 1).blk (pt b)).view.emb (ix2 (0 : Fin 1) d)) = _
  congr 1
  funext a; apply Fin.ext
  match a with
  | ⟨0, _⟩ => show win0_1.index (pt b) (0 : Fin 2) * 1 + 1 * 0 = 0; rw [e0]
  | ⟨1, _⟩ => show win0_1.index (pt b) (1 : Fin 2) * 3584 + 1 * d.val = d.val; rw [e1]; omega

/-- The normed values of a point's block. -/
theorem blk_pay2 (b : Fin 24) (s : Fin 32) (d : Fin 3584) :
    k0_pay2 (iblk V c 0 (pt b)) (iblk V c 1 (pt b)) (ix2 s d) = nv V c (rowAt b s) d := by
  refine (pay2_apply (iblk V c 0 (pt b)) (iblk V c 1 (pt b)) s d).trans ?_
  unfold nv
  rw [funext fun k => iblk0_apply V c b s k, funext fun k => iblk1_apply V c b k]

/-- The scales of a point's block. -/
theorem blk_pay3 (b : Fin 24) (s : Fin 32) :
    k0_pay3 (iblk V c 0 (pt b)) (iblk V c 1 (pt b)) (ix2 s (0 : Fin 1)) = sc V c (rowAt b s) := by
  refine (pay3_apply (iblk V c 0 (pt b)) (iblk V c 1 (pt b)) s).trans ?_
  unfold sc
  rw [funext fun d => blk_pay2 V c b s d]

/-- The blocks this window writes back do not overlap. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne
    ((by decide +kernel : ∀ t t' : Fin grid0.N, win0_2.index t = win0_2.index t' → t = t') t t' h)

/-- The blocks this window writes back do not overlap. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne
    ((by decide +kernel : ∀ t t' : Fin grid0.N, win0_3.index t = win0_3.index t' → t = t') t t' h)

/-- The codes the first call leaves. -/
theorem final_codes (b : Fin 24) (s : Fin 32) (d : Fin 3584) :
    ((dat V c).arrAt 2 cfg0.N : IVec S768x3584 8) (ix2 (rowAt b s) d) = codeOf (nv V c (rowAt b s) d) (sc V c (rowAt b s)) := by
  obtain ⟨-, -, -, -, e0, e1, -, -, hf, -⟩ := idx_facts (pt b)
  have hi : (ix2 (rowAt b s) d : S768x3584.Idx) = ((cfg0.win 2).blk (pt b)).view.emb (ix2 s d) := by
    funext a; apply Fin.ext
    match a with
    | ⟨0, _⟩ => show 32 * b.val + s.val = win0_2.index (pt b) (0 : Fin 2) * 32 + 1 * s.val; rw [e0]; show _ = b.val * 32 + _; omega
    | ⟨1, _⟩ => show d.val = win0_2.index (pt b) (1 : Fin 2) * 3584 + 1 * d.val; rw [e1]; omega
  rw [hi]
  refine ((dat V c).arrAt_emb_eq_flushed 2 disjoint2 (pt b) hf (ix2 s d)).trans ?_
  show (dat V c).after 2 (pt b) (ix2 s d) = _
  rw [after0_2]
  refine (pay4_apply (iblk V c 0 (pt b)) (iblk V c 1 (pt b)) s d).trans ?_
  rw [blk_pay2, blk_pay3]

/-- The replicated scales the first call leaves. -/
theorem final_srep (b : Fin 24) (s : Fin 32) (l : Fin 128) :
    ((dat V c).arrAt 3 cfg0.N : FVec Ideal S768x128 .f32) (ix2 (rowAt b s) l) = sc V c (rowAt b s) := by
  obtain ⟨-, -, -, -, -, -, e0, e1, -, hf⟩ := idx_facts (pt b)
  have hi : (ix2 (rowAt b s) l : S768x128.Idx) = ((cfg0.win 3).blk (pt b)).view.emb (ix2 s l) := by
    funext a; apply Fin.ext
    match a with
    | ⟨0, _⟩ => show 32 * b.val + s.val = win0_3.index (pt b) (0 : Fin 2) * 32 + 1 * s.val; rw [e0]; show _ = b.val * 32 + _; omega
    | ⟨1, _⟩ => show l.val = win0_3.index (pt b) (1 : Fin 2) * 128 + 1 * l.val; rw [e1]; omega
  rw [hi]
  refine ((dat V c).arrAt_emb_eq_flushed 3 disjoint3 (pt b) hf (ix2 s l)).trans ?_
  show (dat V c).after 3 (pt b) (ix2 s l) = _
  rw [after0_3]
  refine (pay5_apply (iblk V c 0 (pt b)) (iblk V c 1 (pt b)) s l).trans ?_
  rw [blk_pay3]

/-- The row of scales the first call leaves. -/
theorem final_scales (b : Fin 24) (s : Fin 32) : Chain.scales V c (ix2 b s) = sc V c (rowAt b s) := by
  show rowOf (iblk V c 0 (pt b)) (iblk V c 1 (pt b)) (ix2 (0 : Fin 1) s) = _
  refine (rowOf_apply (iblk V c 0 (pt b)) (iblk V c 1 (pt b)) s).trans ?_
  rw [blk_pay3]

end Cert.KernelIdeal.K0

end
-- ==== Proof.Value.K1Val.lean ====
module

public import proofs.«01_k».proof.Proof.Value.K1Out
public import proofs.«01_k».proof.Proof.Value.K0Val

@[expose] public section

/-! # The second call's results: the gated hidden layer and its scales -/

set_option maxRecDepth 16384

noncomputable section

namespace Cert.KernelIdeal.K1

open Idealize.ShloMosaic Idealize.ShloMosaic.TcCoe Idealize.ShloMosaic.ValueIdx
open Cert.KernelIdeal.Gen Cert.Value
open Idealize.ShloMosaic.Pipeline (Dat RDat Cfg Window)

section
variable {A B C D : Type} {q : A × B × C × D} {a : A} {b : B} {c : C} {d : D} (h : q = (a, b, c, d))
include h
/-- The first component of a tuple. -/
theorem part0 : q.1 = a := by rw [h]
/-- The second component of a tuple. -/
theorem part1 : q.2.1 = b := by rw [h]
/-- The third component of a tuple. -/
theorem part2 : q.2.2.1 = c := by rw [h]
/-- The fourth component of a tuple. -/
theorem part3 : q.2.2.2 = d := by rw [h]
end

variable (V : Dev nD → Valuation τ sig (Elt Ideal)) (c : Dev nD)

/-- The gate (`u = 0`) or up-projection (`u = 1`) at row `r` and column `j`, from the arrays the second call finds. -/
def gu (r : Fin 768) (u : Fin 2) (j : Fin 18944) : Ideal .f32 :=
  scaledAt (dotAt (fun k : Fin 3584 => (V c main_v1_0 : IVec S768x3584 8) (ix2 r k)) (fun k => (V c main_v2 : IVec S2x3584x18944 8) (ix3 u k j)))
    ((V c main_v1_1 : FVec Ideal S768x128 .f32) (ix2 r (0 : Fin 128))) ((V c main_arg3 : FVec Ideal S2x18944 .f32) (ix2 u j))

/-- The gated hidden layer at row `r` and column `j`. -/
def hv (r : Fin 768) (j : Fin 18944) : Ideal .f32 := FloatOps.mulf (siluOf (gu V c r 0 j)) (gu V c r 1 j)

/-- Column `l` of group `g` of block `t`, among all the columns. -/
def gcol (t : Fin 37) (g : Fin 4) (l : Fin 128) : Fin 18944 := ⟨512 * t.val + 128 * g.val + l.val, by omega⟩

/-- The point of the grid that handles block `t`. -/
def pt (t : Fin 37) : Fin cfg1.N := ⟨t.val, lt_of_lt_of_eq t.isLt N_1.symm⟩

/-- Which block each window holds at a point, and which windows are written back there. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 3) = 0 ∧ win1_2.index t (1 : Fin 3) = 0 ∧ win1_2.index t (2 : Fin 3) = t.val
    ∧ win1_3.index t (0 : Fin 2) = 0 ∧ win1_3.index t (1 : Fin 2) = t.val
    ∧ win1_4.index t (0 : Fin 2) = 0 ∧ win1_4.index t (1 : Fin 2) = t.val
    ∧ win1_5.index t (0 : Fin 2) = 0 ∧ win1_5.index t (1 : Fin 2) = 0
    ∧ win1_6.index t (0 : Fin 2) = 0 ∧ win1_6.index t (1 : Fin 2) = 0
    ∧ (cfg1.win 4).flush t = true ∧ ((cfg1.win 5).flush t = true ↔ t.val = 36) ∧ ((cfg1.win 6).flush t = true ↔ t.val = 36) :=
  (by decide +kernel : ∀ t : Fin grid1.N, _)

/-- The block of this window at a point, read in the whole array. -/
theorem iblk0_apply (t : Fin 37) (r : Fin 768) (k : Fin 3584) :
    (iblk V c 0 (pt t) : IVec S768x3584 8) (ix2 r k) = (V c main_v1_0 : IVec S768x3584 8) (ix2 r k) := by
  obtain ⟨e0, e1, -⟩ := idx_facts (pt t)
  show V c main_v1_0 (((cfg1.win 0).blk (pt t)).view.emb (ix2 r k)) = _
  congr 1
  funext a; apply Fin.ext
  match a with
  | ⟨0, _⟩ => show win1_0.index (pt t) (0 : Fin 2) * 768 + 1 * r.val = r.val; rw [e0]; omega
  | ⟨1, _⟩ => show win1_0.index (pt t) (1 : Fin 2) * 3584 + 1 * k.val = k.val; rw [e1]; omega

/-- The block of this window at a point, read in the whole array. -/
theorem iblk1_apply (t : Fin 37) (r : Fin 768) (l : Fin 128) :
    (iblk V c 1 (pt t) : FVec Ideal S768x128 .f32) (ix2 r l) = (V c main_v1_1 : FVec Ideal S768x128 .f32) (ix2 r l) := by
  obtain ⟨-, -, e0, e1, -⟩ := idx_facts (pt t)
  show V c main_v1_1 (((cfg1.win 1).blk (pt t)).view.emb (ix2 r l)) = _
  congr 1
  funext a; apply Fin.ext
  match a with
  | ⟨0, _⟩ => show win1_1.index (pt t) (0 : Fin 2) * 768 + 1 * r.val = r.val; rw [e0]; omega
  | ⟨1, _⟩ => show win1_1.index (pt t) (1 : Fin 2) * 128 + 1 * l.val = l.val; rw [e1]; omega

/-- The block of this window at a point, read in the whole array. -/
theorem iblk2_apply (t : Fin 37) (u : Fin 2) (k : Fin 3584) (g : Fin 4) (l : Fin 128) :
    (iblk V c 2 (pt t) : IVec S2x3584x512 8) (ix3 u k (col g l)) = (V c main_v2 : IVec S2x3584x18944 8) (ix3 u k (gcol t g l)) := by
  obtain ⟨-, -, -, -, e0, e1, e2, -⟩ := idx_facts (pt t)
  show V c main_v2 (((cfg1.win 2).blk (pt t)).view.emb (ix3 u k (col g l))) = _
  congr 1
  funext a; apply Fin.ext
  match a with
  | ⟨0, _⟩ => show win1_2.index (pt t) (0 : Fin 3) * 2 + 1 * u.val = u.val; rw [e0]; omega
  | ⟨1, _⟩ => show win1_2.index (pt t) (1 : Fin 3) * 3584 + 1 * k.val = k.val; rw [e1]; omega
  | ⟨2, _⟩ =>
    show win1_2.index (pt t) (2 : Fin 3) * 512 + 1 * (128 * g.val + l.val) = 512 * t.val + 128 * g.val + l.val
    rw [e2]; show t.val * 512 + _ = _; omega

/-- The block of this window at a point, read in the whole array. -/
theorem iblk3_apply (t : Fin 37) (u : Fin 2) (g : Fin 4) (l : Fin 128) :
    (iblk V c 3 (pt t) : FVec Ideal S2x512 .f32) (ix2 u (col g l)) = (V c main_arg3 : FVec Ideal S2x18944 .f32) (ix2 u (gcol t g l)) := by
  obtain ⟨-, -, -, -, -, -, -, e0, e1, -⟩ := idx_facts (pt t)
  show V c main_arg3 (((cfg1.win 3).blk (pt t)).view.emb (ix2 u (col g l))) = _
  congr 1
  funext a; apply Fin.ext
  match a with
  | ⟨0, _⟩ => show win1_3.index (pt t) (0 : Fin 2) * 2 + 1 * u.val = u.val; rw [e0]; omega
  | ⟨1, _⟩ =>
    show win1_3.index (pt t) (1 : Fin 2) * 512 + 1 * (128 * g.val + l.val) = 512 * t.val + 128 * g.val + l.val
    rw [e1]; show t.val * 512 + _ = _; omega

/-- What a point leaves of the hidden layer, as a block. -/
theorem at_h (t : Fin cfg1.N) : (outsAt1 V c t.val t.isLt).1 = hBlk (iblk V c 0 t) (iblk V c 1 t) (iblk V c 2 t) (iblk V c 3 t) := by
  by_cases h0 : t.val % 37 = 0
  · have h1 : ¬ t.val % 37 = 36 := by omega
    exact (part0 (outsAt1_A V c t h0 h1)).trans (out_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk V c 0 t) (iblk V c 1 t) (iblk V c 2 t) (iblk V c 3 t))
  · by_cases h1 : t.val % 37 = 36
    · exact (part0 (outsAt1_C V c t h0 h1)).trans (out_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk V c 0 t) (iblk V c 1 t) (iblk V c 2 t) (iblk V c 3 t) (outsAt1 V c (t.val - 1) (Nat.lt_of_le_of_lt (Nat.sub_le _ _) t.isLt)).2.2.2)
    · exact (part0 (outsAt1_B V c t h0 h1)).trans (out_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk V c 0 t) (iblk V c 1 t) (iblk V c 2 t) (iblk V c 3 t) (outsAt1 V c (t.val - 1) (Nat.lt_of_le_of_lt (Nat.sub_le _ _) t.isLt)).2.2.2)

/-- The running maximum after the first point. -/
theorem at_first (t : Fin cfg1.N) (h0 : t.val % 37 = 0) (r : Fin 768) (l : Fin 128) : (outsAt1 V c t.val t.isLt).2.2.2 (ix2 r l)
    = stepMax (iblk V c 0 t) (iblk V c 1 t) (iblk V c 2 t) (iblk V c 3 t) (FloatOps.ofBits .f32 0x00000000#32) r l := by
  have h1 : ¬ t.val % 37 = 36 := by omega
  exact (congrFun (part3 (outsAt1_A V c t h0 h1)) (ix2 r l)).trans (sout_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk V c 0 t) (iblk V c 1 t) (iblk V c 2 t) (iblk V c 3 t) r l)

/-- The running maximum after a later point. -/
theorem at_next (t : Fin cfg1.N) (h0 : ¬ t.val % 37 = 0) (r : Fin 768) (l : Fin 128) : (outsAt1 V c t.val t.isLt).2.2.2 (ix2 r l)
    = stepMax (iblk V c 0 t) (iblk V c 1 t) (iblk V c 2 t) (iblk V c 3 t) ((outsAt1 V c (t.val - 1) (Nat.lt_of_le_of_lt (Nat.sub_le _ _) t.isLt)).2.2.2 (ix2 r l)) r l := by
  by_cases h1 : t.val % 37 = 36
  · exact (congrFun (part3 (outsAt1_C V c t h0 h1)) (ix2 r l)).trans (sout_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk V c 0 t) (iblk V c 1 t) (iblk V c 2 t) (iblk V c 3 t) (outsAt1 V c (t.val - 1) (Nat.lt_of_le_of_lt (Nat.sub_le _ _) t.isLt)).2.2.2 r l)
  · exact (congrFun (part3 (outsAt1_B V c t h0 h1)) (ix2 r l)).trans (sout_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk V c 0 t) (iblk V c 1 t) (iblk V c 2 t) (iblk V c 3 t) (outsAt1 V c (t.val - 1) (Nat.lt_of_le_of_lt (Nat.sub_le _ _) t.isLt)).2.2.2 r l)

/-- The scales after the last point. -/
theorem at_last (t : Fin cfg1.N) (h0 : ¬ t.val % 37 = 0) (h1 : t.val % 37 = 36) :
    (outsAt1 V c t.val t.isLt).2.1 = k1_pay5 (F := Ideal) (newMax (iblk V c 0 t) (iblk V c 1 t) (iblk V c 2 t) (iblk V c 3 t) (outsAt1 V c (t.val - 1) (Nat.lt_of_le_of_lt (Nat.sub_le _ _) t.isLt)).2.2.2)
    ∧ (outsAt1 V c t.val t.isLt).2.2.1 = rowsOf (k1_pay5 (F := Ideal) (newMax (iblk V c 0 t) (iblk V c 1 t) (iblk V c 2 t) (iblk V c 3 t) (outsAt1 V c (t.val - 1) (Nat.lt_of_le_of_lt (Nat.sub_le _ _) t.isLt)).2.2.2)) :=
  ⟨(part1 (outsAt1_C V c t h0 h1)).trans (out_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk V c 0 t) (iblk V c 1 t) (iblk V c 2 t) (iblk V c 3 t) (outsAt1 V c (t.val - 1) (Nat.lt_of_le_of_lt (Nat.sub_le _ _) t.isLt)).2.2.2),
   (part2 (outsAt1_C V c t h0 h1)).trans (out_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk V c 0 t) (iblk V c 1 t) (iblk V c 2 t) (iblk V c 3 t) (outsAt1 V c (t.val - 1) (Nat.lt_of_le_of_lt (Nat.sub_le _ _) t.isLt)).2.2.2)⟩

/-- The replicated scales are the same in every lane. -/
def Rep : Prop := ∀ (r : Fin 768) (l : Fin 128),
  (V c main_v1_1 : FVec Ideal S768x128 .f32) (ix2 r l) = (V c main_v1_1 : FVec Ideal S768x128 .f32) (ix2 r (0 : Fin 128))

variable (hrep : Rep V c)
include hrep

/-- A point's block of the hidden layer is the hidden layer at the block's columns. -/
theorem hAt_iblk (t : Fin 37) (r : Fin 768) (g : Fin 4) (l : Fin 128) :
    hAt (iblk V c 0 (pt t)) (iblk V c 1 (pt t)) (iblk V c 2 (pt t)) (iblk V c 3 (pt t)) r g l = hv V c r (gcol t g l) := by
  have e0 : ∀ k : Fin 3584, (iblk V c 0 (pt t) : IVec S768x3584 8) (ix2 r k) = (V c main_v1_0 : IVec S768x3584 8) (ix2 r k) := iblk0_apply V c t r
  have e1 : (iblk V c 1 (pt t) : FVec Ideal S768x128 .f32) (ix2 r l) = (V c main_v1_1 : FVec Ideal S768x128 .f32) (ix2 r (0 : Fin 128)) :=
    (iblk1_apply V c t r l).trans (hrep r l)
  unfold hAt hv gu gd
  rw [funext e0, funext fun k => iblk2_apply V c t 0 k g l, funext fun k => iblk2_apply V c t 1 k g l, iblk3_apply V c t 0 g l, iblk3_apply V c t 1 g l, e1]

/-- What a point leaves of the hidden layer. -/
theorem outs_h (t : Fin 37) (r : Fin 768) (g : Fin 4) (l : Fin 128) :
    (outsAt1 V c (pt t).val (pt t).isLt).1 (ix2 r (col g l)) = hv V c r (gcol t g l) := by
  rw [← hAt_iblk V c hrep t r g l]
  have key : ∀ X : FVec Ideal S768x512 .f32, X = hBlk (iblk V c 0 (pt t)) (iblk V c 1 (pt t)) (iblk V c 2 (pt t)) (iblk V c 3 (pt t)) →
      X (ix2 r (col g l)) = hAt (iblk V c 0 (pt t)) (iblk V c 1 (pt t)) (iblk V c 2 (pt t)) (iblk V c 3 (pt t)) r g l := by
    rintro X rfl
    exact hBlk_at _ _ _ _ _ r g l rfl rfl
  exact key _ (at_h V c (pt t))

/-- One step of the running maximum is at most `a` exactly if what it was and the block's four magnitudes are. -/
theorem stepMax_le (t : Fin 37) (r : Fin 768) (l : Fin 128) (prev a : Ideal .f32) :
    (stepMax (iblk V c 0 (pt t)) (iblk V c 1 (pt t)) (iblk V c 2 (pt t)) (iblk V c 3 (pt t)) prev r l : EReal) ≤ a
      ↔ (prev : EReal) ≤ a ∧ ∀ g : Fin 4, (FloatOps.absf (hv V c r (gcol t g l)) : EReal) ≤ a := by
  unfold stepMax
  rw [hAt_iblk V c hrep, hAt_iblk V c hrep, hAt_iblk V c hrep, hAt_iblk V c hrep]
  show max (max (max (max (prev : EReal) (FloatOps.absf (hv V c r (gcol t 0 l)) : EReal)) (FloatOps.absf (hv V c r (gcol t 1 l)) : EReal))
    (FloatOps.absf (hv V c r (gcol t 2 l)) : EReal)) (FloatOps.absf (hv V c r (gcol t 3 l)) : EReal) ≤ (a : EReal) ↔ _
  rw [max_le_iff, max_le_iff, max_le_iff, max_le_iff]
  constructor
  · rintro ⟨⟨⟨⟨hp, h0⟩, h1⟩, h2⟩, h3⟩
    refine ⟨hp, fun g => ?_⟩
    match g with
    | ⟨0, _⟩ => exact h0
    | ⟨1, _⟩ => exact h1
    | ⟨2, _⟩ => exact h2
    | ⟨3, _⟩ => exact h3
  · rintro ⟨hp, h⟩
    exact ⟨⟨⟨⟨hp, h 0⟩, h 1⟩, h 2⟩, h 3⟩

/-- The running maximum after point `t` is at most `a` exactly if zero and every magnitude up to the point are. -/
theorem scratch_le (r : Fin 768) (l : Fin 128) (a : Ideal .f32) : ∀ (n : ℕ) (hn : n < 37),
    (((outsAt1 V c (pt ⟨n, hn⟩).val (pt ⟨n, hn⟩).isLt).2.2.2 (ix2 r l) : Ideal .f32) : EReal) ≤ a
      ↔ (0 : EReal) ≤ a ∧ ∀ t : Fin 37, t.val ≤ n → ∀ g : Fin 4, (FloatOps.absf (hv V c r (gcol t g l)) : EReal) ≤ a := by
  intro n
  induction n with
  | zero =>
    intro hn
    have e := at_first V c (pt ⟨0, hn⟩) (by rfl) r l
    rw [e, stepMax_le V c hrep ⟨0, hn⟩, zero_f32]
    refine and_congr_right fun _ => ⟨fun h t ht g => ?_, fun h g => h ⟨0, hn⟩ (le_refl _) g⟩
    obtain rfl : t = ⟨0, hn⟩ := Fin.ext (Nat.le_zero.mp ht)
    exact h g
  | succ n ih =>
    intro hn
    have h0 : ¬ (pt ⟨n + 1, hn⟩).val % 37 = 0 := by show ¬ (n + 1) % 37 = 0; omega
    have e := at_next V c (pt ⟨n + 1, hn⟩) h0 r l
    have ih' := ih (by omega)
    rw [e, stepMax_le V c hrep ⟨n + 1, hn⟩, show ((((outsAt1 V c ((pt ⟨n + 1, hn⟩).val - 1) (Nat.lt_of_le_of_lt (Nat.sub_le _ _) (pt ⟨n + 1, hn⟩).isLt)).2.2.2 (ix2 r l) : Ideal .f32) : EReal) ≤ a) ↔ _ from ih', and_assoc]
    refine and_congr_right fun _ => ⟨fun h t ht g => ?_, fun h => ⟨fun t ht g => h t (Nat.le_succ_of_le ht) g, fun g => h ⟨n + 1, hn⟩ (le_refl _) g⟩⟩
    rcases Nat.lt_or_ge n t.val with hlt | hle
    · obtain rfl : t = ⟨n + 1, hn⟩ := Fin.ext (by show t.val = n + 1; omega)
      exact h.2 g
    · exact h.1 t hle g

/-- The last point. -/
theorem last_scale (r : Fin 768) (l : Fin 128) :
    k1_pay5 (F := Ideal) (newMax (iblk V c 0 (pt 36)) (iblk V c 1 (pt 36)) (iblk V c 2 (pt 36)) (iblk V c 3 (pt 36))
      (outsAt1 V c (pt 35).val (pt 35).isLt).2.2.2) (ix2 r l) = scaleOf (amaxOf (hv V c r)) := by
  have hle : ∀ (l : Fin 128) (a : Ideal .f32),
      ((newMax (iblk V c 0 (pt 36)) (iblk V c 1 (pt 36)) (iblk V c 2 (pt 36)) (iblk V c 3 (pt 36)) (outsAt1 V c (pt 35).val (pt 35).isLt).2.2.2 (ix2 r l) : Ideal .f32) : EReal) ≤ a
        ↔ (0 : EReal) ≤ a ∧ ∀ t : Fin 37, ∀ g : Fin 4, (FloatOps.absf (hv V c r (gcol t g l)) : EReal) ≤ a := fun l a => by
    have h35 := scratch_le V c hrep r l a 35 (by omega)
    refine (stepMax_le V c hrep 36 r l _ a).trans ?_
    rw [show ((((outsAt1 V c (pt 35).val (pt 35).isLt).2.2.2 (ix2 r l) : Ideal .f32) : EReal) ≤ a) ↔ _ from h35, and_assoc]
    refine and_congr_right fun _ => ⟨fun h t g => ?_, fun h => ⟨fun t _ g => h t g, fun g => h 36 g⟩⟩
    rcases Nat.lt_or_ge 35 t.val with hlt | hge
    · obtain rfl : t = 36 := Fin.ext (by show t.val = 36; omega)
      exact h.2 g
    · exact h.1 t hge g
  have hnn : ∀ l, (0 : EReal) ≤ (newMax (iblk V c 0 (pt 36)) (iblk V c 1 (pt 36)) (iblk V c 2 (pt 36)) (iblk V c 3 (pt 36)) (outsAt1 V c (pt 35).val (pt 35).isLt).2.2.2 (ix2 r l) : Ideal .f32) :=
    fun l => ((hle l _).mp (le_refl _)).1
  generalize newMax (iblk V c 0 (pt 36)) (iblk V c 1 (pt 36)) (iblk V c 2 (pt 36)) (iblk V c 3 (pt 36)) (outsAt1 V c (pt 35).val (pt 35).isLt).2.2.2 = M at hle hnn ⊢
  have habs : ∀ l : Fin 128, M (ix2 r l) = FloatOps.absf (M (ix2 r l)) := fun l => by
    rw [Ideal.absf_def]
    exact (max_eq_left (le_trans (EReal.neg_le_zero.mpr (hnn l)) (hnn l))).symm
  rw [pay5_apply M r l (fun l => M (ix2 r l)) habs]
  refine congrArg scaleOf ?_
  refine eq_of_forall_ge_iff (α := EReal) fun a => ?_
  rw [amaxOf_le, amaxOf_le]
  constructor
  · intro h j
    have hj := j.isLt
    have h1 := ((hle ⟨j.val % 128, Nat.mod_lt _ (by omega)⟩ a).mp (by rw [habs]; exact h _)).2 ⟨j.val / 512, by omega⟩ ⟨j.val % 512 / 128, by omega⟩
    have hc : gcol ⟨j.val / 512, by omega⟩ ⟨j.val % 512 / 128, by omega⟩ ⟨j.val % 128, Nat.mod_lt _ (by omega)⟩ = j :=
      Fin.ext (by show 512 * (j.val / 512) + 128 * (j.val % 512 / 128) + j.val % 128 = j.val; omega)
    rwa [hc] at h1
  · intro h l
    rw [← habs]
    exact (hle l a).mpr ⟨le_trans (absf_nonneg _) (h ⟨0, by omega⟩), fun t g => h _⟩

/-- The blocks this window writes back do not overlap. -/
theorem disjoint4 : ∀ t t' : Fin cfg1.N, (cfg1.win 4).flush t = true → (cfg1.win 4).flush t' = true → t ≠ t' →
    Disjoint ((cfg1.win 4).blk t).view.set ((cfg1.win 4).blk t').view.set :=
  fun t t' _ _ hne => (cfg1.win 4).disjoint_blk fun h => hne
    ((by decide +kernel : ∀ t t' : Fin grid1.N, win1_4.index t = win1_4.index t' → t = t') t t' h)

omit hrep in
/-- A window written back at the last point alone has no overlapping blocks. -/
theorem last_only (w : Fin cfg1.W) (hf : ∀ t : Fin cfg1.N, (cfg1.win w).flush t = true ↔ t.val = 36) :
    ∀ t t' : Fin cfg1.N, (cfg1.win w).flush t = true → (cfg1.win w).flush t' = true → t ≠ t' →
    Disjoint ((cfg1.win w).blk t).view.set ((cfg1.win w).blk t').view.set :=
  fun t t' h h' hne => absurd (Fin.ext (((hf t).mp h).trans ((hf t').mp h').symm)) hne

/-- The hidden layer the second call leaves. -/
theorem final_h (r : Fin 768) (j : Fin 18944) :
    ((dat V c).arrAt 4 cfg1.N : FVec Ideal S768x18944 .f32) (ix2 r j) = hv V c r j := by
  have hj := j.isLt
  obtain ⟨t, g, l, rfl⟩ : ∃ (t : Fin 37) (g : Fin 4) (l : Fin 128), j = gcol t g l :=
    ⟨⟨j.val / 512, by omega⟩, ⟨j.val % 512 / 128, by omega⟩, ⟨j.val % 128, Nat.mod_lt _ (by omega)⟩,
      Fin.ext (by show j.val = 512 * (j.val / 512) + 128 * (j.val % 512 / 128) + j.val % 128; omega)⟩
  obtain ⟨-, -, -, -, -, -, -, -, -, e0, e1, -, -, -, -, hf, -⟩ := idx_facts (pt t)
  have hi : (ix2 r (gcol t g l) : S768x18944.Idx) = ((cfg1.win 4).blk (pt t)).view.emb (ix2 r (col g l)) := by
    funext a; apply Fin.ext
    match a with
    | ⟨0, _⟩ => show r.val = win1_4.index (pt t) (0 : Fin 2) * 768 + 1 * r.val; rw [e0]; omega
    | ⟨1, _⟩ =>
      show 512 * t.val + 128 * g.val + l.val = win1_4.index (pt t) (1 : Fin 2) * 512 + 1 * (128 * g.val + l.val)
      rw [e1]; show _ = t.val * 512 + _; omega
  rw [hi]
  refine ((dat V c).arrAt_emb_eq_flushed 4 (disjoint4 V c hrep) (pt t) hf (ix2 r (col g l))).trans ?_
  show (dat V c).after 4 (pt t) (ix2 r (col g l)) = _
  rw [after1_4]
  exact outs_h V c hrep t r g l

omit hrep in
/-- What a point leaves depends on its number alone. -/
theorem outs_congr {n n' : ℕ} (e : n = n') (h : n < cfg1.N) (h' : n' < cfg1.N) : outsAt1 V c n h = outsAt1 V c n' h' := by
  subst e; rfl

/-- What the last point leaves of the scales. -/
theorem outs_last : (outsAt1 V c (pt 36).val (pt 36).isLt).2.1 = k1_pay5 (F := Ideal) (newMax (iblk V c 0 (pt 36)) (iblk V c 1 (pt 36)) (iblk V c 2 (pt 36)) (iblk V c 3 (pt 36))
      (outsAt1 V c (pt 35).val (pt 35).isLt).2.2.2)
    ∧ (outsAt1 V c (pt 36).val (pt 36).isLt).2.2.1 = rowsOf (k1_pay5 (F := Ideal) (newMax (iblk V c 0 (pt 36)) (iblk V c 1 (pt 36)) (iblk V c 2 (pt 36)) (iblk V c 3 (pt 36))
      (outsAt1 V c (pt 35).val (pt 35).isLt).2.2.2)) := by
  have h := at_last V c (pt 36) (by show ¬ 36 % 37 = 0; omega) (by rfl)
  have e := outs_congr V c (show (pt 36).val - 1 = (pt 35).val from rfl) (Nat.lt_of_le_of_lt (Nat.sub_le _ _) (pt 36).isLt) (pt 35).isLt
  rw [e] at h
  exact h

/-- The replicated scales the second call leaves. -/
theorem final_hrep (r : Fin 768) (l : Fin 128) :
    ((dat V c).arrAt 5 cfg1.N : FVec Ideal S768x128 .f32) (ix2 r l) = scaleOf (amaxOf (hv V c r)) := by
  obtain ⟨-, -, -, -, -, -, -, -, -, -, -, e0, e1, -, -, -, hf, -⟩ := idx_facts (pt 36)
  have hi : (ix2 r l : S768x128.Idx) = ((cfg1.win 5).blk (pt 36)).view.emb (ix2 r l) := by
    funext a; apply Fin.ext
    match a with
    | ⟨0, _⟩ => show r.val = win1_5.index (pt 36) (0 : Fin 2) * 768 + 1 * r.val; rw [e0]; omega
    | ⟨1, _⟩ => show l.val = win1_5.index (pt 36) (1 : Fin 2) * 128 + 1 * l.val; rw [e1]; omega
  rw [hi]
  refine ((dat V c).arrAt_emb_eq_flushed 5 (last_only 5 fun t => (idx_facts t).2.2.2.2.2.2.2.2.2.2.2.2.2.2.2.2.1) (pt 36) (hf.mpr rfl) (ix2 r l)).trans ?_
  show (dat V c).after 5 (pt 36) (ix2 r l) = _
  rw [after1_5, (outs_last V c hrep).1]
  exact last_scale V c hrep r l

/-- The rows of scales the second call leaves. -/
theorem final_hs (b : Fin 24) (s : Fin 32) :
    ((dat V c).arrAt 6 cfg1.N : FVec Ideal S24x32 .f32) (ix2 b s) = scaleOf (amaxOf (hv V c (rowAt b s))) := by
  obtain ⟨-, -, -, -, -, -, -, -, -, -, -, -, -, e0, e1, -, -, hf⟩ := idx_facts (pt 36)
  have hi : (ix2 b s : S24x32.Idx) = ((cfg1.win 6).blk (pt 36)).view.emb (ix2 b s) := by
    funext a; apply Fin.ext
    match a with
    | ⟨0, _⟩ => show b.val = win1_6.index (pt 36) (0 : Fin 2) * 24 + 1 * b.val; rw [e0]; omega
    | ⟨1, _⟩ => show s.val = win1_6.index (pt 36) (1 : Fin 2) * 32 + 1 * s.val; rw [e1]; omega
  rw [hi]
  refine ((dat V c).arrAt_emb_eq_flushed 6 (last_only 6 fun t => (idx_facts t).2.2.2.2.2.2.2.2.2.2.2.2.2.2.2.2.2) (pt 36) (hf.mpr rfl) (ix2 b s)).trans ?_
  show (dat V c).after 6 (pt 36) (ix2 b s) = _
  rw [after1_6, (outs_last V c hrep).2]
  exact last_scale V c hrep (rowAt b s) ⟨s.val, by omega⟩

end Cert.KernelIdeal.K1

end
-- ==== Proof.Value.K2Pay.lean ====
module

public import proofs.«01_k».proof.Proof.Value.K1Out
public import proofs.«01_k».proof.Proof.K2.Body
public import Idealize.ShloMosaic.Lib.VecWindow

@[expose] public section

/-! # The third call's payloads, read at an index: the codes, the accumulator, the output -/

set_option maxRecDepth 16384

noncomputable section

namespace Cert.KernelIdeal.K2

open Idealize.ShloMosaic Idealize.ShloMosaic.TcCoe Idealize.ShloMosaic.ValueIdx
open Cert.KernelIdeal.Gen Cert.Value
open Cert.KernelIdeal.K1 (col ld_apply)

/-- The lane a column falls into. -/
def lane (n : ℕ) : Fin 128 := ⟨n % 128, Nat.mod_lt _ (by omega)⟩

/-- The clipped rounded quotients of a block of the hidden layer. -/
def cBlk (x0 : FVec Ideal S768x512 .f32) (x1 : FVec Ideal S768x128 .f32) : FVec Ideal S768x512 .f32 := fun y =>
  clipOf (x0 y) (x1 (ix2 (y 0) (lane (y 1).val)))

/-- The codes of a block of the hidden layer. -/
def codeBlk (x0 : FVec Ideal S768x512 .f32) (x1 : FVec Ideal S768x128 .f32) : IVec S768x512 8 := fun y =>
  codeOf (x0 y) (x1 (ix2 (y 0) (lane (y 1).val)))

/-- One step of the accumulator: what it was plus the product of a block's row of codes and its column of weights. -/
def stepAcc (x0 : FVec Ideal S768x512 .f32) (x1 : FVec Ideal S768x128 .f32) (x2 : S512x3584.Idx → BitVec 8) (prev : Ideal .f32)
    (r : Fin 768) (d : Fin 3584) : Ideal .f32 :=
  ((prev : EReal) + ∑ k : Fin 512, (cBlk x0 x1 (ix2 r k) : EReal) * (((x2 (ix2 k d)).toInt : ℝ) : EReal) : EReal)

/-- One group of the output. -/
def outPay (a b s : Vec Ideal S768x128 .f32) (w : Vec Ideal S1x128 .f32) : FVec Ideal S768x128 .bf16 :=
  truncf .bf16 (addf a (mulf (mulf b (shapeCast S768x128 s shapeCasts_S768x128_S768x128))
    (broadcastTo S768x128 (shapeCast S1x128 w shapeCasts_S1x128_S1x128) broadcasts_S1x128_S768x128))) bitsLt_bf16_f32

/-- The output's formula at an entry. -/
theorem outPay_apply (a b s : Vec Ideal S768x128 .f32) (w : Vec Ideal S1x128 .f32) (r : Fin 768) (l : Fin 128) :
    (outPay a b s w (ix2 r l) : EReal)
      = FloatOps.addf (F := Ideal) (φ := .f32) (a (ix2 r l)) (scaledAt (b (ix2 r l) : Ideal .f32) (s (ix2 r l)) (w (ix2 (0 : Fin 1) l))) := by
  have e1 : shapeCast S768x128 s shapeCasts_S768x128_S768x128 (ix2 r l) = s (ix2 r l) := congrFun (shapeCast_self (α := Ideal .f32) (s := S768x128) _ _) _
  have e2 : broadcastTo S768x128 (shapeCast S1x128 w shapeCasts_S1x128_S1x128) broadcasts_S1x128_S768x128 (ix2 r l) = w (ix2 (0 : Fin 1) l) :=
    (broadcastTo_1b_ab_apply _ _ r l).trans (congrFun (shapeCast_self (α := Ideal .f32) (s := S1x128) _ _) _)
  rw [← e1, ← e2]
  rfl

/-- One group of the clipped quotients. -/
theorem pay1_apply (v3 v5 v15 v25 v35 : Vec Ideal S768x128 .f32) (g : Fin 4) (X : Vec Ideal S768x128 .f32)
    (hX : X = ![v5, v15, v25, v35] g) (r : Fin 768) (l : Fin 128) :
    k2_pay1 (k2_pay39 v3 v5) (k2_pay40 v3 v15) (k2_pay41 v3 v25) (k2_pay42 v3 v35) 4294967169#32 (ix2 r (col g l))
      = clipOf (X (ix2 r l)) (v3 (ix2 r l)) := by
  have e3 : shapeCast S768x128 v3 shapeCasts_S768x128_S768x128 = v3 := shapeCast_self (α := Ideal .f32) (s := S768x128) _ _
  have hq : ∀ Y : Vec Ideal S768x128 .f32, clipOf (shapeCast S768x128 Y shapeCasts_S768x128_S768x128 (ix2 r l)) (shapeCast S768x128 v3 shapeCasts_S768x128_S768x128 (ix2 r l))
      = clipOf (Y (ix2 r l)) (v3 (ix2 r l)) := fun Y => by
    rw [congrFun (shapeCast_self (α := Ideal .f32) (s := S768x128) Y _) (ix2 r l), congrFun (shapeCast_self (α := Ideal .f32) (s := S768x128) v3 _) (ix2 r l)]
  unfold k2_pay1
  have hi : ∀ b : Fin 2, b ≠ (1 : Fin 2) → ((ix2 r l : S768x128.Idx) b).val = ((ix2 r (col g l) : S768x512.Idx) b).val := fun b hb => by
    match b with
    | ⟨0, _⟩ => rfl
    | ⟨1, _⟩ => exact absurd rfl hb
  match g with
  | ⟨0, _⟩ =>
    subst hX
    exact (concatenate_apply_piece (t := S768x512) 1 _ _ (ix2 r (col 0 l)) 0 (by show 0 < 4; omega) S768x128 _ rfl rfl 0 rfl (ix2 r l) (fun b hb => hi b hb) (by show 0 + l.val = 128 * 0 + l.val; omega)).trans (hq X)
  | ⟨1, _⟩ =>
    subst hX
    exact (concatenate_apply_piece (t := S768x512) 1 _ _ (ix2 r (col 1 l)) 1 (by show 1 < 4; omega) S768x128 _ rfl rfl 128 rfl (ix2 r l) (fun b hb => hi b hb) (by show 128 + l.val = 128 * 1 + l.val; omega)).trans (hq X)
  | ⟨2, _⟩ =>
    subst hX
    exact (concatenate_apply_piece (t := S768x512) 1 _ _ (ix2 r (col 2 l)) 2 (by show 2 < 4; omega) S768x128 _ rfl rfl 256 rfl (ix2 r l) (fun b hb => hi b hb) (by show 256 + l.val = 128 * 2 + l.val; omega)).trans (hq X)
  | ⟨3, _⟩ =>
    subst hX
    exact (concatenate_apply_piece (t := S768x512) 1 _ _ (ix2 r (col 3 l)) 3 (by show 3 < 4; omega) S768x128 _ rfl rfl 384 rfl (ix2 r l) (fun b hb => hi b hb) (by show 384 + l.val = 128 * 3 + l.val; omega)).trans (hq X)

/-- The accumulator's payload. -/
theorem pay3_apply (v14 v24 v34 v38 : FVec Ideal S768x128 .f32) (b : BitVec 32) (x0 : FVec Ideal S768x512 .f32) (x1 : FVec Ideal S768x128 .f32)
    (h : k2_pay1 v14 v24 v34 v38 b = cBlk x0 x1) (v48 : Vec Ideal S768x3584 .f32) (v50 : Vec Ideal S512x3584 .i8) (r : Fin 768) (d : Fin 3584) :
    k2_pay3 v14 v24 v34 v38 b v48 v50 (ix2 r d) = stepAcc x0 x1 v50 (v48 (ix2 r d)) r d := by
  unfold k2_pay3
  rw [h]
  refine (congrFun (shapeCast_self (α := Ideal .f32) (s := S768x3584) _ _) (ix2 r d)).trans ?_
  unfold stepAcc
  refine congrArg (fun q : EReal => ((v48 (ix2 r d) : Ideal .f32) : EReal) + q) ?_
  refine (Ideal.matmul_plain_apply (M := 768) (K := 512) (N := 3584) none _ _ _ r d).trans ?_
  have hz : (constant S768x3584 .f32 0x00000000#32 : FVec Ideal S768x3584 .f32) (ix2 r d) = (0 : EReal) := zero_f32
  refine (congrArg (fun a : EReal => a + _) hz).trans ?_
  exact zero_add _

section Loads

variable (x0 : Vec Ideal S768x512 .f32) (x1 : Vec Ideal S768x128 .f32) (x2 : Vec Ideal S512x3584 .i8) (x3 : Vec Ideal S1x3584 .f32) (x4 xs0 : Vec Ideal S768x3584 .f32)
  {arg1 : Memref sig .tc .vmem S768x512 .f32} (harg1 : arg1.IsWhole) {arg2 : Memref sig .tc .vmem S768x128 .f32} (harg2 : arg2.IsWhole)
  {arg3 : Memref sig .tc .vmem S512x3584 .i8} (harg3 : arg3.IsWhole) {arg4 : Memref sig .tc .vmem S1x3584 .f32} (harg4 : arg4.IsWhole)
  {arg5 : Memref sig .tc .vmem S768x3584 .f32} (harg5 : arg5.IsWhole) {arg8 : Memref sig .tc .vmem S768x3584 .f32} (harg8 : arg8.IsWhole)

/-- The replicated scales, loaded. -/
abbrev ldS : Vec Ideal S768x128 .f32 := View.readAt (Elt Ideal) arg2.view (Rect.unit (s := S768x128) ![0, 0] S768x128.size inb_S768x128_S768x128_0_0).toLoadRect (harg2.unread x1)

/-- The repeated scales, as the body loads them. -/
theorem s_ld (r : Fin 768) (l : Fin 128) : ldS x1 harg2 (ix2 r l) = x1 (ix2 r l) := by
  refine (ld_apply harg2 x1 inb_S768x128_S768x128_0_0 (ix2 r l)).trans (congrArg x1 (funext fun a => Fin.ext ?_))
  match a with
  | ⟨0, _⟩ => show 0 + 1 * r.val = r.val; omega
  | ⟨1, _⟩ => show 0 + 1 * l.val = l.val; omega

/-- A group of hidden columns, as the body loads it. -/
theorem h_ld (o : ℕ) (inb : ∀ a, (![0, o] : Fin 2 → ℕ) a + S768x128.size a ≤ S768x512.size a) (g : Fin 4) (ho : o = 128 * g.val) (r : Fin 768) (l : Fin 128) :
    View.readAt (Elt Ideal) arg1.view (Rect.unit (s := S768x512) ![0, o] S768x128.size inb).toLoadRect (harg1.unread x0) (ix2 r l) = x0 (ix2 r (col g l)) := by
  refine (ld_apply harg1 x0 inb (ix2 r l)).trans (congrArg x0 (funext fun a => Fin.ext ?_))
  match a with
  | ⟨0, _⟩ => show 0 + 1 * r.val = r.val; omega
  | ⟨1, _⟩ => show o + 1 * l.val = 128 * g.val + l.val; omega

/-- The clipped quotients of a block, from the buffers. -/
theorem c_ld :
    k2_pay1 (k2_pay39 (ldS x1 harg2) (View.readAt (Elt Ideal) arg1.view (Rect.unit (s := S768x512) ![0, 0] S768x128.size inb_S768x512_S768x128_0_0).toLoadRect (harg1.unread x0)))
      (k2_pay40 (ldS x1 harg2) (View.readAt (Elt Ideal) arg1.view (Rect.unit (s := S768x512) ![0, 128] S768x128.size inb_S768x512_S768x128_0_128).toLoadRect (harg1.unread x0)))
      (k2_pay41 (ldS x1 harg2) (View.readAt (Elt Ideal) arg1.view (Rect.unit (s := S768x512) ![0, 256] S768x128.size inb_S768x512_S768x128_0_256).toLoadRect (harg1.unread x0)))
      (k2_pay42 (ldS x1 harg2) (View.readAt (Elt Ideal) arg1.view (Rect.unit (s := S768x512) ![0, 384] S768x128.size inb_S768x512_S768x128_0_384).toLoadRect (harg1.unread x0)))
      4294967169#32 = cBlk x0 x1 := by
  funext y
  obtain ⟨r, g, l, rfl⟩ : ∃ (r : Fin 768) (g : Fin 4) (l : Fin 128), y = (ix2 r (col g l) : S768x512.Idx) := by
    have h1 : (y 1).val < 512 := (y 1).isLt
    refine ⟨y 0, ⟨(y 1).val / 128, by omega⟩, ⟨(y 1).val % 128, Nat.mod_lt _ (by omega)⟩, (eq_ix2 (n0 := 768) (n1 := 512) y).trans ?_⟩
    refine congrArg (fun j : Fin 512 => (ix2 (y 0) j : S768x512.Idx)) (Fin.ext ?_)
    show (y 1).val = 128 * ((y 1).val / 128) + (y 1).val % 128
    omega
  rw [pay1_apply _ _ _ _ _ g _ rfl r l, s_ld]
  have hl : lane (128 * g.val + l.val) = l := Fin.ext (by show (128 * g.val + l.val) % 128 = l.val; omega)
  show _ = clipOf (x0 (ix2 r (col g l))) (x1 (ix2 r (lane (128 * g.val + l.val))))
  rw [hl]
  match g with
  | ⟨0, _⟩ => exact congrArg (fun q => clipOf q _) (h_ld x0 harg1 0 inb_S768x512_S768x128_0_0 0 rfl r l)
  | ⟨1, _⟩ => exact congrArg (fun q => clipOf q _) (h_ld x0 harg1 128 inb_S768x512_S768x128_0_128 1 rfl r l)
  | ⟨2, _⟩ => exact congrArg (fun q => clipOf q _) (h_ld x0 harg1 256 inb_S768x512_S768x128_0_256 2 rfl r l)
  | ⟨3, _⟩ => exact congrArg (fun q => clipOf q _) (h_ld x0 harg1 384 inb_S768x512_S768x128_0_384 3 rfl r l)

/-- The weight block, as the body loads it. -/
theorem w_ld : View.readAt (Elt Ideal) arg3.view (Rect.unit (s := S512x3584) ![0, 0] S512x3584.size inb_S512x3584_S512x3584_0_0).toLoadRect (harg3.unread x2) = x2 :=
  funext fun y => (ld_apply harg3 x2 inb_S512x3584_S512x3584_0_0 y).trans (congrArg x2 (Rect.emb_unit_full (s := S512x3584) inb_S512x3584_S512x3584_0_0 y))

/-- The accumulator, as the body loads it. -/
theorem a_ld : View.readAt (Elt Ideal) arg8.view (Rect.unit (s := S768x3584) ![0, 0] S768x3584.size inb_S768x3584_S768x3584_0_0).toLoadRect (harg8.unread xs0) = xs0 :=
  funext fun y => (ld_apply harg8 xs0 inb_S768x3584_S768x3584_0_0 y).trans (congrArg xs0 (Rect.emb_unit_full (s := S768x3584) inb_S768x3584_S768x3584_0_0 y))

/-- A load of a rectangle of the accumulator after it was stored whole. -/
theorem acc_ld (w : FVec Ideal S768x3584 .f32) {off size : Fin 2 → ℕ} (inb : ∀ a, off a + size a ≤ S768x3584.size a) (z : (⟨2, size⟩ : Shape).Idx) :
    arg8.view.readCov [(⟨Rect.unit (s := S768x3584) ![0, 0] S768x3584.size inb_S768x3584_S768x3584_0_0, w⟩ : View.Piece (Elt Ideal) S768x3584 .f32)]
      (Rect.unit (s := S768x3584) off size inb).toLoadRect z = w ((Rect.unit (s := S768x3584) off size inb).emb z) :=
  congrFun (View.read_writes_full (Val := Elt Ideal) arg8.view arg8.view.junk inb_S768x3584_S768x3584_0_0 w []) ((Rect.unit (s := S768x3584) off size inb).emb z)

/-- The accumulator after a step. -/
def newAcc : FVec Ideal S768x3584 .f32 := fun y => stepAcc x0 x1 x2 (xs0 y) (y 0) (y 1)

/-- The output block: the residual plus the scaled accumulator. -/
def yBlk : FVec Ideal S768x3584 .bf16 := fun y =>
  (FloatOps.addf (F := Ideal) (φ := .f32) (x4 y) (scaledAt (newAcc x0 x1 x2 xs0 y : Ideal .f32) (x1 (ix2 (y 0) (lane (y 1).val))) (x3 (ix2 (0 : Fin 1) (y 1)))) : EReal)

/-- A group of the output, from the buffers. -/
theorem y_piece (w : FVec Ideal S768x3584 .f32) (hw : w = newAcc x0 x1 x2 xs0) (o : ℕ) (g : ℕ) (ho : o = 128 * g)
    (inb : ∀ a, (![0, o] : Fin 2 → ℕ) a + S768x128.size a ≤ S768x3584.size a) (inb4 : ∀ a, (![0, o] : Fin 2 → ℕ) a + S1x128.size a ≤ S1x3584.size a) (x : S768x128.Idx) :
    outPay (View.readAt (Elt Ideal) arg5.view (Rect.unit (s := S768x3584) ![0, o] S768x128.size inb).toLoadRect (harg5.unread x4))
      (arg8.view.readCov [(⟨Rect.unit (s := S768x3584) ![0, 0] S768x3584.size inb_S768x3584_S768x3584_0_0, w⟩ : View.Piece (Elt Ideal) S768x3584 .f32)]
        (Rect.unit (s := S768x3584) ![0, o] S768x128.size inb).toLoadRect)
      (ldS x1 harg2) (View.readAt (Elt Ideal) arg4.view (Rect.unit (s := S1x3584) ![0, o] S1x128.size inb4).toLoadRect (harg4.unread x3)) x
    = yBlk x0 x1 x2 x3 x4 xs0 ((Rect.unit (s := S768x3584) ![0, o] S768x128.size inb).emb x) := by
  subst hw
  obtain ⟨r, l, rfl⟩ : ∃ (r : Fin 768) (l : Fin 128), x = (ix2 r l : S768x128.Idx) := ⟨x 0, x 1, eq_ix2 (n0 := 768) (n1 := 128) x⟩
  have h1 : o + 128 ≤ 3584 := inb 1
  have he : (Rect.unit (s := S768x3584) ![0, o] S768x128.size inb).emb (ix2 r l) = (ix2 r (⟨o + l.val, by omega⟩ : Fin 3584) : S768x3584.Idx) := by
    funext a; apply Fin.ext
    match a with
    | ⟨0, _⟩ => show 0 + 1 * r.val = r.val; omega
    | ⟨1, _⟩ => show o + 1 * l.val = o + l.val; omega
  have h4 : (Rect.unit (s := S1x3584) ![0, o] S1x128.size inb4).emb (ix2 (0 : Fin 1) l) = (ix2 (0 : Fin 1) (⟨o + l.val, by omega⟩ : Fin 3584) : S1x3584.Idx) := by
    funext a; apply Fin.ext
    match a with
    | ⟨0, _⟩ => rfl
    | ⟨1, _⟩ => show o + 1 * l.val = o + l.val; omega
  refine (outPay_apply _ _ _ _ r l).trans ?_
  rw [he]
  have e5 := (ld_apply harg5 x4 inb (ix2 r l)).trans (congrArg x4 he)
  have e8 := (acc_ld (arg8 := arg8) (newAcc x0 x1 x2 xs0) inb (ix2 r l)).trans (congrArg (newAcc x0 x1 x2 xs0) he)
  have e4 := (ld_apply harg4 x3 inb4 (ix2 (0 : Fin 1) l)).trans (congrArg x3 h4)
  have hl : lane (o + l.val) = l := Fin.ext (by show (o + l.val) % 128 = l.val; omega)
  rw [s_ld x1 harg2 r l]
  unfold yBlk
  show _ = FloatOps.addf (F := Ideal) (φ := .f32) (x4 (ix2 r (⟨o + l.val, by omega⟩ : Fin 3584)))
    (scaledAt (newAcc x0 x1 x2 xs0 (ix2 r (⟨o + l.val, by omega⟩ : Fin 3584)) : Ideal .f32) (x1 (ix2 r (lane (o + l.val)))) (x3 (ix2 (0 : Fin 1) (⟨o + l.val, by omega⟩ : Fin 3584))))
  rw [hl, ← e5, ← e8, ← e4]

end Loads

end Cert.KernelIdeal.K2

end
-- ==== Proof.Value.K2Out.lean ====
module

public import proofs.«01_k».proof.Proof.Value.K2Pay

@[expose] public section

/-! # What one grid point of the third call leaves

The three cases of the grid (the first point, the points between, the last) leave the same block of codes and take the
accumulator one step further; the last one also leaves the output. -/

set_option maxRecDepth 16384

noncomputable section

namespace Cert.KernelIdeal.K2

open Idealize.ShloMosaic Idealize.ShloMosaic.TcCoe Idealize.ShloMosaic.ValueIdx
open Cert.KernelIdeal.Gen Cert.Value

/-- The first point finds the accumulator it has just cleared. -/
theorem zero_ld (c : Dev nD) (arg8 : Memref sig .tc .vmem S768x3584 .f32) (r : Fin 768) (d : Fin 3584) :
    kernelRun2_A.sl.v48 (F := Ideal) c arg8 (ix2 r d) = FloatOps.ofBits (F := Ideal) .f32 0x00000000#32 := by
  have h : kernelRun2_A.sl.v48 (F := Ideal) c arg8 = k2_pay37 (F := Ideal) := by
    unfold kernelRun2_A.sl.v48 kernelRun2_A.sl.HS0_1
    exact View.readCov_full (Val := Elt Ideal) (e := .f32) arg8.view inb_S768x3584_S768x3584_0_0 inb_S768x3584_S768x3584_0_0 (k2_pay37 (F := Ideal)) []
  refine (congrFun h (ix2 r d)).trans ?_
  unfold k2_pay37
  exact congrFun (shapeCast_self (α := Ideal .f32) (s := S768x3584) _ _) (ix2 r d)

/-- The block of codes at the first point. -/
theorem out_A_6 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : cond2_0 i) (hc1 : ¬cond2_1 i)
    (x0 : Vec Ideal S768x512 .f32) (x1 : Vec Ideal S768x128 .f32) (x2 : Vec Ideal S512x3584 .i8) (x3 : Vec Ideal S1x3584 .f32) (x4 : Vec Ideal S768x3584 .f32) :
    out2_A_6 c i arg1 harg1 arg2 harg2 arg3 harg3 arg4 harg4 arg5 harg5 arg6 harg6 arg7 harg7 arg8 harg8 hc0 hc1 x0 x1 x2 x3 x4 = codeBlk x0 x1 := by
  have hw : k2_pay2 (kernelRun2_A.sl.r c arg1 harg1 arg2 harg2 x0 x1) (kernelRun2_A.sl.r_1 c arg1 harg1 arg2 harg2 x0 x1) (kernelRun2_A.sl.r_2 c arg1 harg1 arg2 harg2 x0 x1) (kernelRun2_A.sl.r_3 c arg1 harg1 arg2 harg2 x0 x1) 4294967169#32 = codeBlk x0 x1 := by
    unfold k2_pay2
    exact congrArg (fptosi (F := Ideal) (φ := .f32) 8) (c_ld x0 x1 harg1 harg2)
  have hl : (kernelRun2_A c i arg1 harg1 arg2 harg2 arg3 harg3 arg4 harg4 arg5 harg5 arg6 harg6 arg7 harg7 arg8 harg8 hc0 hc1 x0 x1 x2 x3 x4).2.1 = [(⟨Rect.unit (s := S768x512) ![0, 0] S768x512.size inb_S768x512_S768x512_0_0, k2_pay2 (kernelRun2_A.sl.r c arg1 harg1 arg2 harg2 x0 x1) (kernelRun2_A.sl.r_1 c arg1 harg1 arg2 harg2 x0 x1) (kernelRun2_A.sl.r_2 c arg1 harg1 arg2 harg2 x0 x1) (kernelRun2_A.sl.r_3 c arg1 harg1 arg2 harg2 x0 x1) 4294967169#32⟩ : View.Piece (Elt Ideal) S768x512 .i8)] := rfl
  unfold out2_A_6
  rw [hl, hw]
  exact View.read_writes_full (Val := Elt Ideal) VO2_6 VO2_6.junk inb_S768x512_S768x512_0_0 (codeBlk x0 x1) []

/-- The accumulator this kind of point leaves. -/
theorem acc_A (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : cond2_0 i) (hc1 : ¬cond2_1 i)
    (x0 : Vec Ideal S768x512 .f32) (x1 : Vec Ideal S768x128 .f32) (x2 : Vec Ideal S512x3584 .i8) (x3 : Vec Ideal S1x3584 .f32) (x4 : Vec Ideal S768x3584 .f32) (r : Fin 768) (d : Fin 3584) :
    k2_pay3 (kernelRun2_A.sl.r c arg1 harg1 arg2 harg2 x0 x1) (kernelRun2_A.sl.r_1 c arg1 harg1 arg2 harg2 x0 x1) (kernelRun2_A.sl.r_2 c arg1 harg1 arg2 harg2 x0 x1) (kernelRun2_A.sl.r_3 c arg1 harg1 arg2 harg2 x0 x1) 4294967169#32 (kernelRun2_A.sl.v48 (F := Ideal) c arg8) (View.readAt (Elt Ideal) arg3.view (Rect.unit (s := S512x3584) ![0, 0] S512x3584.size inb_S512x3584_S512x3584_0_0).toLoadRect (harg3.unread x2)) (ix2 r d) = stepAcc x0 x1 x2 (FloatOps.ofBits .f32 0x00000000#32) r d := by
  refine (pay3_apply _ _ _ _ _ x0 x1 (c_ld x0 x1 harg1 harg2) _ _ r d).trans ?_
  rw [w_ld x2 harg3]
  exact congrArg (fun q => stepAcc x0 x1 x2 q r d) (zero_ld c arg8 r d)

/-- The accumulator at the first point. -/
theorem sout_A (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : cond2_0 i) (hc1 : ¬cond2_1 i)
    (x0 : Vec Ideal S768x512 .f32) (x1 : Vec Ideal S768x128 .f32) (x2 : Vec Ideal S512x3584 .i8) (x3 : Vec Ideal S1x3584 .f32) (x4 : Vec Ideal S768x3584 .f32) (r : Fin 768) (d : Fin 3584) :
    sout2_A_0 c i arg1 harg1 arg2 harg2 arg3 harg3 arg4 harg4 arg5 harg5 arg6 harg6 arg7 harg7 arg8 harg8 hc0 hc1 x0 x1 x2 x3 x4 (ix2 r d) = stepAcc x0 x1 x2 (FloatOps.ofBits .f32 0x00000000#32) r d := by
  have hw := acc_A c i arg1 harg1 arg2 harg2 arg3 harg3 arg4 harg4 arg5 harg5 arg6 harg6 arg7 harg7 arg8 harg8 hc0 hc1 x0 x1 x2 x3 x4 r d
  generalize hp : k2_pay3 (kernelRun2_A.sl.r c arg1 harg1 arg2 harg2 x0 x1) (kernelRun2_A.sl.r_1 c arg1 harg1 arg2 harg2 x0 x1) (kernelRun2_A.sl.r_2 c arg1 harg1 arg2 harg2 x0 x1) (kernelRun2_A.sl.r_3 c arg1 harg1 arg2 harg2 x0 x1) 4294967169#32 (kernelRun2_A.sl.v48 (F := Ideal) c arg8) (View.readAt (Elt Ideal) arg3.view (Rect.unit (s := S512x3584) ![0, 0] S512x3584.size inb_S512x3584_S512x3584_0_0).toLoadRect (harg3.unread x2)) = w at hw
  have hl : (kernelRun2_A c i arg1 harg1 arg2 harg2 arg3 harg3 arg4 harg4 arg5 harg5 arg6 harg6 arg7 harg7 arg8 harg8 hc0 hc1 x0 x1 x2 x3 x4).2.2.1 = [(⟨Rect.unit (s := S768x3584) ![0, 0] S768x3584.size inb_S768x3584_S768x3584_0_0, w⟩ : View.Piece (Elt Ideal) S768x3584 .f32), ⟨Rect.unit (s := S768x3584) ![0, 0] S768x3584.size inb_S768x3584_S768x3584_0_0, k2_pay37 (F := Ideal)⟩] := by rw [← hp]; rfl
  unfold sout2_A_0
  rw [hl, ← hw]
  exact congrFun (View.read_writes_full (Val := Elt Ideal) VS2_0 VS2_0.junk inb_S768x3584_S768x3584_0_0 w [⟨Rect.unit (s := S768x3584) ![0, 0] S768x3584.size inb_S768x3584_S768x3584_0_0, k2_pay37 (F := Ideal)⟩]) (ix2 r d)

/-- The block of codes at a point between. -/
theorem out_B_6 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : ¬cond2_1 i)
    (x0 : Vec Ideal S768x512 .f32) (x1 : Vec Ideal S768x128 .f32) (x2 : Vec Ideal S512x3584 .i8) (x3 : Vec Ideal S1x3584 .f32) (x4 : Vec Ideal S768x3584 .f32) (xs0 : Vec Ideal S768x3584 .f32) :
    out2_B_6 c i arg1 harg1 arg2 harg2 arg3 harg3 arg4 harg4 arg5 harg5 arg6 harg6 arg7 harg7 arg8 harg8 hc0 hc1 x0 x1 x2 x3 x4 xs0 = codeBlk x0 x1 := by
  have hw : k2_pay2 (kernelRun2_B.sl.r c arg1 harg1 arg2 harg2 x0 x1) (kernelRun2_B.sl.r_1 c arg1 harg1 arg2 harg2 x0 x1) (kernelRun2_B.sl.r_2 c arg1 harg1 arg2 harg2 x0 x1) (kernelRun2_B.sl.r_3 c arg1 harg1 arg2 harg2 x0 x1) 4294967169#32 = codeBlk x0 x1 := by
    unfold k2_pay2
    exact congrArg (fptosi (F := Ideal) (φ := .f32) 8) (c_ld x0 x1 harg1 harg2)
  have hl : (kernelRun2_B c i arg1 harg1 arg2 harg2 arg3 harg3 arg4 harg4 arg5 harg5 arg6 harg6 arg7 harg7 arg8 harg8 hc0 hc1 x0 x1 x2 x3 x4 xs0).2.1 = [(⟨Rect.unit (s := S768x512) ![0, 0] S768x512.size inb_S768x512_S768x512_0_0, k2_pay2 (kernelRun2_B.sl.r c arg1 harg1 arg2 harg2 x0 x1) (kernelRun2_B.sl.r_1 c arg1 harg1 arg2 harg2 x0 x1) (kernelRun2_B.sl.r_2 c arg1 harg1 arg2 harg2 x0 x1) (kernelRun2_B.sl.r_3 c arg1 harg1 arg2 harg2 x0 x1) 4294967169#32⟩ : View.Piece (Elt Ideal) S768x512 .i8)] := rfl
  unfold out2_B_6
  rw [hl, hw]
  exact View.read_writes_full (Val := Elt Ideal) VO2_6 VO2_6.junk inb_S768x512_S768x512_0_0 (codeBlk x0 x1) []

/-- The accumulator this kind of point leaves. -/
theorem acc_B (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : ¬cond2_1 i)
    (x0 : Vec Ideal S768x512 .f32) (x1 : Vec Ideal S768x128 .f32) (x2 : Vec Ideal S512x3584 .i8) (x3 : Vec Ideal S1x3584 .f32) (x4 : Vec Ideal S768x3584 .f32) (xs0 : Vec Ideal S768x3584 .f32) (r : Fin 768) (d : Fin 3584) :
    k2_pay3 (kernelRun2_B.sl.r c arg1 harg1 arg2 harg2 x0 x1) (kernelRun2_B.sl.r_1 c arg1 harg1 arg2 harg2 x0 x1) (kernelRun2_B.sl.r_2 c arg1 harg1 arg2 harg2 x0 x1) (kernelRun2_B.sl.r_3 c arg1 harg1 arg2 harg2 x0 x1) 4294967169#32 (View.readAt (Elt Ideal) arg8.view (Rect.unit (s := S768x3584) ![0, 0] S768x3584.size inb_S768x3584_S768x3584_0_0).toLoadRect (harg8.unread xs0)) (View.readAt (Elt Ideal) arg3.view (Rect.unit (s := S512x3584) ![0, 0] S512x3584.size inb_S512x3584_S512x3584_0_0).toLoadRect (harg3.unread x2)) (ix2 r d) = stepAcc x0 x1 x2 (xs0 (ix2 r d)) r d := by
  refine (pay3_apply _ _ _ _ _ x0 x1 (c_ld x0 x1 harg1 harg2) _ _ r d).trans ?_
  rw [w_ld x2 harg3]
  exact congrArg (fun q => stepAcc x0 x1 x2 q r d) (congrFun (a_ld xs0 harg8) (ix2 r d))

/-- The accumulator at a point between. -/
theorem sout_B (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : ¬cond2_1 i)
    (x0 : Vec Ideal S768x512 .f32) (x1 : Vec Ideal S768x128 .f32) (x2 : Vec Ideal S512x3584 .i8) (x3 : Vec Ideal S1x3584 .f32) (x4 : Vec Ideal S768x3584 .f32) (xs0 : Vec Ideal S768x3584 .f32) (r : Fin 768) (d : Fin 3584) :
    sout2_B_0 c i arg1 harg1 arg2 harg2 arg3 harg3 arg4 harg4 arg5 harg5 arg6 harg6 arg7 harg7 arg8 harg8 hc0 hc1 x0 x1 x2 x3 x4 xs0 (ix2 r d) = stepAcc x0 x1 x2 (xs0 (ix2 r d)) r d := by
  have hw := acc_B c i arg1 harg1 arg2 harg2 arg3 harg3 arg4 harg4 arg5 harg5 arg6 harg6 arg7 harg7 arg8 harg8 hc0 hc1 x0 x1 x2 x3 x4 xs0 r d
  generalize hp : k2_pay3 (kernelRun2_B.sl.r c arg1 harg1 arg2 harg2 x0 x1) (kernelRun2_B.sl.r_1 c arg1 harg1 arg2 harg2 x0 x1) (kernelRun2_B.sl.r_2 c arg1 harg1 arg2 harg2 x0 x1) (kernelRun2_B.sl.r_3 c arg1 harg1 arg2 harg2 x0 x1) 4294967169#32 (View.readAt (Elt Ideal) arg8.view (Rect.unit (s := S768x3584) ![0, 0] S768x3584.size inb_S768x3584_S768x3584_0_0).toLoadRect (harg8.unread xs0)) (View.readAt (Elt Ideal) arg3.view (Rect.unit (s := S512x3584) ![0, 0] S512x3584.size inb_S512x3584_S512x3584_0_0).toLoadRect (harg3.unread x2)) = w at hw
  have hl : (kernelRun2_B c i arg1 harg1 arg2 harg2 arg3 harg3 arg4 harg4 arg5 harg5 arg6 harg6 arg7 harg7 arg8 harg8 hc0 hc1 x0 x1 x2 x3 x4 xs0).2.2.1 = [(⟨Rect.unit (s := S768x3584) ![0, 0] S768x3584.size inb_S768x3584_S768x3584_0_0, w⟩ : View.Piece (Elt Ideal) S768x3584 .f32)] := by rw [← hp]; rfl
  unfold sout2_B_0
  rw [hl, ← hw]
  exact congrFun (View.read_writes_full (Val := Elt Ideal) VS2_0 VS2_0.junk inb_S768x3584_S768x3584_0_0 w []) (ix2 r d)

/-- The block of codes at the last point. -/
theorem out_C_6 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : cond2_1 i)
    (x0 : Vec Ideal S768x512 .f32) (x1 : Vec Ideal S768x128 .f32) (x2 : Vec Ideal S512x3584 .i8) (x3 : Vec Ideal S1x3584 .f32) (x4 : Vec Ideal S768x3584 .f32) (xs0 : Vec Ideal S768x3584 .f32) :
    out2_C_6 c i arg1 harg1 arg2 harg2 arg3 harg3 arg4 harg4 arg5 harg5 arg6 harg6 arg7 harg7 arg8 harg8 hc0 hc1 x0 x1 x2 x3 x4 xs0 = codeBlk x0 x1 := by
  have hw : k2_pay2 (kernelRun2_C.sl.r c arg1 harg1 arg2 harg2 x0 x1) (kernelRun2_C.sl.r_1 c arg1 harg1 arg2 harg2 x0 x1) (kernelRun2_C.sl.r_2 c arg1 harg1 arg2 harg2 x0 x1) (kernelRun2_C.sl.r_3 c arg1 harg1 arg2 harg2 x0 x1) 4294967169#32 = codeBlk x0 x1 := by
    unfold k2_pay2
    exact congrArg (fptosi (F := Ideal) (φ := .f32) 8) (c_ld x0 x1 harg1 harg2)
  have hl : (kernelRun2_C c i arg1 harg1 arg2 harg2 arg3 harg3 arg4 harg4 arg5 harg5 arg6 harg6 arg7 harg7 arg8 harg8 hc0 hc1 x0 x1 x2 x3 x4 xs0).2.1 = [(⟨Rect.unit (s := S768x512) ![0, 0] S768x512.size inb_S768x512_S768x512_0_0, k2_pay2 (kernelRun2_C.sl.r c arg1 harg1 arg2 harg2 x0 x1) (kernelRun2_C.sl.r_1 c arg1 harg1 arg2 harg2 x0 x1) (kernelRun2_C.sl.r_2 c arg1 harg1 arg2 harg2 x0 x1) (kernelRun2_C.sl.r_3 c arg1 harg1 arg2 harg2 x0 x1) 4294967169#32⟩ : View.Piece (Elt Ideal) S768x512 .i8)] := rfl
  unfold out2_C_6
  rw [hl, hw]
  exact View.read_writes_full (Val := Elt Ideal) VO2_6 VO2_6.junk inb_S768x512_S768x512_0_0 (codeBlk x0 x1) []

/-- The accumulator this kind of point leaves. -/
theorem acc_C (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : cond2_1 i)
    (x0 : Vec Ideal S768x512 .f32) (x1 : Vec Ideal S768x128 .f32) (x2 : Vec Ideal S512x3584 .i8) (x3 : Vec Ideal S1x3584 .f32) (x4 : Vec Ideal S768x3584 .f32) (xs0 : Vec Ideal S768x3584 .f32) (r : Fin 768) (d : Fin 3584) :
    k2_pay3 (kernelRun2_C.sl.r c arg1 harg1 arg2 harg2 x0 x1) (kernelRun2_C.sl.r_1 c arg1 harg1 arg2 harg2 x0 x1) (kernelRun2_C.sl.r_2 c arg1 harg1 arg2 harg2 x0 x1) (kernelRun2_C.sl.r_3 c arg1 harg1 arg2 harg2 x0 x1) 4294967169#32 (View.readAt (Elt Ideal) arg8.view (Rect.unit (s := S768x3584) ![0, 0] S768x3584.size inb_S768x3584_S768x3584_0_0).toLoadRect (harg8.unread xs0)) (View.readAt (Elt Ideal) arg3.view (Rect.unit (s := S512x3584) ![0, 0] S512x3584.size inb_S512x3584_S512x3584_0_0).toLoadRect (harg3.unread x2)) (ix2 r d) = stepAcc x0 x1 x2 (xs0 (ix2 r d)) r d := by
  refine (pay3_apply _ _ _ _ _ x0 x1 (c_ld x0 x1 harg1 harg2) _ _ r d).trans ?_
  rw [w_ld x2 harg3]
  exact congrArg (fun q => stepAcc x0 x1 x2 q r d) (congrFun (a_ld xs0 harg8) (ix2 r d))

/-- The accumulator at the last point. -/
theorem sout_C (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : cond2_1 i)
    (x0 : Vec Ideal S768x512 .f32) (x1 : Vec Ideal S768x128 .f32) (x2 : Vec Ideal S512x3584 .i8) (x3 : Vec Ideal S1x3584 .f32) (x4 : Vec Ideal S768x3584 .f32) (xs0 : Vec Ideal S768x3584 .f32) (r : Fin 768) (d : Fin 3584) :
    sout2_C_0 c i arg1 harg1 arg2 harg2 arg3 harg3 arg4 harg4 arg5 harg5 arg6 harg6 arg7 harg7 arg8 harg8 hc0 hc1 x0 x1 x2 x3 x4 xs0 (ix2 r d) = stepAcc x0 x1 x2 (xs0 (ix2 r d)) r d := by
  have hw := acc_C c i arg1 harg1 arg2 harg2 arg3 harg3 arg4 harg4 arg5 harg5 arg6 harg6 arg7 harg7 arg8 harg8 hc0 hc1 x0 x1 x2 x3 x4 xs0 r d
  generalize hp : k2_pay3 (kernelRun2_C.sl.r c arg1 harg1 arg2 harg2 x0 x1) (kernelRun2_C.sl.r_1 c arg1 harg1 arg2 harg2 x0 x1) (kernelRun2_C.sl.r_2 c arg1 harg1 arg2 harg2 x0 x1) (kernelRun2_C.sl.r_3 c arg1 harg1 arg2 harg2 x0 x1) 4294967169#32 (View.readAt (Elt Ideal) arg8.view (Rect.unit (s := S768x3584) ![0, 0] S768x3584.size inb_S768x3584_S768x3584_0_0).toLoadRect (harg8.unread xs0)) (View.readAt (Elt Ideal) arg3.view (Rect.unit (s := S512x3584) ![0, 0] S512x3584.size inb_S512x3584_S512x3584_0_0).toLoadRect (harg3.unread x2)) = w at hw
  have hl : (kernelRun2_C c i arg1 harg1 arg2 harg2 arg3 harg3 arg4 harg4 arg5 harg5 arg6 harg6 arg7 harg7 arg8 harg8 hc0 hc1 x0 x1 x2 x3 x4 xs0).2.2.1 = [(⟨Rect.unit (s := S768x3584) ![0, 0] S768x3584.size inb_S768x3584_S768x3584_0_0, w⟩ : View.Piece (Elt Ideal) S768x3584 .f32)] := by rw [← hp]; rfl
  unfold sout2_C_0
  rw [hl, ← hw]
  exact congrFun (View.read_writes_full (Val := Elt Ideal) VS2_0 VS2_0.junk inb_S768x3584_S768x3584_0_0 w []) (ix2 r d)

/-- The output the last point leaves. -/
theorem out_C_5 (c : Dev nD) (i : grid2.Coords) (arg1 : Memref sig .tc .vmem S768x512 .f32) (harg1 : arg1.IsWhole) (arg2 : Memref sig .tc .vmem S768x128 .f32) (harg2 : arg2.IsWhole) (arg3 : Memref sig .tc .vmem S512x3584 .i8) (harg3 : arg3.IsWhole) (arg4 : Memref sig .tc .vmem S1x3584 .f32) (harg4 : arg4.IsWhole) (arg5 : Memref sig .tc .vmem S768x3584 .f32) (harg5 : arg5.IsWhole) (arg6 : Memref sig .tc .vmem S768x3584 .bf16) (harg6 : arg6.IsWhole) (arg7 : Memref sig .tc .vmem S768x512 .i8) (harg7 : arg7.IsWhole) (arg8 : Memref sig .tc .vmem S768x3584 .f32) (harg8 : arg8.IsWhole) (hc0 : ¬cond2_0 i) (hc1 : cond2_1 i)
    (x0 : Vec Ideal S768x512 .f32) (x1 : Vec Ideal S768x128 .f32) (x2 : Vec Ideal S512x3584 .i8) (x3 : Vec Ideal S1x3584 .f32) (x4 : Vec Ideal S768x3584 .f32) (xs0 : Vec Ideal S768x3584 .f32) :
    out2_C_5 c i arg1 harg1 arg2 harg2 arg3 harg3 arg4 harg4 arg5 harg5 arg6 harg6 arg7 harg7 arg8 harg8 hc0 hc1 x0 x1 x2 x3 x4 xs0 = yBlk x0 x1 x2 x3 x4 xs0 := by
  funext y
  have hw : k2_pay3 (kernelRun2_C.sl.r c arg1 harg1 arg2 harg2 x0 x1) (kernelRun2_C.sl.r_1 c arg1 harg1 arg2 harg2 x0 x1) (kernelRun2_C.sl.r_2 c arg1 harg1 arg2 harg2 x0 x1) (kernelRun2_C.sl.r_3 c arg1 harg1 arg2 harg2 x0 x1) 4294967169#32 (View.readAt (Elt Ideal) arg8.view (Rect.unit (s := S768x3584) ![0, 0] S768x3584.size inb_S768x3584_S768x3584_0_0).toLoadRect (harg8.unread xs0)) (View.readAt (Elt Ideal) arg3.view (Rect.unit (s := S512x3584) ![0, 0] S512x3584.size inb_S512x3584_S512x3584_0_0).toLoadRect (harg3.unread x2)) = newAcc x0 x1 x2 xs0 := by
    funext z
    rw [eq_ix2 (n0 := 768) (n1 := 3584) z]
    exact acc_C c i arg1 harg1 arg2 harg2 arg3 harg3 arg4 harg4 arg5 harg5 arg6 harg6 arg7 harg7 arg8 harg8 hc0 hc1 x0 x1 x2 x3 x4 xs0 (z 0) (z 1)
  unfold out2_C_5
  refine View.read_writes_apply_of_pieces _ _ (yBlk x0 x1 x2 x3 x4 xs0) _ ?_ y (cover2_C_5 c i arg1 harg1 arg2 harg2 arg3 harg3 arg4 harg4 arg5 harg5 arg6 harg6 arg7 harg7 arg8 harg8 hc0 hc1 x0 x1 x2 x3 x4 xs0 y)
  refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun p hp => absurd hp List.not_mem_nil⟩⟩⟩⟩⟩⟩⟩⟩⟩⟩⟩⟩⟩⟩⟩⟩⟩⟩⟩⟩⟩⟩⟩⟩⟩⟩⟩⟩
  · exact y_piece x0 x1 x2 x3 x4 xs0 harg2 harg4 harg5 _ hw 3456 27 rfl inb_S768x3584_S768x128_0_3456 inb_S1x3584_S1x128_0_3456 x
  · exact y_piece x0 x1 x2 x3 x4 xs0 harg2 harg4 harg5 _ hw 3328 26 rfl inb_S768x3584_S768x128_0_3328 inb_S1x3584_S1x128_0_3328 x
  · exact y_piece x0 x1 x2 x3 x4 xs0 harg2 harg4 harg5 _ hw 3200 25 rfl inb_S768x3584_S768x128_0_3200 inb_S1x3584_S1x128_0_3200 x
  · exact y_piece x0 x1 x2 x3 x4 xs0 harg2 harg4 harg5 _ hw 3072 24 rfl inb_S768x3584_S768x128_0_3072 inb_S1x3584_S1x128_0_3072 x
  · exact y_piece x0 x1 x2 x3 x4 xs0 harg2 harg4 harg5 _ hw 2944 23 rfl inb_S768x3584_S768x128_0_2944 inb_S1x3584_S1x128_0_2944 x
  · exact y_piece x0 x1 x2 x3 x4 xs0 harg2 harg4 harg5 _ hw 2816 22 rfl inb_S768x3584_S768x128_0_2816 inb_S1x3584_S1x128_0_2816 x
  · exact y_piece x0 x1 x2 x3 x4 xs0 harg2 harg4 harg5 _ hw 2688 21 rfl inb_S768x3584_S768x128_0_2688 inb_S1x3584_S1x128_0_2688 x
  · exact y_piece x0 x1 x2 x3 x4 xs0 harg2 harg4 harg5 _ hw 2560 20 rfl inb_S768x3584_S768x128_0_2560 inb_S1x3584_S1x128_0_2560 x
  · exact y_piece x0 x1 x2 x3 x4 xs0 harg2 harg4 harg5 _ hw 2432 19 rfl inb_S768x3584_S768x128_0_2432 inb_S1x3584_S1x128_0_2432 x
  · exact y_piece x0 x1 x2 x3 x4 xs0 harg2 harg4 harg5 _ hw 2304 18 rfl inb_S768x3584_S768x128_0_2304 inb_S1x3584_S1x128_0_2304 x
  · exact y_piece x0 x1 x2 x3 x4 xs0 harg2 harg4 harg5 _ hw 2176 17 rfl inb_S768x3584_S768x128_0_2176 inb_S1x3584_S1x128_0_2176 x
  · exact y_piece x0 x1 x2 x3 x4 xs0 harg2 harg4 harg5 _ hw 2048 16 rfl inb_S768x3584_S768x128_0_2048 inb_S1x3584_S1x128_0_2048 x
  · exact y_piece x0 x1 x2 x3 x4 xs0 harg2 harg4 harg5 _ hw 1920 15 rfl inb_S768x3584_S768x128_0_1920 inb_S1x3584_S1x128_0_1920 x
  · exact y_piece x0 x1 x2 x3 x4 xs0 harg2 harg4 harg5 _ hw 1792 14 rfl inb_S768x3584_S768x128_0_1792 inb_S1x3584_S1x128_0_1792 x
  · exact y_piece x0 x1 x2 x3 x4 xs0 harg2 harg4 harg5 _ hw 1664 13 rfl inb_S768x3584_S768x128_0_1664 inb_S1x3584_S1x128_0_1664 x
  · exact y_piece x0 x1 x2 x3 x4 xs0 harg2 harg4 harg5 _ hw 1536 12 rfl inb_S768x3584_S768x128_0_1536 inb_S1x3584_S1x128_0_1536 x
  · exact y_piece x0 x1 x2 x3 x4 xs0 harg2 harg4 harg5 _ hw 1408 11 rfl inb_S768x3584_S768x128_0_1408 inb_S1x3584_S1x128_0_1408 x
  · exact y_piece x0 x1 x2 x3 x4 xs0 harg2 harg4 harg5 _ hw 1280 10 rfl inb_S768x3584_S768x128_0_1280 inb_S1x3584_S1x128_0_1280 x
  · exact y_piece x0 x1 x2 x3 x4 xs0 harg2 harg4 harg5 _ hw 1152 9 rfl inb_S768x3584_S768x128_0_1152 inb_S1x3584_S1x128_0_1152 x
  · exact y_piece x0 x1 x2 x3 x4 xs0 harg2 harg4 harg5 _ hw 1024 8 rfl inb_S768x3584_S768x128_0_1024 inb_S1x3584_S1x128_0_1024 x
  · exact y_piece x0 x1 x2 x3 x4 xs0 harg2 harg4 harg5 _ hw 896 7 rfl inb_S768x3584_S768x128_0_896 inb_S1x3584_S1x128_0_896 x
  · exact y_piece x0 x1 x2 x3 x4 xs0 harg2 harg4 harg5 _ hw 768 6 rfl inb_S768x3584_S768x128_0_768 inb_S1x3584_S1x128_0_768 x
  · exact y_piece x0 x1 x2 x3 x4 xs0 harg2 harg4 harg5 _ hw 640 5 rfl inb_S768x3584_S768x128_0_640 inb_S1x3584_S1x128_0_640 x
  · exact y_piece x0 x1 x2 x3 x4 xs0 harg2 harg4 harg5 _ hw 512 4 rfl inb_S768x3584_S768x128_0_512 inb_S1x3584_S1x128_0_512 x
  · exact y_piece x0 x1 x2 x3 x4 xs0 harg2 harg4 harg5 _ hw 384 3 rfl inb_S768x3584_S768x128_0_384 inb_S1x3584_S1x128_0_384 x
  · exact y_piece x0 x1 x2 x3 x4 xs0 harg2 harg4 harg5 _ hw 256 2 rfl inb_S768x3584_S768x128_0_256 inb_S1x3584_S1x128_0_256 x
  · exact y_piece x0 x1 x2 x3 x4 xs0 harg2 harg4 harg5 _ hw 128 1 rfl inb_S768x3584_S768x128_0_128 inb_S1x3584_S1x128_0_128 x
  · exact y_piece x0 x1 x2 x3 x4 xs0 harg2 harg4 harg5 _ hw 0 0 rfl inb_S768x3584_S768x128_0_0 inb_S1x3584_S1x128_0_0 x

end Cert.KernelIdeal.K2

end
-- ==== Proof.Value.K2Val.lean ====
module

public import proofs.«01_k».proof.Proof.Value.K2Out
public import proofs.«01_k».proof.Proof.Value.RefRead

@[expose] public section

/-! # The third call's results: the codes of the hidden layer and the output -/

set_option maxRecDepth 16384

noncomputable section

namespace Cert.KernelIdeal.K2

open Idealize.ShloMosaic Idealize.ShloMosaic.TcCoe Idealize.ShloMosaic.ValueIdx
open Cert.KernelIdeal.Gen Cert.Value
open Idealize.ShloMosaic.Pipeline (Dat RDat Cfg Window)

section
variable {A B C : Type} {q : A × B × C} {a : A} {b : B} {c : C} (h : q = (a, b, c))
include h
/-- The first component of a tuple. -/
theorem part0 : q.1 = a := by rw [h]
/-- The second component of a tuple. -/
theorem part1 : q.2.1 = b := by rw [h]
/-- The third component of a tuple. -/
theorem part2 : q.2.2 = c := by rw [h]
end

/-- A sum over `a` blocks of `b` is the sum over all. -/
theorem sum_blocks (b : ℕ) (f : ℕ → EReal) (a : ℕ) : ∑ j ∈ Finset.range (b * a), f j = ∑ i ∈ Finset.range a, ∑ k ∈ Finset.range b, f (b * i + k) := by
  induction a with
  | zero => simp
  | succ a ih => rw [Nat.mul_succ, Finset.sum_range_add, ih, Finset.sum_range_succ]

variable (V : Dev nD → Valuation τ sig (Elt Ideal)) (c : Dev nD)

/-- The hidden layer the third call finds. -/
def hid (r : Fin 768) (j : Fin 18944) : Ideal .f32 := (V c main_v3_0 : FVec Ideal S768x18944 .f32) (ix2 r j)

/-- The scale of a row the third call finds. -/
def hsc (r : Fin 768) : Ideal .f32 := (V c main_v3_1 : FVec Ideal S768x128 .f32) (ix2 r (0 : Fin 128))

/-- One term of the product. -/
def term (r : Fin 768) (d : Fin 3584) (j : Fin 18944) : EReal :=
  (clipOf (hid V c r j) (hsc V c r) : EReal) * ((((V c main_arg4 : IVec S18944x3584 8) (ix2 j d)).toInt : ℝ) : EReal)

/-- The terms of the product by number, zero past the last. -/
def termN (r : Fin 768) (d : Fin 3584) (n : ℕ) : EReal := if h : n < 18944 then term V c r d ⟨n, h⟩ else 0

/-- The point of the grid that handles block `t`. -/
def pt (t : Fin 37) : Fin cfg2.N := ⟨t.val, lt_of_lt_of_eq t.isLt N_2.symm⟩

/-- Column `k` of block `t`, among all the columns. -/
def bcol (t : Fin 37) (k : Fin 512) : Fin 18944 := ⟨512 * t.val + k.val, by omega⟩

/-- Which block each window holds at a point, and which windows are written back there. -/
theorem idx_facts : ∀ t : Fin cfg2.N, win2_0.index t (0 : Fin 2) = 0 ∧ win2_0.index t (1 : Fin 2) = t.val
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = t.val
    ∧ (cfg2.win 6).flush t = true ∧ ((cfg2.win 5).flush t = true ↔ t.val = 36) :=
  (by decide +kernel : ∀ t : Fin grid2.N, _)

/-- The block of this window at a point, read in the whole array. -/
theorem iblk0_apply (t : Fin 37) (r : Fin 768) (k : Fin 512) :
    (iblk V c 0 (pt t) : FVec Ideal S768x512 .f32) (ix2 r k) = (V c main_v3_0 : FVec Ideal S768x18944 .f32) (ix2 r (bcol t k)) := by
  obtain ⟨e0, e1, -⟩ := idx_facts (pt t)
  show V c main_v3_0 (((cfg2.win 0).blk (pt t)).view.emb (ix2 r k)) = _
  congr 1
  funext a; apply Fin.ext
  match a with
  | ⟨0, _⟩ => show win2_0.index (pt t) (0 : Fin 2) * 768 + 1 * r.val = r.val; rw [e0]; omega
  | ⟨1, _⟩ => show win2_0.index (pt t) (1 : Fin 2) * 512 + 1 * k.val = 512 * t.val + k.val; rw [e1]; show t.val * 512 + _ = _; omega

/-- The block of this window at a point, read in the whole array. -/
theorem iblk1_apply (t : Fin 37) (r : Fin 768) (d : Fin 128) :
    (iblk V c 1 (pt t) : FVec Ideal S768x128 .f32) (ix2 r d) = (V c main_v3_1 : FVec Ideal S768x128 .f32) (ix2 r d) := by
  obtain ⟨-, -, e0, e1, -⟩ := idx_facts (pt t)
  show V c main_v3_1 (((cfg2.win 1).blk (pt t)).view.emb (ix2 r d)) = _
  congr 1
  funext a; apply Fin.ext
  match a with
  | ⟨0, _⟩ => show win2_1.index (pt t) (0 : Fin 2) * 768 + 1 * r.val = r.val; rw [e0]; omega
  | ⟨1, _⟩ => show win2_1.index (pt t) (1 : Fin 2) * 128 + 1 * d.val = d.val; rw [e1]; omega

/-- The block of this window at a point, read in the whole array. -/
theorem iblk2_apply (t : Fin 37) (k : Fin 512) (d : Fin 3584) :
    (iblk V c 2 (pt t) : IVec S512x3584 8) (ix2 k d) = (V c main_arg4 : IVec S18944x3584 8) (ix2 (bcol t k) d) := by
  obtain ⟨-, -, -, -, e0, e1, -⟩ := idx_facts (pt t)
  show V c main_arg4 (((cfg2.win 2).blk (pt t)).view.emb (ix2 k d)) = _
  congr 1
  funext a; apply Fin.ext
  match a with
  | ⟨0, _⟩ => show win2_2.index (pt t) (0 : Fin 2) * 512 + 1 * k.val = 512 * t.val + k.val; rw [e0]; show t.val * 512 + _ = _; omega
  | ⟨1, _⟩ => show win2_2.index (pt t) (1 : Fin 2) * 3584 + 1 * d.val = d.val; rw [e1]; omega

/-- The block of this window at a point, read in the whole array. -/
theorem iblk3_apply (t : Fin 37) (d : Fin 3584) :
    (iblk V c 3 (pt t) : FVec Ideal S1x3584 .f32) (ix2 (0 : Fin 1) d) = (V c main_v4 : FVec Ideal S1x3584 .f32) (ix2 (0 : Fin 1) d) := by
  obtain ⟨-, -, -, -, -, -, e0, e1, -⟩ := idx_facts (pt t)
  show V c main_v4 (((cfg2.win 3).blk (pt t)).view.emb (ix2 (0 : Fin 1) d)) = _
  congr 1
  funext a; apply Fin.ext
  match a with
  | ⟨0, _⟩ => show win2_3.index (pt t) (0 : Fin 2) * 1 + 1 * 0 = 0; rw [e0]
  | ⟨1, _⟩ => show win2_3.index (pt t) (1 : Fin 2) * 3584 + 1 * d.val = d.val; rw [e1]; omega

/-- The block of this window at a point, read in the whole array. -/
theorem iblk4_apply (t : Fin 37) (r : Fin 768) (d : Fin 3584) :
    (iblk V c 4 (pt t) : FVec Ideal S768x3584 .f32) (ix2 r d) = (V c main_arg0 : FVec Ideal S768x3584 .f32) (ix2 r d) := by
  obtain ⟨-, -, -, -, -, -, -, -, e0, e1, -⟩ := idx_facts (pt t)
  show V c main_arg0 (((cfg2.win 4).blk (pt t)).view.emb (ix2 r d)) = _
  congr 1
  funext a; apply Fin.ext
  match a with
  | ⟨0, _⟩ => show win2_4.index (pt t) (0 : Fin 2) * 768 + 1 * r.val = r.val; rw [e0]; omega
  | ⟨1, _⟩ => show win2_4.index (pt t) (1 : Fin 2) * 3584 + 1 * d.val = d.val; rw [e1]; omega

/-- What a point leaves of the codes. -/
theorem at_codes (t : Fin cfg2.N) : (outsAt2 V c t.val t.isLt).2.1 = codeBlk (iblk V c 0 t) (iblk V c 1 t) := by
  by_cases h0 : t.val % 37 = 0
  · have h1 : ¬ t.val % 37 = 36 := by omega
    exact (part1 (outsAt2_A V c t h0 h1)).trans (out_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk V c 0 t) (iblk V c 1 t) (iblk V c 2 t) (iblk V c 3 t) (iblk V c 4 t))
  · by_cases h1 : t.val % 37 = 36
    · exact (part1 (outsAt2_C V c t h0 h1)).trans (out_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk V c 0 t) (iblk V c 1 t) (iblk V c 2 t) (iblk V c 3 t) (iblk V c 4 t) (outsAt2 V c (t.val - 1) (Nat.lt_of_le_of_lt (Nat.sub_le _ _) t.isLt)).2.2)
    · exact (part1 (outsAt2_B V c t h0 h1)).trans (out_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk V c 0 t) (iblk V c 1 t) (iblk V c 2 t) (iblk V c 3 t) (iblk V c 4 t) (outsAt2 V c (t.val - 1) (Nat.lt_of_le_of_lt (Nat.sub_le _ _) t.isLt)).2.2)

/-- The accumulator after the first point. -/
theorem at_first (t : Fin cfg2.N) (h0 : t.val % 37 = 0) (r : Fin 768) (d : Fin 3584) : (outsAt2 V c t.val t.isLt).2.2 (ix2 r d)
    = stepAcc (iblk V c 0 t) (iblk V c 1 t) (iblk V c 2 t) (FloatOps.ofBits .f32 0x00000000#32) r d := by
  have h1 : ¬ t.val % 37 = 36 := by omega
  exact (congrFun (part2 (outsAt2_A V c t h0 h1)) (ix2 r d)).trans (sout_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk V c 0 t) (iblk V c 1 t) (iblk V c 2 t) (iblk V c 3 t) (iblk V c 4 t) r d)

/-- The accumulator after a later point. -/
theorem at_next (t : Fin cfg2.N) (h0 : ¬ t.val % 37 = 0) (r : Fin 768) (d : Fin 3584) : (outsAt2 V c t.val t.isLt).2.2 (ix2 r d)
    = stepAcc (iblk V c 0 t) (iblk V c 1 t) (iblk V c 2 t) ((outsAt2 V c (t.val - 1) (Nat.lt_of_le_of_lt (Nat.sub_le _ _) t.isLt)).2.2 (ix2 r d)) r d := by
  by_cases h1 : t.val % 37 = 36
  · exact (congrFun (part2 (outsAt2_C V c t h0 h1)) (ix2 r d)).trans (sout_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk V c 0 t) (iblk V c 1 t) (iblk V c 2 t) (iblk V c 3 t) (iblk V c 4 t) (outsAt2 V c (t.val - 1) (Nat.lt_of_le_of_lt (Nat.sub_le _ _) t.isLt)).2.2 r d)
  · exact (congrFun (part2 (outsAt2_B V c t h0 h1)) (ix2 r d)).trans (sout_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk V c 0 t) (iblk V c 1 t) (iblk V c 2 t) (iblk V c 3 t) (iblk V c 4 t) (outsAt2 V c (t.val - 1) (Nat.lt_of_le_of_lt (Nat.sub_le _ _) t.isLt)).2.2 r d)

/-- The output after the last point. -/
theorem at_last (t : Fin cfg2.N) (h0 : ¬ t.val % 37 = 0) (h1 : t.val % 37 = 36) :
    (outsAt2 V c t.val t.isLt).1 = yBlk (iblk V c 0 t) (iblk V c 1 t) (iblk V c 2 t) (iblk V c 3 t) (iblk V c 4 t) (outsAt2 V c (t.val - 1) (Nat.lt_of_le_of_lt (Nat.sub_le _ _) t.isLt)).2.2 :=
  (part0 (outsAt2_C V c t h0 h1)).trans (out_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk V c 0 t) (iblk V c 1 t) (iblk V c 2 t) (iblk V c 3 t) (iblk V c 4 t) (outsAt2 V c (t.val - 1) (Nat.lt_of_le_of_lt (Nat.sub_le _ _) t.isLt)).2.2)

/-- What a point leaves depends on its number alone. -/
theorem outs_congr {n n' : ℕ} (e : n = n') (h : n < cfg2.N) (h' : n' < cfg2.N) : outsAt2 V c n h = outsAt2 V c n' h' := by
  subst e; rfl

/-- The replicated scales are the same in every lane. -/
def Rep : Prop := ∀ (r : Fin 768) (l : Fin 128),
  (V c main_v3_1 : FVec Ideal S768x128 .f32) (ix2 r l) = (V c main_v3_1 : FVec Ideal S768x128 .f32) (ix2 r (0 : Fin 128))

variable (hrep : Rep V c)
include hrep

/-- The block of this window at a point, read in the whole array. -/
theorem iblk1_eq (t : Fin 37) (r : Fin 768) (l : Fin 128) : (iblk V c 1 (pt t) : FVec Ideal S768x128 .f32) (ix2 r l) = hsc V c r :=
  (iblk1_apply V c t r l).trans (hrep r l)

/-- A step of the accumulator adds the block's terms. -/
theorem step_sum (t : Fin 37) (prev : Ideal .f32) (r : Fin 768) (d : Fin 3584) :
    (stepAcc (iblk V c 0 (pt t)) (iblk V c 1 (pt t)) (iblk V c 2 (pt t)) prev r d : EReal)
      = (prev : EReal) + ∑ k ∈ Finset.range 512, termN V c r d (512 * t.val + k) := by
  unfold stepAcc
  refine congrArg (fun q : EReal => (prev : EReal) + q) ?_
  rw [← Fin.sum_univ_eq_sum_range (fun k => termN V c r d (512 * t.val + k)) 512]
  refine Finset.sum_congr rfl fun k _ => ?_
  have hk : 512 * t.val + k.val < 18944 := by omega
  unfold termN
  rw [dif_pos hk]
  unfold cBlk term
  have e0 : (iblk V c 0 (pt t) : FVec Ideal S768x512 .f32) (ix2 r k) = hid V c r (bcol t k) := iblk0_apply V c t r k
  have e2 : (iblk V c 2 (pt t) : IVec S512x3584 8) (ix2 k d) = (V c main_arg4 : IVec S18944x3584 8) (ix2 (bcol t k) d) := iblk2_apply V c t k d
  have e1 : (iblk V c 1 (pt t) : FVec Ideal S768x128 .f32) (ix2 ((ix2 r k : S768x512.Idx) 0) (lane ((ix2 r k : S768x512.Idx) 1).val)) = hsc V c r :=
    iblk1_eq V c hrep t r _
  rw [e0, e1, e2]
  rfl

/-- The accumulator after point `n`: the terms of the blocks up to it. -/
theorem acc_eq (r : Fin 768) (d : Fin 3584) : ∀ (n : ℕ) (hn : n < 37),
    (((outsAt2 V c (pt ⟨n, hn⟩).val (pt ⟨n, hn⟩).isLt).2.2 (ix2 r d) : Ideal .f32) : EReal)
      = ∑ i ∈ Finset.range (n + 1), ∑ k ∈ Finset.range 512, termN V c r d (512 * i + k) := by
  intro n
  induction n with
  | zero =>
    intro hn
    refine (at_first V c (pt ⟨0, hn⟩) (by rfl) r d).trans ?_
    refine (step_sum V c hrep ⟨0, hn⟩ _ r d).trans ?_
    rw [zero_f32, zero_add, Finset.sum_range_one]
  | succ n ih =>
    intro hn
    have h0 : ¬ (pt ⟨n + 1, hn⟩).val % 37 = 0 := by show ¬ (n + 1) % 37 = 0; omega
    refine (at_next V c (pt ⟨n + 1, hn⟩) h0 r d).trans ?_
    refine (step_sum V c hrep ⟨n + 1, hn⟩ _ r d).trans ?_
    rw [Finset.sum_range_succ _ (n + 1), ← ih (by omega)]
    rfl

/-- A step after point `n` leaves the terms of the blocks up to the next. -/
theorem acc_succ (r : Fin 768) (d : Fin 3584) (n : ℕ) (hn : n + 1 < 37) (h : n < 37) :
    (newAcc (iblk V c 0 (pt ⟨n + 1, hn⟩)) (iblk V c 1 (pt ⟨n + 1, hn⟩)) (iblk V c 2 (pt ⟨n + 1, hn⟩))
        (outsAt2 V c (pt ⟨n, h⟩).val (pt ⟨n, h⟩).isLt).2.2 (ix2 r d) : EReal)
      = ∑ i ∈ Finset.range (n + 1 + 1), ∑ k ∈ Finset.range 512, termN V c r d (512 * i + k) := by
  refine (step_sum V c hrep ⟨n + 1, hn⟩ _ r d).trans ?_
  rw [Finset.sum_range_succ _ (n + 1), ← acc_eq V c hrep r d n h]

omit hrep in
/-- The terms of all the blocks are all the terms. -/
theorem all_terms (r : Fin 768) (d : Fin 3584) (n : ℕ) (hn : 512 * n = 18944) :
    ∑ i ∈ Finset.range n, ∑ k ∈ Finset.range 512, termN V c r d (512 * i + k) = ∑ j : Fin 18944, term V c r d j := by
  rw [← sum_blocks 512 (termN V c r d) n, hn, ← Fin.sum_univ_eq_sum_range (termN V c r d) 18944]
  refine Finset.sum_congr rfl fun j _ => ?_
  unfold termN
  rw [dif_pos j.isLt]

omit hrep in
/-- The last point, written as one after the point before it. -/
theorem acc_last (hrep : Rep V c) (r : Fin 768) (d : Fin 3584) :
    (newAcc (iblk V c 0 (pt ⟨35 + 1, by omega⟩)) (iblk V c 1 (pt ⟨35 + 1, by omega⟩)) (iblk V c 2 (pt ⟨35 + 1, by omega⟩))
        (outsAt2 V c (pt ⟨35, by omega⟩).val (pt ⟨35, by omega⟩).isLt).2.2 (ix2 r d) : EReal)
      = ∑ j : Fin 18944, term V c r d j :=
  (acc_succ V c hrep r d 35 (by omega) (by omega)).trans (all_terms V c r d (35 + 1 + 1) (by omega))

/-- The blocks this window writes back do not overlap. -/
theorem disjoint6 : ∀ t t' : Fin cfg2.N, (cfg2.win 6).flush t = true → (cfg2.win 6).flush t' = true → t ≠ t' →
    Disjoint ((cfg2.win 6).blk t).view.set ((cfg2.win 6).blk t').view.set :=
  fun t t' _ _ hne => (cfg2.win 6).disjoint_blk fun h => hne
    ((by decide +kernel : ∀ t t' : Fin grid2.N, win2_6.index t = win2_6.index t' → t = t') t t' h)

omit hrep in
/-- A window written back at the last point alone has no overlapping blocks. -/
theorem last_only (w : Fin cfg2.W) (hf : ∀ t : Fin cfg2.N, (cfg2.win w).flush t = true ↔ t.val = 36) :
    ∀ t t' : Fin cfg2.N, (cfg2.win w).flush t = true → (cfg2.win w).flush t' = true → t ≠ t' →
    Disjoint ((cfg2.win w).blk t).view.set ((cfg2.win w).blk t').view.set :=
  fun t t' h h' hne => absurd (Fin.ext (((hf t).mp h).trans ((hf t').mp h').symm)) hne

/-- The codes the third call leaves. -/
theorem final_codes (r : Fin 768) (j : Fin 18944) :
    ((dat V c).arrAt 6 cfg2.N : IVec S768x18944 8) (ix2 r j) = codeOf (hid V c r j) (hsc V c r) := by
  have hj := j.isLt
  obtain ⟨t, k, rfl⟩ : ∃ (t : Fin 37) (k : Fin 512), j = bcol t k :=
    ⟨⟨j.val / 512, by omega⟩, ⟨j.val % 512, Nat.mod_lt _ (by omega)⟩, Fin.ext (by show j.val = 512 * (j.val / 512) + j.val % 512; omega)⟩
  obtain ⟨-, -, -, -, -, -, -, -, -, -, -, -, e0, e1, hf, -⟩ := idx_facts (pt t)
  have hi : (ix2 r (bcol t k) : S768x18944.Idx) = ((cfg2.win 6).blk (pt t)).view.emb (ix2 r k) := by
    funext a; apply Fin.ext
    match a with
    | ⟨0, _⟩ => show r.val = win2_6.index (pt t) (0 : Fin 2) * 768 + 1 * r.val; rw [e0]; omega
    | ⟨1, _⟩ =>
      show 512 * t.val + k.val = win2_6.index (pt t) (1 : Fin 2) * 512 + 1 * k.val
      rw [e1]; show _ = t.val * 512 + _; omega
  rw [hi]
  refine ((dat V c).arrAt_emb_eq_flushed 6 (disjoint6 V c hrep) (pt t) hf (ix2 r k)).trans ?_
  show (dat V c).after 6 (pt t) (ix2 r k) = _
  rw [after2_6, at_codes]
  have ec0 : (iblk V c 0 (pt t) : FVec Ideal S768x512 .f32) (ix2 r k) = hid V c r (bcol t k) := iblk0_apply V c t r k
  have ec1 : (iblk V c 1 (pt t) : FVec Ideal S768x128 .f32) (ix2 r (lane k.val)) = hsc V c r := iblk1_eq V c hrep t r _
  exact congrArg₂ codeOf ec0 ec1

omit hrep in
/-- An entry of the output, from the entries it reads. -/
theorem yBlk_entry (x0 : FVec Ideal S768x512 .f32) (x1 : FVec Ideal S768x128 .f32) (x2 : IVec S512x3584 8) (x3 : FVec Ideal S1x3584 .f32)
    (x4 : FVec Ideal S768x3584 .f32) (xs0 : FVec Ideal S768x3584 .f32) (r : Fin 768) (d : Fin 3584) (acc s w x : EReal)
    (ha : (newAcc x0 x1 x2 xs0 (ix2 r d) : EReal) = acc) (hs : (x1 (ix2 r (lane d.val)) : EReal) = s) (hw : (x3 (ix2 (0 : Fin 1) d) : EReal) = w)
    (hx : (x4 (ix2 r d) : EReal) = x) :
    (yBlk x0 x1 x2 x3 x4 xs0 (ix2 r d) : EReal) = FloatOps.addf (F := Ideal) (φ := .f32) x (scaledAt acc s w) := by
  subst ha; subst hs; subst hw; subst hx
  rfl

omit hrep in
/-- What the last point leaves, from the point before it. -/
theorem at_end (h36 : 35 + 1 < 37) (h35 : 35 < 37) : (outsAt2 V c (pt ⟨35 + 1, h36⟩).val (pt ⟨35 + 1, h36⟩).isLt).1
    = yBlk (iblk V c 0 (pt ⟨35 + 1, h36⟩)) (iblk V c 1 (pt ⟨35 + 1, h36⟩)) (iblk V c 2 (pt ⟨35 + 1, h36⟩)) (iblk V c 3 (pt ⟨35 + 1, h36⟩))
        (iblk V c 4 (pt ⟨35 + 1, h36⟩)) (outsAt2 V c (pt ⟨35, h35⟩).val (pt ⟨35, h35⟩).isLt).2.2 := by
  have h := at_last V c (pt ⟨35 + 1, h36⟩) (by show ¬ (35 + 1) % 37 = 0; omega) (by rfl)
  have e := outs_congr V c (show (pt ⟨35 + 1, h36⟩).val - 1 = (pt ⟨35, h35⟩).val from rfl) (Nat.lt_of_le_of_lt (Nat.sub_le _ _) (pt ⟨35 + 1, h36⟩).isLt) (pt ⟨35, h35⟩).isLt
  rw [e] at h
  exact h

/-- An entry of what the last point leaves. -/
theorem at_end_entry (h36 : 35 + 1 < 37) (r : Fin 768) (d : Fin 3584) :
    ((outsAt2 V c (pt ⟨35 + 1, h36⟩).val (pt ⟨35 + 1, h36⟩).isLt).1 (ix2 r d) : EReal)
      = FloatOps.addf (F := Ideal) (φ := .f32) ((V c main_arg0 : FVec Ideal S768x3584 .f32) (ix2 r d))
          (scaledAt (∑ j : Fin 18944, term V c r d j) (hsc V c r) ((V c main_v4 : FVec Ideal S1x3584 .f32) (ix2 (0 : Fin 1) d))) :=
  (congrFun (at_end V c h36 (by omega)) (ix2 r d)).trans
    (yBlk_entry _ _ _ _ _ _ r d _ _ _ _ (acc_last V c hrep r d) (iblk1_eq V c hrep ⟨35 + 1, h36⟩ r _) (iblk3_apply V c ⟨35 + 1, h36⟩ d)
      (iblk4_apply V c ⟨35 + 1, h36⟩ r d))

/-- The output the third call leaves. -/
theorem final_y (r : Fin 768) (d : Fin 3584) :
    (((dat V c).arrAt 5 cfg2.N : FVec Ideal S768x3584 .bf16) (ix2 r d) : EReal)
      = FloatOps.addf (F := Ideal) (φ := .f32) ((V c main_arg0 : FVec Ideal S768x3584 .f32) (ix2 r d))
          (scaledAt (∑ j : Fin 18944, term V c r d j) (hsc V c r) ((V c main_v4 : FVec Ideal S1x3584 .f32) (ix2 (0 : Fin 1) d))) := by
  have h36 : 35 + 1 < 37 := by omega
  rw [← at_end_entry V c hrep h36 r d]
  obtain ⟨-, -, -, -, -, -, -, -, -, -, e0, e1, -, -, -, hf⟩ := idx_facts (pt ⟨35 + 1, h36⟩)
  have hi : (ix2 r d : S768x3584.Idx) = ((cfg2.win 5).blk (pt ⟨35 + 1, h36⟩)).view.emb (ix2 r d) := by
    funext a; apply Fin.ext
    match a with
    | ⟨0, _⟩ => show r.val = win2_5.index (pt ⟨35 + 1, h36⟩) (0 : Fin 2) * 768 + 1 * r.val; rw [e0]; omega
    | ⟨1, _⟩ => show d.val = win2_5.index (pt ⟨35 + 1, h36⟩) (1 : Fin 2) * 3584 + 1 * d.val; rw [e1]; omega
  refine (congrArg (fun i : S768x3584.Idx => (((dat V c).arrAt 5 cfg2.N : FVec Ideal S768x3584 .bf16) i : EReal)) hi).trans ?_
  refine ((dat V c).arrAt_emb_eq_flushed 5 (last_only 5 fun t => (idx_facts t).2.2.2.2.2.2.2.2.2.2.2.2.2.2.2) (pt ⟨35 + 1, h36⟩) (hf.mpr rfl) (ix2 r d)).trans ?_
  show (dat V c).after 5 (pt ⟨35 + 1, h36⟩) (ix2 r d) = _
  rw [after2_5]

end Cert.KernelIdeal.K2

end
-- ==== Proof.Value.Kern.lean ====
module

public import proofs.«01_k».proof.Proof.Value.K1Val
public import proofs.«01_k».proof.Proof.Value.K2Val
public import proofs.«01_k».proof.Proof.Chain.Run

@[expose] public section

/-! # The kernel's five results, as the reference's stages

The three calls follow each other: what a call leaves is what the next one finds. Read at a row of a sequence, the arrays
between the calls are the stages of the reference. -/

set_option maxRecDepth 16384

noncomputable section

namespace Cert.KernelIdeal.Values

open Idealize.ShloMosaic Idealize.ShloMosaic.TcCoe Idealize.ShloMosaic.ValueIdx
open Cert.KernelIdeal.Gen Cert.Value Cert.KernelIdeal.Chain
open Cert.ReferenceIdeal.Read (val_main_v13 val_main_v20 val_main_v27 val_main_v38 val_main_v44 val_main_v51 val_main_v58 val_main_v71)

/-- Every row belongs to a sequence. -/
theorem row_split (r : Fin 768) : ∃ (b : Fin 24) (s : Fin 32), r = rowAt b s :=
  ⟨⟨r.val / 32, by omega⟩, ⟨r.val % 32, Nat.mod_lt _ (by omega)⟩, Fin.ext (by show r.val = 32 * (r.val / 32) + r.val % 32; omega)⟩

/-- Splitting the rows into sequences, read at an index. -/
theorem split_rows {α : Type} {n : ℕ} (v : (⟨2, ![768, n]⟩ : Shape).Idx → α) (h : (⟨2, ![768, n]⟩ : Shape).ShapeCasts ⟨3, ![24, 32, n]⟩)
    (b : Fin 24) (s : Fin 32) (d : Fin n) :
    shapeCast (⟨3, ![24, 32, n]⟩ : Shape) v h (ix3 b s d) = v (ix2 (rowAt b s) d) := by
  refine shapeCast_apply v h _ _ ?_
  rw [Shape.rowMajor_val_two, Shape.rowMajor_val_three]
  show (32 * b.val + s.val) * n + d.val = (b.val * 32 + s.val) * n + d.val
  rw [Nat.mul_comm 32]

variable (m : (ℓ : Loc nD τ sig) → Buf (Elt Ideal) ℓ) (c : Dev nD)

/-- The activations. -/
abbrev a0 : FVec Ideal S768x3584 .f32 := m ((c.tc : Thread nD τ).loc main_arg0)
/-- The norm's weights. -/
abbrev a1 : FVec Ideal S3584 .f32 := m ((c.tc : Thread nD τ).loc main_arg1)
/-- The gate's and the up-projection's weights. -/
abbrev a2 : IVec S3584x2x18944 8 := m ((c.tc : Thread nD τ).loc main_arg2)
/-- Their scales. -/
abbrev a3 : FVec Ideal S2x18944 .f32 := m ((c.tc : Thread nD τ).loc main_arg3)
/-- The down-projection's weights. -/
abbrev a4 : IVec S18944x3584 8 := m ((c.tc : Thread nD τ).loc main_arg4)
/-- Their scales. -/
abbrev a5 : FVec Ideal S3584 .f32 := m ((c.tc : Thread nD τ).loc main_arg5)

/-! ## The first call -/

/-- The activations, as the first call finds them. -/
theorem V1_arg0 : V1 m c main_arg0 = a0 m c := V1_of m c main_arg0 (by decide)

/-- The norm's weights, as the first call finds them. -/
theorem V1_v0 (k : Fin 3584) : (V1 m c main_v0 : FVec Ideal S1x3584 .f32) (ix2 (0 : Fin 1) k) = a1 m c (ix1 k) := by
  have h : (V1 m c main_v0 : FVec Ideal S1x3584 .f32) = shapeCast S1x3584 (a1 m c) shapeCasts_S3584_S1x3584 := by
    show StableHlo.after hostOps0 (V0 m c) main_v0 = _
    after_results_simp
    rfl
  rw [h]
  exact shapeCast_a_1a_apply _ _ _ _

/-- The normed row. -/
theorem nv_eq (b : Fin 24) (s : Fin 32) (d : Fin 3584) :
    K0.nv (V1 m) c (rowAt b s) d = val_main_v13 (F := Ideal) (a0 m c) (a1 m c) (ix3 b s d) := by
  rw [ref_norm]
  unfold K0.nv
  exact congrArg₂ (fun p q => normAt p q d) (funext fun k => congrFun (V1_arg0 m c) _) (funext fun k => V1_v0 m c k)

/-- The scale of the normed row. -/
theorem sc_eq (b : Fin 24) (s : Fin 32) : K0.sc (V1 m) c (rowAt b s) = val_main_v20 (F := Ideal) (a0 m c) (a1 m c) (ix2 b s) := by
  rw [ref_scale1]
  unfold K0.sc
  refine congrArg (fun q => scaleOf (amaxOf q)) (funext fun d => nv_eq m c b s d)

/-- The codes the first call leaves. -/
theorem V2_code (b : Fin 24) (s : Fin 32) (d : Fin 3584) :
    (V2 m (outs m) c main_v1_0 : IVec S768x3584 8) (ix2 (rowAt b s) d) = val_main_v27 (F := Ideal) (a0 m c) (a1 m c) (ix3 b s d) := by
  rw [V2_codes, ref_code1]
  refine (K0.final_codes (V1 m) c b s d).trans ?_
  rw [nv_eq, sc_eq]

/-- The scales the first call leaves for the second. -/
theorem V2_rep (b : Fin 24) (s : Fin 32) (l : Fin 128) :
    (V2 m (outs m) c main_v1_1 : FVec Ideal S768x128 .f32) (ix2 (rowAt b s) l) = val_main_v20 (F := Ideal) (a0 m c) (a1 m c) (ix2 b s) := by
  rw [V2_srep]
  refine (K0.final_srep (V1 m) c b s l).trans ?_
  rw [sc_eq]

/-- The rows of scales the first call leaves. -/
theorem V2_row (b : Fin 24) (s : Fin 32) :
    (V2 m (outs m) c main_v1_2 : FVec Ideal S24x32 .f32) (ix2 b s) = val_main_v20 (F := Ideal) (a0 m c) (a1 m c) (ix2 b s) := by
  rw [V2_srow]
  refine (K0.final_scales (V1 m) c b s).trans ?_
  rw [sc_eq]

/-! ## The second call -/

/-- The codes, as the second call finds them. -/
theorem V3_code (b : Fin 24) (s : Fin 32) (d : Fin 3584) :
    (V3 m (outsA m) c main_v1_0 : IVec S768x3584 8) (ix2 (rowAt b s) d) = val_main_v27 (F := Ideal) (a0 m c) (a1 m c) (ix3 b s d) :=
  (congrFun (V3_of m (outs m) c main_v1_0 (by decide)) (ix2 (rowAt b s) d)).trans (V2_code m c b s d)

/-- The scales, as the second call finds them. -/
theorem V3_rep (b : Fin 24) (s : Fin 32) (l : Fin 128) :
    (V3 m (outsA m) c main_v1_1 : FVec Ideal S768x128 .f32) (ix2 (rowAt b s) l) = val_main_v20 (F := Ideal) (a0 m c) (a1 m c) (ix2 b s) :=
  (congrFun (V3_of m (outs m) c main_v1_1 (by decide)) (ix2 (rowAt b s) l)).trans (V2_rep m c b s l)

/-- The second call finds each row's scale in every lane. -/
theorem rep1 : K1.Rep (V3 m (outsA m)) c := fun r l => by
  obtain ⟨b, s, rfl⟩ := row_split r
  rw [V3_rep, V3_rep]

/-- The gate's and up-projection's weights stay through the first call. -/
theorem V2_arg2 : V2 m (outs m) c main_arg2 = a2 m c :=
  (V2_of m (outs m) c main_arg2 (by decide)).trans (V1_of m c main_arg2 (by decide))

/-- The gate's and up-projection's weights, as the second call finds them. -/
theorem V3_v2 (u : Fin 2) (k : Fin 3584) (j : Fin 18944) :
    (V3 m (outsA m) c main_v2 : IVec S2x3584x18944 8) (ix3 u k j) = a2 m c (ix3 k u j) := by
  have h : (V3 m (outs m) c main_v2 : IVec S2x3584x18944 8)
      = transpose S2x3584x18944 [1, 0, 2] (a2 m c) transposes_S3584x2x18944_S2x3584x18944_1_0_2 := by
    show StableHlo.after hostOps1 (V2 m (outs m) c) main_v2 = _
    rw [← V2_arg2 m c]
    generalize V2 m (outs m) c = W
    after_results_simp
  refine (congrFun h (ix3 u k j)).trans ?_
  exact transpose_apply (α := BitVec 8) [1, 0, 2] (a2 m c) transposes_S3584x2x18944_S2x3584x18944_1_0_2 (ix3 u k j) (ix3 k u j)
    (fun i => by match i with | ⟨0, _⟩ => rfl | ⟨1, _⟩ => rfl | ⟨2, _⟩ => rfl)

/-- Their scales, as the second call finds them. -/
theorem V3_arg3 : V3 m (outsA m) c main_arg3 = a3 m c :=
  (V3_of m (outs m) c main_arg3 (by decide)).trans <| (V2_of m (outs m) c main_arg3 (by decide)).trans (V1_of m c main_arg3 (by decide))

/-- The two projections. -/
theorem gu_eq (b : Fin 24) (s : Fin 32) (u : Fin 2) (j : Fin 18944) :
    K1.gu (V3 m (outsA m)) c (rowAt b s) u j = val_main_v38 (F := Ideal) (a0 m c) (a1 m c) (a2 m c) (a3 m c) (ix4 b s u j) := by
  rw [ref_gu]
  unfold K1.gu
  rw [V3_rep, V3_arg3]
  refine congrArg (fun q : EReal => scaledAt q (val_main_v20 (F := Ideal) (a0 m c) (a1 m c) (ix2 b s)) (a3 m c (ix2 u j))) ?_
  exact congrArg₂ (fun p q => dotAt p q) (funext fun k => V3_code m c b s k) (funext fun k => V3_v2 m c u k j)

/-- The gated hidden layer. -/
theorem hv_eq (b : Fin 24) (s : Fin 32) (j : Fin 18944) :
    K1.hv (V3 m (outsA m)) c (rowAt b s) j = val_main_v44 (F := Ideal) (a0 m c) (a1 m c) (a2 m c) (a3 m c) (ix3 b s j) := by
  rw [ref_h]
  unfold K1.hv
  rw [gu_eq, gu_eq]

/-- The scale of the hidden layer. -/
theorem hs_eq (b : Fin 24) (s : Fin 32) :
    scaleOf (amaxOf (K1.hv (V3 m (outsA m)) c (rowAt b s))) = val_main_v51 (F := Ideal) (a0 m c) (a1 m c) (a2 m c) (a3 m c) (ix2 b s) := by
  rw [ref_scale2]
  exact congrArg (fun q => scaleOf (amaxOf q)) (funext fun j => hv_eq m c b s j)

/-- The hidden layer the second call leaves. -/
theorem V4_hid (b : Fin 24) (s : Fin 32) (j : Fin 18944) :
    (V4 m (outs m) c main_v3_0 : FVec Ideal S768x18944 .f32) (ix2 (rowAt b s) j)
      = val_main_v44 (F := Ideal) (a0 m c) (a1 m c) (a2 m c) (a3 m c) (ix3 b s j) := by
  rw [V4_h]
  exact (K1.final_h (V3 m (outsA m)) c (rep1 m c) (rowAt b s) j).trans (hv_eq m c b s j)

/-- The scales the second call leaves for the third. -/
theorem V4_rep (b : Fin 24) (s : Fin 32) (l : Fin 128) :
    (V4 m (outs m) c main_v3_1 : FVec Ideal S768x128 .f32) (ix2 (rowAt b s) l)
      = val_main_v51 (F := Ideal) (a0 m c) (a1 m c) (a2 m c) (a3 m c) (ix2 b s) := by
  rw [V4_srep]
  exact (K1.final_hrep (V3 m (outsA m)) c (rep1 m c) (rowAt b s) l).trans (hs_eq m c b s)

/-- The rows of scales the second call leaves. -/
theorem V4_row (b : Fin 24) (s : Fin 32) :
    (V4 m (outs m) c main_v3_2 : FVec Ideal S24x32 .f32) (ix2 b s)
      = val_main_v51 (F := Ideal) (a0 m c) (a1 m c) (a2 m c) (a3 m c) (ix2 b s) := by
  rw [V4_srow]
  exact (K1.final_hs (V3 m (outsA m)) c (rep1 m c) b s).trans (hs_eq m c b s)

/-! ## The third call -/

/-- The hidden layer, as the third call finds it. -/
theorem hid_eq (b : Fin 24) (s : Fin 32) (j : Fin 18944) :
    K2.hid (V5 m (outsB m)) c (rowAt b s) j = val_main_v44 (F := Ideal) (a0 m c) (a1 m c) (a2 m c) (a3 m c) (ix3 b s j) :=
  (congrFun (V5_of m (outs m) c main_v3_0 (by decide)) (ix2 (rowAt b s) j)).trans (V4_hid m c b s j)

/-- The scales, as the third call finds them. -/
theorem V5_rep (b : Fin 24) (s : Fin 32) (l : Fin 128) :
    (V5 m (outsB m) c main_v3_1 : FVec Ideal S768x128 .f32) (ix2 (rowAt b s) l)
      = val_main_v51 (F := Ideal) (a0 m c) (a1 m c) (a2 m c) (a3 m c) (ix2 b s) :=
  (congrFun (V5_of m (outs m) c main_v3_1 (by decide)) (ix2 (rowAt b s) l)).trans (V4_rep m c b s l)

/-- The third call finds each row's scale in every lane. -/
theorem rep2 : K2.Rep (V5 m (outsB m)) c := fun r l => by
  obtain ⟨b, s, rfl⟩ := row_split r
  rw [V5_rep, V5_rep]

/-- The scale of a row, as the third call finds it. -/
theorem hsc_eq (b : Fin 24) (s : Fin 32) :
    K2.hsc (V5 m (outsB m)) c (rowAt b s) = val_main_v51 (F := Ideal) (a0 m c) (a1 m c) (a2 m c) (a3 m c) (ix2 b s) := V5_rep m c b s 0

/-- The down-projection's scales stay through the second call. -/
theorem V4_arg5 : V4 m (outs m) c main_arg5 = a5 m c :=
  (V4_of m (outs m) c main_arg5 (by decide)).trans <| (V3_of m (outs m) c main_arg5 (by decide)).trans <|
    (V2_of m (outs m) c main_arg5 (by decide)).trans (V1_of m c main_arg5 (by decide))

/-- The down-projection's weights, as the third call finds them. -/
theorem V5_arg4 : V5 m (outsB m) c main_arg4 = a4 m c :=
  (V5_of m (outs m) c main_arg4 (by decide)).trans <| (V4_of m (outs m) c main_arg4 (by decide)).trans <| (V3_of m (outs m) c main_arg4 (by decide)).trans <|
    (V2_of m (outs m) c main_arg4 (by decide)).trans (V1_of m c main_arg4 (by decide))

/-- The activations, as the third call finds them. -/
theorem V5_arg0 : V5 m (outsB m) c main_arg0 = a0 m c :=
  (V5_of m (outs m) c main_arg0 (by decide)).trans <| (V4_of m (outs m) c main_arg0 (by decide)).trans <| (V3_of m (outs m) c main_arg0 (by decide)).trans <|
    (V2_of m (outs m) c main_arg0 (by decide)).trans (V1_of m c main_arg0 (by decide))

/-- The down-projection's scales, as the third call finds them. -/
theorem V5_v4 (d : Fin 3584) : (V5 m (outsB m) c main_v4 : FVec Ideal S1x3584 .f32) (ix2 (0 : Fin 1) d) = a5 m c (ix1 d) := by
  have h : (V5 m (outs m) c main_v4 : FVec Ideal S1x3584 .f32) = shapeCast S1x3584 (a5 m c) shapeCasts_S3584_S1x3584 := by
    show StableHlo.after hostOps2 (V4 m (outs m) c) main_v4 = _
    rw [← V4_arg5 m c]
    generalize V4 m (outs m) c = W
    after_results_simp
    rfl
  refine (congrFun h _).trans ?_
  exact shapeCast_a_1a_apply _ _ _ _

/-- The codes the third call leaves. -/
theorem V6_code (b : Fin 24) (s : Fin 32) (j : Fin 18944) :
    (V6 m (outs m) c main_v5_1 : IVec S768x18944 8) (ix2 (rowAt b s) j)
      = val_main_v58 (F := Ideal) (a0 m c) (a1 m c) (a2 m c) (a3 m c) (ix3 b s j) := by
  rw [V6_codes, ref_code2]
  refine (K2.final_codes (V5 m (outsB m)) c (rep2 m c) (rowAt b s) j).trans ?_
  rw [hid_eq, hsc_eq]

/-- The output the third call leaves. -/
theorem V6_out (b : Fin 24) (s : Fin 32) (d : Fin 3584) :
    ((V6 m (outs m) c main_v5_0 : FVec Ideal S768x3584 .bf16) (ix2 (rowAt b s) d) : EReal)
      = val_main_v71 (F := Ideal) (a0 m c) (a1 m c) (a2 m c) (a3 m c) (a4 m c) (a5 m c) (ix3 b s d) := by
  rw [V6_y, ref_y]
  refine (K2.final_y (V5 m (outsB m)) c (rep2 m c) (rowAt b s) d).trans ?_
  rw [V5_arg0, V5_v4, hsc_eq]
  refine congrArg (fun q : EReal => FloatOps.addf (F := Ideal) (φ := .f32) (a0 m c (ix2 (rowAt b s) d))
    (scaledAt q (val_main_v51 (F := Ideal) (a0 m c) (a1 m c) (a2 m c) (a3 m c) (ix2 b s)) (a5 m c (ix1 d)))) ?_
  refine Finset.sum_congr rfl fun j _ => ?_
  unfold K2.term
  rw [hid_eq, hsc_eq, V5_arg4]

end Cert.KernelIdeal.Values

end
-- ==== Proof.Value.Final.lean ====
module

public import proofs.«01_k».proof.Proof.Value.Kern

@[expose] public section

/-! # The kernel's results at the end of the run -/

set_option maxRecDepth 16384

noncomputable section

namespace Cert.KernelIdeal.Values

open Idealize.ShloMosaic Idealize.ShloMosaic.TcCoe Idealize.ShloMosaic.ValueIdx
open Cert.KernelIdeal.Gen Cert.Value Cert.KernelIdeal.Chain
open Cert.ReferenceIdeal.Read (val_main_v13 val_main_v20 val_main_v27 val_main_v38 val_main_v44 val_main_v51 val_main_v58 val_main_v71)

variable (m : (ℓ : Loc nD τ sig) → Buf (Elt Ideal) ℓ) (c : Dev nD)

/-- The output is the third call's, its rows split into sequences. -/
theorem V7_v6 : (V7 m (outs m) c main_v6 : FVec Ideal S24x32x3584 .bf16)
    = shapeCast S24x32x3584 (V6 m (outs m) c main_v5_0 : FVec Ideal S768x3584 .bf16) shapeCasts_S768x3584_S24x32x3584 := by
  show StableHlo.after hostOps3 (V6 m (outs m) c) main_v6 = _
  generalize V6 m (outs m) c = W
  after_results_simp
  try rfl

/-- The first codes are the first call's, their rows split into sequences. -/
theorem V7_v7 : (V7 m (outs m) c main_v7 : IVec S24x32x3584 8)
    = shapeCast S24x32x3584 (V6 m (outs m) c main_v1_0 : IVec S768x3584 8) shapeCasts_S768x3584_S24x32x3584 := by
  show StableHlo.after hostOps3 (V6 m (outs m) c) main_v7 = _
  generalize V6 m (outs m) c = W
  after_results_simp
  try rfl

/-- The second codes are the third call's, their rows split into sequences. -/
theorem V7_v8 : (V7 m (outs m) c main_v8 : IVec S24x32x18944 8)
    = shapeCast S24x32x18944 (V6 m (outs m) c main_v5_1 : IVec S768x18944 8) shapeCasts_S768x18944_S24x32x18944 := by
  show StableHlo.after hostOps3 (V6 m (outs m) c) main_v8 = _
  generalize V6 m (outs m) c = W
  after_results_simp
  try rfl

/-- The first call's codes stay to the end. -/
theorem V6_v1_0 : V6 m (outs m) c main_v1_0 = V2 m (outs m) c main_v1_0 :=
  (V6_of m (outs m) c main_v1_0 (by decide)).trans <| (V5_of m (outs m) c main_v1_0 (by decide)).trans <|
    (V4_of m (outs m) c main_v1_0 (by decide)).trans (V3_of m (outs m) c main_v1_0 (by decide))

/-- The first call's rows of scales stay to the end. -/
theorem V7_v1_2 : V7 m (outs m) c main_v1_2 = V2 m (outs m) c main_v1_2 :=
  (V7_of m (outs m) c main_v1_2 (by decide)).trans <| (V6_of m (outs m) c main_v1_2 (by decide)).trans <|
    (V5_of m (outs m) c main_v1_2 (by decide)).trans <| (V4_of m (outs m) c main_v1_2 (by decide)).trans (V3_of m (outs m) c main_v1_2 (by decide))

/-- The second call's rows of scales stay to the end. -/
theorem V7_v3_2 : V7 m (outs m) c main_v3_2 = V4 m (outs m) c main_v3_2 :=
  (V7_of m (outs m) c main_v3_2 (by decide)).trans <| (V6_of m (outs m) c main_v3_2 (by decide)).trans (V5_of m (outs m) c main_v3_2 (by decide))

/-- The output. -/
theorem res_y : (V7 m (outs m) c main_v6 : S24x32x3584.Idx → EReal)
    = val_main_v71 (F := Ideal) (a0 m c) (a1 m c) (a2 m c) (a3 m c) (a4 m c) (a5 m c) := by
  funext i
  obtain ⟨b, s, d, rfl⟩ : ∃ (b : Fin 24) (s : Fin 32) (d : Fin 3584), i = ix3 b s d := ⟨i 0, i 1, i 2, eq_ix3 (n0 := 24) (n1 := 32) (n2 := 3584) i⟩
  refine (congrFun (V7_v6 m c) (ix3 b s d)).trans ?_
  refine (split_rows (α := Ideal .bf16) (n := 3584) _ _ b s d).trans ?_
  exact V6_out m c b s d

/-- The codes of the normed rows. -/
theorem res_code1 : (V7 m (outs m) c main_v7 : IVec S24x32x3584 8) = val_main_v27 (F := Ideal) (a0 m c) (a1 m c) := by
  funext i
  obtain ⟨b, s, d, rfl⟩ : ∃ (b : Fin 24) (s : Fin 32) (d : Fin 3584), i = ix3 b s d := ⟨i 0, i 1, i 2, eq_ix3 (n0 := 24) (n1 := 32) (n2 := 3584) i⟩
  refine (congrFun (V7_v7 m c) (ix3 b s d)).trans ?_
  refine (split_rows (α := BitVec 8) (n := 3584) _ _ b s d).trans ?_
  exact (congrFun (V6_v1_0 m c) (ix2 (rowAt b s) d)).trans (V2_code m c b s d)

/-- The scales of the normed rows. -/
theorem res_scale1 : (V7 m (outs m) c main_v1_2 : FVec Ideal S24x32 .f32) = val_main_v20 (F := Ideal) (a0 m c) (a1 m c) := by
  funext i
  obtain ⟨b, s, rfl⟩ : ∃ (b : Fin 24) (s : Fin 32), i = ix2 b s := ⟨i 0, i 1, eq_ix2 (n0 := 24) (n1 := 32) i⟩
  exact (congrFun (V7_v1_2 m c) (ix2 b s)).trans (V2_row m c b s)

/-- The codes of the hidden layer. -/
theorem res_code2 : (V7 m (outs m) c main_v8 : IVec S24x32x18944 8) = val_main_v58 (F := Ideal) (a0 m c) (a1 m c) (a2 m c) (a3 m c) := by
  funext i
  obtain ⟨b, s, j, rfl⟩ : ∃ (b : Fin 24) (s : Fin 32) (j : Fin 18944), i = ix3 b s j := ⟨i 0, i 1, i 2, eq_ix3 (n0 := 24) (n1 := 32) (n2 := 18944) i⟩
  refine (congrFun (V7_v8 m c) (ix3 b s j)).trans ?_
  refine (split_rows (α := BitVec 8) (n := 18944) _ _ b s j).trans ?_
  exact V6_code m c b s j

/-- The scales of the hidden layer. -/
theorem res_scale2 : (V7 m (outs m) c main_v3_2 : FVec Ideal S24x32 .f32) = val_main_v51 (F := Ideal) (a0 m c) (a1 m c) (a2 m c) (a3 m c) := by
  funext i
  obtain ⟨b, s, rfl⟩ : ∃ (b : Fin 24) (s : Fin 32), i = ix2 b s := ⟨i 0, i 1, eq_ix2 (n0 := 24) (n1 := 32) i⟩
  exact (congrFun (V7_v3_2 m c) (ix2 b s)).trans (V4_row m c b s)

end Cert.KernelIdeal.Values

end
-- ==== Proof.Value.Algebraic.lean ====
module

public import proofs.«01_k».proof.Defs
public import proofs.«01_k».proof.Proof.Value.Final
public import proofs.«01_k».proof.Proof.Gen.ReferenceIdeal.Run

@[expose] public section

/-! # The kernel and the reference leave the same five results -/

set_option maxRecDepth 16384

noncomputable section

namespace Cert.Value

open Idealize.ShloMosaic Idealize.ShloMosaic.TcCoe
open Idealize.SL.Sem
open Cert.KernelIdeal.Gen (V7 V7_main_arg0 V7_main_arg1 V7_main_arg2 V7_main_arg3 V7_main_arg4 V7_main_arg5)
open Cert.KernelIdeal.Chain (outs)
open Cert.ReferenceIdeal.Read (val_main_v71_eq val_main_v27_eq val_main_v20_eq val_main_v58_eq val_main_v51_eq val_main_v71 val_main_v27 val_main_v20 val_main_v58 val_main_v51)

/-- Over the reals, the kernel's five results are the reference's. -/
theorem algebraic : Cert.algebraic_KernelIdeal_ReferenceIdeal := fun m g m' g' _ hm =>
  ⟨fun c => V7 m (outs m) c Cert.KernelIdeal.main_v6, fun c => V7 m (outs m) c Cert.KernelIdeal.main_v7,
    fun c => V7 m (outs m) c Cert.KernelIdeal.main_v1_2, fun c => V7 m (outs m) c Cert.KernelIdeal.main_v8,
    fun c => V7 m (outs m) c Cert.KernelIdeal.main_v3_2,
    (θ_run _ _ _).mono (fun r h c =>
      ⟨h.1 c Cert.KernelIdeal.main_v6 (by decide), h.1 c Cert.KernelIdeal.main_v7 (by decide), h.1 c Cert.KernelIdeal.main_v1_2 (by decide),
        h.1 c Cert.KernelIdeal.main_v8 (by decide), h.1 c Cert.KernelIdeal.main_v3_2 (by decide),
        (h.1 c Cert.KernelIdeal.main_arg0 (by decide)).trans (V7_main_arg0 m (outs m) c),
        (h.1 c Cert.KernelIdeal.main_arg1 (by decide)).trans (V7_main_arg1 m (outs m) c),
        (h.1 c Cert.KernelIdeal.main_arg2 (by decide)).trans (V7_main_arg2 m (outs m) c),
        (h.1 c Cert.KernelIdeal.main_arg3 (by decide)).trans (V7_main_arg3 m (outs m) c),
        (h.1 c Cert.KernelIdeal.main_arg4 (by decide)).trans (V7_main_arg4 m (outs m) c),
        (h.1 c Cert.KernelIdeal.main_arg5 (by decide)).trans (V7_main_arg5 m (outs m) c)⟩)
      (Cert.KernelIdeal.Chain.run m g),
    (θ_run _ _ _).mono (fun r h c => by
      obtain ⟨h0, h1, h2, h3, h4, hargs⟩ := h c
      obtain ⟨e0, e1, e2, e3, e4, e5⟩ := hm c
      refine ⟨h0.trans ?_, h1.trans ?_, h2.trans ?_, h3.trans ?_, h4.trans ?_, hargs⟩
      · refine (val_main_v71_eq (F := Ideal) m' c).trans ?_
        rw [e0, e1, e2, e3, e4, e5]
        exact (Cert.KernelIdeal.Values.res_y m c).symm
      · refine (val_main_v27_eq (F := Ideal) _ _).trans ?_
        rw [e0, e1]
        exact (Cert.KernelIdeal.Values.res_code1 m c).symm
      · refine (val_main_v20_eq (F := Ideal) _ _).trans ?_
        rw [e0, e1]
        exact (Cert.KernelIdeal.Values.res_scale1 m c).symm
      · refine (val_main_v58_eq (F := Ideal) m' c).trans ?_
        rw [e0, e1, e2, e3]
        exact (Cert.KernelIdeal.Values.res_code2 m c).symm
      · refine (val_main_v51_eq (F := Ideal) m' c).trans ?_
        rw [e0, e1, e2, e3]
        exact (Cert.KernelIdeal.Values.res_scale2 m c).symm)
      (Cert.ReferenceIdeal.Value.run (F := Ideal) m' g')⟩

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Chain.Ref
public import proofs.«01_k».proof.Proof.Chain.Twin
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

/-- The frames, the preservation and the equality of the five results. -/
theorem claim : Cert.Claim := ⟨Cert.Kernel.Gen.facts, Cert.KernelIdeal.Gen.facts, Cert.ReferenceIdeal.Gen.facts,
  Cert.KernelIdeal.Chain.frame_printed, Cert.KernelIdeal.Chain.frame_ideal, Cert.ReferenceIdeal.Chain.frame_ref, trivial, Cert.Value.algebraic⟩

end Cert.Proof

end
